-- ==== Defs.lean ====
def Pre_Kernel (m : (ℓ : Loc Cert.Kernel.nD Cert.Kernel.τ Cert.Kernel.sig) → Buf (Elt Bits) ℓ) : Prop :=
  True

def Pre_Kernel_top_distinct [hPre_top_distinct : Cert.Pre_top_distinct.Facts] (m : (ℓ : Loc Cert.Kernel.nD Cert.Kernel.τ Cert.Kernel.sig) → Buf (Elt Bits) ℓ) : Prop :=
  ∀ c : Dev Cert.Kernel.nD,
    (Cert.Pre_top_distinct.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_top_distinct : Cert.Pre_top_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_top_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_distinct [hPre_top_distinct : Cert.Pre_top_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_top_distinct [hKernel : Cert.Kernel.Facts] [hPre_top_distinct : Cert.Pre_top_distinct.Facts] : Prop :=
  ∀ (m : (ℓ : Loc Cert.Kernel.nD Cert.Kernel.τ Cert.Kernel.sig) → Buf (Elt Bits) ℓ) (g : Dev Cert.Kernel.nD → PrngReg), Pre_Kernel_top_distinct m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_top_distinct : Cert.Pre_top_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_top_distinct [hReferenceIdeal : Cert.ReferenceIdeal.Facts] [hPre_top_distinct : Cert.Pre_top_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_top_distinct : Cert.Pre_top_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_top_distinct : Cert.Pre_top_distinct.Facts),
    quiescent_Kernel (hKernel := hKernel)
    ∧ quiescent_Kernel_pre_top_distinct (hKernel := hKernel) (hPre_top_distinct := hPre_top_distinct)
    ∧ quiescent_KernelIdeal (hKernelIdeal := hKernelIdeal) (hPre_top_distinct := hPre_top_distinct)
    ∧ quiescent_ReferenceIdeal (hReferenceIdeal := hReferenceIdeal)
    ∧ quiescent_ReferenceIdeal_pre_top_distinct (hReferenceIdeal := hReferenceIdeal) (hPre_top_distinct := hPre_top_distinct)
    ∧ preserves_Kernel_KernelIdeal
    ∧ algebraic_KernelIdeal_ReferenceIdeal (hKernelIdeal := hKernelIdeal) (hReferenceIdeal := hReferenceIdeal) (hPre_top_distinct := hPre_top_distinct)
-- ==== Pre_top_distinct.lean ====
abbrev S1x32768 : Shape := ⟨2, ![1, 32768]⟩
abbrev S32x2048 : Shape := ⟨2, ![32, 2048]⟩
abbrev S_ : Shape := ⟨0, ![]⟩
abbrev S1 : Shape := ⟨1, ![1]⟩
abbrev S2 : Shape := ⟨1, ![2]⟩
abbrev S1x1 : Shape := ⟨2, ![1, 1]⟩
abbrev S32x32768 : Shape := ⟨2, ![32, 32768]⟩
abbrev S32x17 : Shape := ⟨2, ![32, 17]⟩
abbrev S32x16 : Shape := ⟨2, ![32, 16]⟩

class Facts : Prop where
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  bcast_S_S32x32768 : S_.BroadcastsInDim S32x32768 (![] : Fin 0 → Fin S32x32768.rank)
  natLt_32_64 : 32 < 64
  bcast_S1x1_S32x32768_0_1 : S1x1.BroadcastsInDim S32x32768 (![0, 1] : Fin 2 → Fin S32x32768.rank)
  bcast_S1x32768_S32x32768_0_1 : S1x32768.BroadcastsInDim S32x32768 (![0, 1] : Fin 2 → Fin S32x32768.rank)
  sliceFits_S32x32768_S32x17 : S32x32768.Slices (fun _ => 0) S32x17
  slices_S32x17_S32x16_0_1 : S32x17.Slices ![0, 1] S32x16
  slices_S32x17_S32x16_0_0 : S32x17.Slices ![0, 0] S32x16
  reducesTo_S32x16_S_d0_1 : S32x16.ReducesTo [0, 1] S_
  h_S_ : 0 < S_.numel
  bcast_S_S1x32768 : S_.BroadcastsInDim S1x32768 (![] : Fin 0 → Fin S1x32768.rank)
  reducesTo_S1x32768_S_d0_1 : S1x32768.ReducesTo [0, 1] S_

variable [Facts]

def fn_threefry2x32_part9 {F : FTy → Type} [FloatOps F] (arg0 : IVec S_ 32) (v163 : IVec S32x32768 32) (v169 : IVec S32x32768 32) (v170 : IVec S32x32768 32) : IVec S32x32768 32 × IVec S32x32768 32 :=
  let v171 : IVec S32x32768 32 := addi v163 v170
  let v172 : IVec S32x32768 32 := broadcastInDim S32x32768 ![] bcast_S_S32x32768 arg0
  let v173 : IVec S32x32768 32 := addi v169 v172
  let c_44 : IVec S_ 32 := constantI S_ 32 5#32
  let v174 : IVec S32x32768 32 := broadcastInDim S32x32768 ![] bcast_S_S32x32768 c_44
  let v175 : IVec S32x32768 32 := addi v173 v174
  (v171, v175)

def fn_threefry2x32_part8 {F : FTy → Type} [FloatOps F] (arg0 : IVec S_ 32) (v1 : IVec S_ 32) (v148 : IVec S32x32768 32) (v149 : IVec S32x32768 32) (v151 : IVec S32x32768 32) : IVec S32x32768 32 × IVec S32x32768 32 :=
  let c_39 : IVec S_ 32 := constantI S_ 32 17#32
  let v152 : IVec S32x32768 32 := broadcastInDim S32x32768 ![] bcast_S_S32x32768 c_39
  let v153 : IVec S32x32768 32 := Host.shrui v148 v152
  let v154 : IVec S32x32768 32 := ori v151 v153
  let v155 : IVec S32x32768 32 := xori v149 v154
  let v156 : IVec S32x32768 32 := addi v149 v155
  let c_40 : IVec S_ 32 := constantI S_ 32 26#32
  let v157 : IVec S32x32768 32 := broadcastInDim S32x32768 ![] bcast_S_S32x32768 c_40
  let v158 : IVec S32x32768 32 := Host.shli v155 v157
  let c_41 : IVec S_ 32 := constantI S_ 32 6#32
  let v159 : IVec S32x32768 32 := broadcastInDim S32x32768 ![] bcast_S_S32x32768 c_41
  let v160 : IVec S32x32768 32 := Host.shrui v155 v159
  let v161 : IVec S32x32768 32 := ori v158 v160
  let v162 : IVec S32x32768 32 := xori v156 v161
  let v163 : IVec S32x32768 32 := addi v156 v162
  let c_42 : IVec S_ 32 := constantI S_ 32 6#32
  let v164 : IVec S32x32768 32 := broadcastInDim S32x32768 ![] bcast_S_S32x32768 c_42
  let v165 : IVec S32x32768 32 := Host.shli v162 v164
  let c_43 : IVec S_ 32 := constantI S_ 32 26#32
  let v166 : IVec S32x32768 32 := broadcastInDim S32x32768 ![] bcast_S_S32x32768 c_43
  let v167 : IVec S32x32768 32 := Host.shrui v162 v166
  let v168 : IVec S32x32768 32 := ori v165 v167
  let v169 : IVec S32x32768 32 := xori v163 v168
  let v170 : IVec S32x32768 32 := broadcastInDim S32x32768 ![] bcast_S_S32x32768 v1
  fn_threefry2x32_part9 (F := F) arg0 v163 v169 v170

def fn_threefry2x32_part7 {F : FTy → Type} [FloatOps F] (arg0 : IVec S_ 32) (arg1 : IVec S_ 32) (v1 : IVec S_ 32) (v128 : IVec S32x32768 32) (v129 : IVec S32x32768 32) (v131 : IVec S32x32768 32) (c_34 : IVec S_ 32) : IVec S32x32768 32 × IVec S32x32768 32 :=
  let v132 : IVec S32x32768 32 := broadcastInDim S32x32768 ![] bcast_S_S32x32768 c_34
  let v133 : IVec S32x32768 32 := Host.shrui v128 v132
  let v134 : IVec S32x32768 32 := ori v131 v133
  let v135 : IVec S32x32768 32 := xori v129 v134
  let v136 : IVec S32x32768 32 := broadcastInDim S32x32768 ![] bcast_S_S32x32768 arg1
  let v137 : IVec S32x32768 32 := addi v129 v136
  let v138 : IVec S32x32768 32 := broadcastInDim S32x32768 ![] bcast_S_S32x32768 v1
  let v139 : IVec S32x32768 32 := addi v135 v138
  let c_35 : IVec S_ 32 := constantI S_ 32 4#32
  let v140 : IVec S32x32768 32 := broadcastInDim S32x32768 ![] bcast_S_S32x32768 c_35
  let v141 : IVec S32x32768 32 := addi v139 v140
  let v142 : IVec S32x32768 32 := addi v137 v141
  let c_36 : IVec S_ 32 := constantI S_ 32 13#32
  let v143 : IVec S32x32768 32 := broadcastInDim S32x32768 ![] bcast_S_S32x32768 c_36
  let v144 : IVec S32x32768 32 := Host.shli v141 v143
  let c_37 : IVec S_ 32 := constantI S_ 32 19#32
  let v145 : IVec S32x32768 32 := broadcastInDim S32x32768 ![] bcast_S_S32x32768 c_37
  let v146 : IVec S32x32768 32 := Host.shrui v141 v145
  let v147 : IVec S32x32768 32 := ori v144 v146
  let v148 : IVec S32x32768 32 := xori v142 v147
  let v149 : IVec S32x32768 32 := addi v142 v148
  let c_38 : IVec S_ 32 := constantI S_ 32 15#32
  let v150 : IVec S32x32768 32 := broadcastInDim S32x32768 ![] bcast_S_S32x32768 c_38
  let v151 : IVec S32x32768 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S32x32768 32) (v113 : IVec S32x32768 32) : IVec S32x32768 32 × IVec S32x32768 32 :=
  let v114 : IVec S32x32768 32 := xori v108 v113
  let v115 : IVec S32x32768 32 := addi v108 v114
  let c_29 : IVec S_ 32 := constantI S_ 32 29#32
  let v116 : IVec S32x32768 32 := broadcastInDim S32x32768 ![] bcast_S_S32x32768 c_29
  let v117 : IVec S32x32768 32 := Host.shli v114 v116
  let c_30 : IVec S_ 32 := constantI S_ 32 3#32
  let v118 : IVec S32x32768 32 := broadcastInDim S32x32768 ![] bcast_S_S32x32768 c_30
  let v119 : IVec S32x32768 32 := Host.shrui v114 v118
  let v120 : IVec S32x32768 32 := ori v117 v119
  let v121 : IVec S32x32768 32 := xori v115 v120
  let v122 : IVec S32x32768 32 := addi v115 v121
  let c_31 : IVec S_ 32 := constantI S_ 32 16#32
  let v123 : IVec S32x32768 32 := broadcastInDim S32x32768 ![] bcast_S_S32x32768 c_31
  let v124 : IVec S32x32768 32 := Host.shli v121 v123
  let c_32 : IVec S_ 32 := constantI S_ 32 16#32
  let v125 : IVec S32x32768 32 := broadcastInDim S32x32768 ![] bcast_S_S32x32768 c_32
  let v126 : IVec S32x32768 32 := Host.shrui v121 v125
  let v127 : IVec S32x32768 32 := ori v124 v126
  let v128 : IVec S32x32768 32 := xori v122 v127
  let v129 : IVec S32x32768 32 := addi v122 v128
  let c_33 : IVec S_ 32 := constantI S_ 32 24#32
  let v130 : IVec S32x32768 32 := broadcastInDim S32x32768 ![] bcast_S_S32x32768 c_33
  let v131 : IVec S32x32768 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S32x32768 32) (v94 : IVec S32x32768 32) : IVec S32x32768 32 × IVec S32x32768 32 :=
  let v95 : IVec S32x32768 32 := addi v88 v94
  let c_24 : IVec S_ 32 := constantI S_ 32 6#32
  let v96 : IVec S32x32768 32 := broadcastInDim S32x32768 ![] bcast_S_S32x32768 c_24
  let v97 : IVec S32x32768 32 := Host.shli v94 v96
  let c_25 : IVec S_ 32 := constantI S_ 32 26#32
  let v98 : IVec S32x32768 32 := broadcastInDim S32x32768 ![] bcast_S_S32x32768 c_25
  let v99 : IVec S32x32768 32 := Host.shrui v94 v98
  let v100 : IVec S32x32768 32 := ori v97 v99
  let v101 : IVec S32x32768 32 := xori v95 v100
  let v102 : IVec S32x32768 32 := broadcastInDim S32x32768 ![] bcast_S_S32x32768 arg0
  let v103 : IVec S32x32768 32 := addi v95 v102
  let v104 : IVec S32x32768 32 := broadcastInDim S32x32768 ![] bcast_S_S32x32768 arg1
  let v105 : IVec S32x32768 32 := addi v101 v104
  let c_26 : IVec S_ 32 := constantI S_ 32 3#32
  let v106 : IVec S32x32768 32 := broadcastInDim S32x32768 ![] bcast_S_S32x32768 c_26
  let v107 : IVec S32x32768 32 := addi v105 v106
  let v108 : IVec S32x32768 32 := addi v103 v107
  let c_27 : IVec S_ 32 := constantI S_ 32 17#32
  let v109 : IVec S32x32768 32 := broadcastInDim S32x32768 ![] bcast_S_S32x32768 c_27
  let v110 : IVec S32x32768 32 := Host.shli v107 v109
  let c_28 : IVec S_ 32 := constantI S_ 32 15#32
  let v111 : IVec S32x32768 32 := broadcastInDim S32x32768 ![] bcast_S_S32x32768 c_28
  let v112 : IVec S32x32768 32 := Host.shrui v107 v111
  let v113 : IVec S32x32768 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S32x32768 32) (v74 : IVec S32x32768 32) (v75 : IVec S32x32768 32) : IVec S32x32768 32 × IVec S32x32768 32 :=
  let v76 : IVec S32x32768 32 := Host.shli v73 v75
  let c_19 : IVec S_ 32 := constantI S_ 32 19#32
  let v77 : IVec S32x32768 32 := broadcastInDim S32x32768 ![] bcast_S_S32x32768 c_19
  let v78 : IVec S32x32768 32 := Host.shrui v73 v77
  let v79 : IVec S32x32768 32 := ori v76 v78
  let v80 : IVec S32x32768 32 := xori v74 v79
  let v81 : IVec S32x32768 32 := addi v74 v80
  let c_20 : IVec S_ 32 := constantI S_ 32 15#32
  let v82 : IVec S32x32768 32 := broadcastInDim S32x32768 ![] bcast_S_S32x32768 c_20
  let v83 : IVec S32x32768 32 := Host.shli v80 v82
  let c_21 : IVec S_ 32 := constantI S_ 32 17#32
  let v84 : IVec S32x32768 32 := broadcastInDim S32x32768 ![] bcast_S_S32x32768 c_21
  let v85 : IVec S32x32768 32 := Host.shrui v80 v84
  let v86 : IVec S32x32768 32 := ori v83 v85
  let v87 : IVec S32x32768 32 := xori v81 v86
  let v88 : IVec S32x32768 32 := addi v81 v87
  let c_22 : IVec S_ 32 := constantI S_ 32 26#32
  let v89 : IVec S32x32768 32 := broadcastInDim S32x32768 ![] bcast_S_S32x32768 c_22
  let v90 : IVec S32x32768 32 := Host.shli v87 v89
  let c_23 : IVec S_ 32 := constantI S_ 32 6#32
  let v91 : IVec S32x32768 32 := broadcastInDim S32x32768 ![] bcast_S_S32x32768 c_23
  let v92 : IVec S32x32768 32 := Host.shrui v87 v91
  let v93 : IVec S32x32768 32 := ori v90 v92
  let v94 : IVec S32x32768 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S32x32768 32) (v54 : IVec S32x32768 32) (v56 : IVec S32x32768 32) : IVec S32x32768 32 × IVec S32x32768 32 :=
  let c_14 : IVec S_ 32 := constantI S_ 32 16#32
  let v57 : IVec S32x32768 32 := broadcastInDim S32x32768 ![] bcast_S_S32x32768 c_14
  let v58 : IVec S32x32768 32 := Host.shrui v53 v57
  let v59 : IVec S32x32768 32 := ori v56 v58
  let v60 : IVec S32x32768 32 := xori v54 v59
  let v61 : IVec S32x32768 32 := addi v54 v60
  let c_15 : IVec S_ 32 := constantI S_ 32 24#32
  let v62 : IVec S32x32768 32 := broadcastInDim S32x32768 ![] bcast_S_S32x32768 c_15
  let v63 : IVec S32x32768 32 := Host.shli v60 v62
  let c_16 : IVec S_ 32 := constantI S_ 32 8#32
  let v64 : IVec S32x32768 32 := broadcastInDim S32x32768 ![] bcast_S_S32x32768 c_16
  let v65 : IVec S32x32768 32 := Host.shrui v60 v64
  let v66 : IVec S32x32768 32 := ori v63 v65
  let v67 : IVec S32x32768 32 := xori v61 v66
  let v68 : IVec S32x32768 32 := broadcastInDim S32x32768 ![] bcast_S_S32x32768 v1
  let v69 : IVec S32x32768 32 := addi v61 v68
  let v70 : IVec S32x32768 32 := broadcastInDim S32x32768 ![] bcast_S_S32x32768 arg0
  let v71 : IVec S32x32768 32 := addi v67 v70
  let c_17 : IVec S_ 32 := constantI S_ 32 2#32
  let v72 : IVec S32x32768 32 := broadcastInDim S32x32768 ![] bcast_S_S32x32768 c_17
  let v73 : IVec S32x32768 32 := addi v71 v72
  let v74 : IVec S32x32768 32 := addi v69 v73
  let c_18 : IVec S_ 32 := constantI S_ 32 13#32
  let v75 : IVec S32x32768 32 := broadcastInDim S32x32768 ![] bcast_S_S32x32768 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S32x32768 32) (v37 : IVec S32x32768 32) (c_8 : IVec S_ 32) : IVec S32x32768 32 × IVec S32x32768 32 :=
  let v38 : IVec S32x32768 32 := broadcastInDim S32x32768 ![] bcast_S_S32x32768 c_8
  let v39 : IVec S32x32768 32 := addi v37 v38
  let v40 : IVec S32x32768 32 := addi v35 v39
  let c_9 : IVec S_ 32 := constantI S_ 32 17#32
  let v41 : IVec S32x32768 32 := broadcastInDim S32x32768 ![] bcast_S_S32x32768 c_9
  let v42 : IVec S32x32768 32 := Host.shli v39 v41
  let c_10 : IVec S_ 32 := constantI S_ 32 15#32
  let v43 : IVec S32x32768 32 := broadcastInDim S32x32768 ![] bcast_S_S32x32768 c_10
  let v44 : IVec S32x32768 32 := Host.shrui v39 v43
  let v45 : IVec S32x32768 32 := ori v42 v44
  let v46 : IVec S32x32768 32 := xori v40 v45
  let v47 : IVec S32x32768 32 := addi v40 v46
  let c_11 : IVec S_ 32 := constantI S_ 32 29#32
  let v48 : IVec S32x32768 32 := broadcastInDim S32x32768 ![] bcast_S_S32x32768 c_11
  let v49 : IVec S32x32768 32 := Host.shli v46 v48
  let c_12 : IVec S_ 32 := constantI S_ 32 3#32
  let v50 : IVec S32x32768 32 := broadcastInDim S32x32768 ![] bcast_S_S32x32768 c_12
  let v51 : IVec S32x32768 32 := Host.shrui v46 v50
  let v52 : IVec S32x32768 32 := ori v49 v51
  let v53 : IVec S32x32768 32 := xori v47 v52
  let v54 : IVec S32x32768 32 := addi v47 v53
  let c_13 : IVec S_ 32 := constantI S_ 32 16#32
  let v55 : IVec S32x32768 32 := broadcastInDim S32x32768 ![] bcast_S_S32x32768 c_13
  let v56 : IVec S32x32768 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S32x32768 32) (v18 : IVec S32x32768 32) : IVec S32x32768 32 × IVec S32x32768 32 :=
  let v19 : IVec S32x32768 32 := xori v13 v18
  let v20 : IVec S32x32768 32 := addi v13 v19
  let c_4 : IVec S_ 32 := constantI S_ 32 26#32
  let v21 : IVec S32x32768 32 := broadcastInDim S32x32768 ![] bcast_S_S32x32768 c_4
  let v22 : IVec S32x32768 32 := Host.shli v19 v21
  let c_5 : IVec S_ 32 := constantI S_ 32 6#32
  let v23 : IVec S32x32768 32 := broadcastInDim S32x32768 ![] bcast_S_S32x32768 c_5
  let v24 : IVec S32x32768 32 := Host.shrui v19 v23
  let v25 : IVec S32x32768 32 := ori v22 v24
  let v26 : IVec S32x32768 32 := xori v20 v25
  let v27 : IVec S32x32768 32 := addi v20 v26
  let c_6 : IVec S_ 32 := constantI S_ 32 6#32
  let v28 : IVec S32x32768 32 := broadcastInDim S32x32768 ![] bcast_S_S32x32768 c_6
  let v29 : IVec S32x32768 32 := Host.shli v26 v28
  let c_7 : IVec S_ 32 := constantI S_ 32 26#32
  let v30 : IVec S32x32768 32 := broadcastInDim S32x32768 ![] bcast_S_S32x32768 c_7
  let v31 : IVec S32x32768 32 := Host.shrui v26 v30
  let v32 : IVec S32x32768 32 := ori v29 v31
  let v33 : IVec S32x32768 32 := xori v27 v32
  let v34 : IVec S32x32768 32 := broadcastInDim S32x32768 ![] bcast_S_S32x32768 arg1
  let v35 : IVec S32x32768 32 := addi v27 v34
  let v36 : IVec S32x32768 32 := broadcastInDim S32x32768 ![] bcast_S_S32x32768 v1
  let v37 : IVec S32x32768 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S32x32768 32) (arg3 : IVec S32x32768 32) : IVec S32x32768 32 × IVec S32x32768 32 :=
  let v0 : IVec S_ 32 := xori arg0 arg1
  let c : IVec S_ 32 := constantI S_ 32 466688986#32
  let v1 : IVec S_ 32 := xori v0 c
  let v2 : IVec S32x32768 32 := broadcastInDim S32x32768 ![] bcast_S_S32x32768 arg0
  let v3 : IVec S32x32768 32 := addi arg2 v2
  let v4 : IVec S32x32768 32 := broadcastInDim S32x32768 ![] bcast_S_S32x32768 arg1
  let v5 : IVec S32x32768 32 := addi arg3 v4
  let v6 : IVec S32x32768 32 := addi v3 v5
  let c_0 : IVec S_ 32 := constantI S_ 32 13#32
  let v7 : IVec S32x32768 32 := broadcastInDim S32x32768 ![] bcast_S_S32x32768 c_0
  let v8 : IVec S32x32768 32 := Host.shli v5 v7
  let c_1 : IVec S_ 32 := constantI S_ 32 19#32
  let v9 : IVec S32x32768 32 := broadcastInDim S32x32768 ![] bcast_S_S32x32768 c_1
  let v10 : IVec S32x32768 32 := Host.shrui v5 v9
  let v11 : IVec S32x32768 32 := ori v8 v10
  let v12 : IVec S32x32768 32 := xori v6 v11
  let v13 : IVec S32x32768 32 := addi v6 v12
  let c_2 : IVec S_ 32 := constantI S_ 32 15#32
  let v14 : IVec S32x32768 32 := broadcastInDim S32x32768 ![] bcast_S_S32x32768 c_2
  let v15 : IVec S32x32768 32 := Host.shli v12 v14
  let c_3 : IVec S_ 32 := constantI S_ 32 17#32
  let v16 : IVec S32x32768 32 := broadcastInDim S32x32768 ![] bcast_S_S32x32768 c_3
  let v17 : IVec S32x32768 32 := Host.shrui v12 v16
  let v18 : IVec S32x32768 32 := ori v15 v17
  fn_threefry2x32_part1 (F := F) arg0 arg1 v1 v13 v18

def fn_uniform_part1 {F : FTy → Type} [FloatOps F] (v2 : FVec F S1x1 .f32) (v3 : FVec F S1x1 .f32) (v19_0 : IVec S32x32768 32) (v19_1 : IVec S32x32768 32) : FVec F S32x32768 .f32 :=
  let v20 : IVec S32x32768 32 := xori v19_0 v19_1
  let c_2 : IVec S_ 32 := constantI S_ 32 9#32
  let v21 : IVec S32x32768 32 := broadcastInDim S32x32768 ![] bcast_S_S32x32768 c_2
  let v22 : IVec S32x32768 32 := Host.shrui v20 v21
  let c_3 : IVec S_ 32 := constantI S_ 32 1065353216#32
  let v23 : IVec S32x32768 32 := broadcastInDim S32x32768 ![] bcast_S_S32x32768 c_3
  let v24 : IVec S32x32768 32 := ori v22 v23
  let v25 : FVec F S32x32768 .f32 := bitcastToFloat .f32 v24
  let cst : FVec F S_ .f32 := constant S_ .f32 0x3F800000#32
  let v26 : FVec F S32x32768 .f32 := broadcastInDim S32x32768 ![] bcast_S_S32x32768 cst
  let v27 : FVec F S32x32768 .f32 := subf v25 v26
  let v28 : FVec F S1x1 .f32 := subf v3 v2
  let v29 : FVec F S32x32768 .f32 := broadcastInDim S32x32768 ![0, 1] bcast_S1x1_S32x32768_0_1 v28
  let v30 : FVec F S32x32768 .f32 := mulf v27 v29
  let v31 : FVec F S32x32768 .f32 := broadcastInDim S32x32768 ![0, 1] bcast_S1x1_S32x32768_0_1 v2
  let v32 : FVec F S32x32768 .f32 := addf v30 v31
  let v33 : FVec F S32x32768 .f32 := broadcastInDim S32x32768 ![0, 1] bcast_S1x1_S32x32768_0_1 v2
  let v34 : FVec F S32x32768 .f32 := maximumf v33 v32
  v34

def fn_uniform {F : FTy → Type} [FloatOps F] (arg0 : IVec S2 32) (arg1 : FVec F S_ .f32) (arg2 : FVec F S_ .f32) : FVec F S32x32768 .f32 :=
  let v0 : FVec F S_ .f32 := id arg1
  let v1 : FVec F S_ .f32 := id arg2
  let v2 : FVec F S1x1 .f32 := broadcastInDim S1x1 ![] bcast_S_S1x1 v0
  let v3 : FVec F S1x1 .f32 := broadcastInDim S1x1 ![] bcast_S_S1x1 v1
  let v4 : IVec S1 32 := (extractStridedSlice S1 ![0] · slices_S2_S1_0) arg0
  let v5 : IVec S_ 32 := shapeCast S_ v4 shapeCasts_S1_S_
  let v6 : IVec S1 32 := (extractStridedSlice S1 ![1] · slices_S2_S1_1) arg0
  let v7 : IVec S_ 32 := shapeCast S_ v6 shapeCasts_S1_S_
  let v8 : IVec S32x32768 64 := iotaInDim S32x32768 64 0
  let v9 : IVec S32x32768 64 := iotaInDim S32x32768 64 1
  let c : IVec S_ 64 := constantI S_ 64 32768#64
  let v10 : IVec S32x32768 64 := broadcastInDim S32x32768 ![] bcast_S_S32x32768 c
  let v11 : IVec S32x32768 64 := muli v10 v8
  let c_0 : IVec S_ 64 := constantI S_ 64 1#64
  let v12 : IVec S32x32768 64 := broadcastInDim S32x32768 ![] bcast_S_S32x32768 c_0
  let v13 : IVec S32x32768 64 := muli v12 v9
  let v14 : IVec S32x32768 64 := addi v11 v13
  let c_1 : IVec S_ 64 := constantI S_ 64 32#64
  let v15 : IVec S32x32768 64 := broadcastInDim S32x32768 ![] bcast_S_S32x32768 c_1
  let v16 : IVec S32x32768 64 := Host.shrui v14 v15
  let v17 : IVec S32x32768 32 := (trunci 32 · natLt_32_64) v14
  let v18 : IVec S32x32768 32 := (trunci 32 · natLt_32_64) v16
  let v19_0 : IVec S32x32768 32 := (fn_threefry2x32 (F := F) v5 v7 v18 v17).1
  let v19_1 : IVec S32x32768 32 := (fn_threefry2x32 (F := F) v5 v7 v18 v17).2
  fn_uniform_part1 (F := F) v2 v3 v19_0 v19_1

def fn_part1 {F : FTy → Type} [FloatOps F] (main_arg0 : FVec F S1x32768 .f32) (main_v15 : FVec F S32x32768 .f32) (main_v16 : FVec F S32x32768 .f32) : IVec S_ 1 :=
  let main_v17 : FVec F S32x32768 .f32 := addf main_v16 main_v15
  let main_values : FVec F S32x17 .f32 := (fun x => (Host.topK S32x17 1 (FloatOps.cmpfTotal .gt) x sliceFits_S32x32768_S32x17).1) main_v17
  let main_indices : IVec S32x17 32 := (fun x => (Host.topK S32x17 1 (FloatOps.cmpfTotal .gt) x sliceFits_S32x32768_S32x17).2) main_v17
  let main_v18 : FVec F S32x16 .f32 := (extractStridedSlice S32x16 ![0, 1] · slices_S32x17_S32x16_0_1) main_values
  let main_v19 : FVec F S32x16 .f32 := (extractStridedSlice S32x16 ![0, 0] · slices_S32x17_S32x16_0_0) main_values
  let main_v20 : IVec S32x16 1 := cmpf .olt main_v18 main_v19
  let main_c_5 : IVec S_ 1 := constantI S_ 1 1#1
  let main_v21 : IVec S_ 1 := (fun x v => Host.reduce IntOp.andi x v reducesTo_S32x16_S_d0_1 h_S_) main_v20 main_c_5
  let main_cst_6 : FVec F S_ .f32 := constant S_ .f32 0x7F800000#32
  let main_v22 : FVec F S1x32768 .f32 := broadcastInDim S1x32768 ![] bcast_S_S1x32768 main_cst_6
  let main_v23 : IVec S1x32768 1 := cmpf .olt main_arg0 main_v22
  let main_c_7 : IVec S_ 1 := constantI S_ 1 1#1
  let main_v24 : IVec S_ 1 := (fun x v => Host.reduce IntOp.andi x v reducesTo_S1x32768_S_d0_1 h_S_) main_v23 main_c_7
  let main_v25 : IVec S_ 1 := andi main_v21 main_v24
  main_v25

def fn {F : FTy → Type} [FloatOps F] (main_arg0 : FVec F S1x32768 .f32) (main_arg1 : FVec F S32x2048 .f32) : IVec S_ 1 :=
  let main_c : IVec S_ 32 := constantI S_ 32 42#32
  let main_c_0 : IVec S_ 32 := constantI S_ 32 32#32
  let main_v0 : IVec S_ 32 := Host.shrui main_c main_c_0
  let main_v1 : IVec S_ 32 := id main_v0
  let main_v2 : IVec S1 32 := broadcastInDim S1 ![] bcast_S_S1 main_v1
  let main_c_1 : IVec S_ 32 := constantI S_ 32 4294967295#32
  let main_v3 : IVec S_ 32 := andi main_c main_c_1
  let main_v4 : IVec S_ 32 := id main_v3
  let main_v5 : IVec S1 32 := broadcastInDim S1 ![] bcast_S_S1 main_v4
  let main_v6 : IVec S2 32 := (fun a b => concatenate S2 0 [⟨S1, a⟩, ⟨S1, b⟩] concatenates_S1_S1_S2_d0) main_v2 main_v5
  let main_cst : FVec F S_ .f32 := constant S_ .f32 0x00000000#32
  let main_cst_2 : FVec F S_ .f32 := constant S_ .f32 0x3F800000#32
  let main_v7 : FVec F S32x32768 .f32 := fn_uniform (F := F) main_v6 main_cst main_cst_2
  let main_cst_3 : FVec F S_ .f32 := constant S_ .f32 0x1E3CE508#32
  let main_v8 : FVec F S32x32768 .f32 := broadcastInDim S32x32768 ![] bcast_S_S32x32768 main_cst_3
  let main_v9 : FVec F S32x32768 .f32 := addf main_v7 main_v8
  let main_v10 : FVec F S32x32768 .f32 := Host.log main_v9
  let main_v11 : FVec F S32x32768 .f32 := Host.negf main_v10
  let main_cst_4 : FVec F S_ .f32 := constant S_ .f32 0x1E3CE508#32
  let main_v12 : FVec F S32x32768 .f32 := broadcastInDim S32x32768 ![] bcast_S_S32x32768 main_cst_4
  let main_v13 : FVec F S32x32768 .f32 := addf main_v11 main_v12
  let main_v14 : FVec F S32x32768 .f32 := Host.log main_v13
  let main_v15 : FVec F S32x32768 .f32 := Host.negf main_v14
  let main_v16 : FVec F S32x32768 .f32 := broadcastInDim S32x32768 ![0, 1] bcast_S1x32768_S32x32768_0_1 main_arg0
  fn_part1 (F := F) main_arg0 main_v15 main_v16
-- ==== Kernel.lean ====
abbrev S1x32768 : Shape := ⟨2, ![1, 32768]⟩
abbrev S32x2048 : Shape := ⟨2, ![32, 2048]⟩
abbrev S_ : Shape := ⟨0, ![]⟩
abbrev S1 : Shape := ⟨1, ![1]⟩
abbrev S2 : Shape := ⟨1, ![2]⟩
abbrev S1x1 : Shape := ⟨2, ![1, 1]⟩
abbrev S32x32768 : Shape := ⟨2, ![32, 32768]⟩
abbrev S512x32768 : Shape := ⟨2, ![512, 32768]⟩
abbrev S16x32768 : Shape := ⟨2, ![16, 32768]⟩
abbrev S32x16 : Shape := ⟨2, ![32, 16]⟩
abbrev S32 : Shape := ⟨1, ![32]⟩
abbrev S32x1 : Shape := ⟨2, ![32, 1]⟩
abbrev S1x16 : Shape := ⟨2, ![1, 16]⟩
abbrev S16x1 : Shape := ⟨2, ![16, 1]⟩

abbrev nBuf : Space → Nat
  | .hbm => 287
  | .vmem => 5
  | .smem => 0
  | _ => 0

abbrev hbmTy0_0 (i : Nat) : BufTy := match i % 128 with
  | 0 => ⟨S1x32768, .f32⟩
  | 1 => ⟨S32x2048, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1x1, .f32⟩
  | 17 => ⟨S1x1, .f32⟩
  | 18 => ⟨S1, .i32⟩
  | 19 => ⟨S_, .i32⟩
  | 20 => ⟨S1, .i32⟩
  | 21 => ⟨S_, .i32⟩
  | 22 => ⟨S32x32768, .i64⟩
  | 23 => ⟨S32x32768, .i64⟩
  | 24 => ⟨S_, .i64⟩
  | 25 => ⟨S32x32768, .i64⟩
  | 26 => ⟨S32x32768, .i64⟩
  | 27 => ⟨S_, .i64⟩
  | 28 => ⟨S32x32768, .i64⟩
  | 29 => ⟨S32x32768, .i64⟩
  | 30 => ⟨S32x32768, .i64⟩
  | 31 => ⟨S_, .i64⟩
  | 32 => ⟨S32x32768, .i64⟩
  | 33 => ⟨S32x32768, .i64⟩
  | 34 => ⟨S32x32768, .i32⟩
  | 35 => ⟨S32x32768, .i32⟩
  | 36 => ⟨S_, .i32⟩
  | 37 => ⟨S_, .i32⟩
  | 38 => ⟨S_, .i32⟩
  | 39 => ⟨S32x32768, .i32⟩
  | 40 => ⟨S32x32768, .i32⟩
  | 41 => ⟨S32x32768, .i32⟩
  | 42 => ⟨S32x32768, .i32⟩
  | 43 => ⟨S32x32768, .i32⟩
  | 44 => ⟨S_, .i32⟩
  | 45 => ⟨S32x32768, .i32⟩
  | 46 => ⟨S32x32768, .i32⟩
  | 47 => ⟨S_, .i32⟩
  | 48 => ⟨S32x32768, .i32⟩
  | 49 => ⟨S32x32768, .i32⟩
  | 50 => ⟨S32x32768, .i32⟩
  | 51 => ⟨S32x32768, .i32⟩
  | 52 => ⟨S32x32768, .i32⟩
  | 53 => ⟨S_, .i32⟩
  | 54 => ⟨S32x32768, .i32⟩
  | 55 => ⟨S32x32768, .i32⟩
  | 56 => ⟨S_, .i32⟩
  | 57 => ⟨S32x32768, .i32⟩
  | 58 => ⟨S32x32768, .i32⟩
  | 59 => ⟨S32x32768, .i32⟩
  | 60 => ⟨S32x32768, .i32⟩
  | 61 => ⟨S32x32768, .i32⟩
  | 62 => ⟨S_, .i32⟩
  | 63 => ⟨S32x32768, .i32⟩
  | 64 => ⟨S32x32768, .i32⟩
  | 65 => ⟨S_, .i32⟩
  | 66 => ⟨S32x32768, .i32⟩
  | 67 => ⟨S32x32768, .i32⟩
  | 68 => ⟨S32x32768, .i32⟩
  | 69 => ⟨S32x32768, .i32⟩
  | 70 => ⟨S32x32768, .i32⟩
  | 71 => ⟨S_, .i32⟩
  | 72 => ⟨S32x32768, .i32⟩
  | 73 => ⟨S32x32768, .i32⟩
  | 74 => ⟨S_, .i32⟩
  | 75 => ⟨S32x32768, .i32⟩
  | 76 => ⟨S32x32768, .i32⟩
  | 77 => ⟨S32x32768, .i32⟩
  | 78 => ⟨S32x32768, .i32⟩
  | 79 => ⟨S32x32768, .i32⟩
  | 80 => ⟨S32x32768, .i32⟩
  | 81 => ⟨S32x32768, .i32⟩
  | 82 => ⟨S32x32768, .i32⟩
  | 83 => ⟨S_, .i32⟩
  | 84 => ⟨S32x32768, .i32⟩
  | 85 => ⟨S32x32768, .i32⟩
  | 86 => ⟨S32x32768, .i32⟩
  | 87 => ⟨S_, .i32⟩
  | 88 => ⟨S32x32768, .i32⟩
  | 89 => ⟨S32x32768, .i32⟩
  | 90 => ⟨S_, .i32⟩
  | 91 => ⟨S32x32768, .i32⟩
  | 92 => ⟨S32x32768, .i32⟩
  | 93 => ⟨S32x32768, .i32⟩
  | 94 => ⟨S32x32768, .i32⟩
  | 95 => ⟨S32x32768, .i32⟩
  | 96 => ⟨S_, .i32⟩
  | 97 => ⟨S32x32768, .i32⟩
  | 98 => ⟨S32x32768, .i32⟩
  | 99 => ⟨S_, .i32⟩
  | 100 => ⟨S32x32768, .i32⟩
  | 101 => ⟨S32x32768, .i32⟩
  | 102 => ⟨S32x32768, .i32⟩
  | 103 => ⟨S32x32768, .i32⟩
  | 104 => ⟨S32x32768, .i32⟩
  | 105 => ⟨S_, .i32⟩
  | 106 => ⟨S32x32768, .i32⟩
  | 107 => ⟨S32x32768, .i32⟩
  | 108 => ⟨S_, .i32⟩
  | 109 => ⟨S32x32768, .i32⟩
  | 110 => ⟨S32x32768, .i32⟩
  | 111 => ⟨S32x32768, .i32⟩
  | 112 => ⟨S32x32768, .i32⟩
  | 113 => ⟨S32x32768, .i32⟩
  | 114 => ⟨S_, .i32⟩
  | 115 => ⟨S32x32768, .i32⟩
  | 116 => ⟨S32x32768, .i32⟩
  | 117 => ⟨S_, .i32⟩
  | 118 => ⟨S32x32768, .i32⟩
  | 119 => ⟨S32x32768, .i32⟩
  | 120 => ⟨S32x32768, .i32⟩
  | 121 => ⟨S32x32768, .i32⟩
  | 122 => ⟨S32x32768, .i32⟩
  | 123 => ⟨S32x32768, .i32⟩
  | 124 => ⟨S32x32768, .i32⟩
  | 125 => ⟨S32x32768, .i32⟩
  | 126 => ⟨S_, .i32⟩
  | 127 => ⟨S32x32768, .i32⟩
  | _ => ⟨S1x32768, .f32⟩

abbrev hbmTy0_1 (i : Nat) : BufTy := match i % 128 with
  | 0 => ⟨S32x32768, .i32⟩
  | 1 => ⟨S32x32768, .i32⟩
  | 2 => ⟨S_, .i32⟩
  | 3 => ⟨S32x32768, .i32⟩
  | 4 => ⟨S32x32768, .i32⟩
  | 5 => ⟨S_, .i32⟩
  | 6 => ⟨S32x32768, .i32⟩
  | 7 => ⟨S32x32768, .i32⟩
  | 8 => ⟨S32x32768, .i32⟩
  | 9 => ⟨S32x32768, .i32⟩
  | 10 => ⟨S32x32768, .i32⟩
  | 11 => ⟨S_, .i32⟩
  | 12 => ⟨S32x32768, .i32⟩
  | 13 => ⟨S32x32768, .i32⟩
  | 14 => ⟨S_, .i32⟩
  | 15 => ⟨S32x32768, .i32⟩
  | 16 => ⟨S32x32768, .i32⟩
  | 17 => ⟨S32x32768, .i32⟩
  | 18 => ⟨S32x32768, .i32⟩
  | 19 => ⟨S32x32768, .i32⟩
  | 20 => ⟨S_, .i32⟩
  | 21 => ⟨S32x32768, .i32⟩
  | 22 => ⟨S32x32768, .i32⟩
  | 23 => ⟨S_, .i32⟩
  | 24 => ⟨S32x32768, .i32⟩
  | 25 => ⟨S32x32768, .i32⟩
  | 26 => ⟨S32x32768, .i32⟩
  | 27 => ⟨S32x32768, .i32⟩
  | 28 => ⟨S32x32768, .i32⟩
  | 29 => ⟨S_, .i32⟩
  | 30 => ⟨S32x32768, .i32⟩
  | 31 => ⟨S32x32768, .i32⟩
  | 32 => ⟨S_, .i32⟩
  | 33 => ⟨S32x32768, .i32⟩
  | 34 => ⟨S32x32768, .i32⟩
  | 35 => ⟨S32x32768, .i32⟩
  | 36 => ⟨S32x32768, .i32⟩
  | 37 => ⟨S32x32768, .i32⟩
  | 38 => ⟨S32x32768, .i32⟩
  | 39 => ⟨S32x32768, .i32⟩
  | 40 => ⟨S32x32768, .i32⟩
  | 41 => ⟨S_, .i32⟩
  | 42 => ⟨S32x32768, .i32⟩
  | 43 => ⟨S32x32768, .i32⟩
  | 44 => ⟨S32x32768, .i32⟩
  | 45 => ⟨S_, .i32⟩
  | 46 => ⟨S32x32768, .i32⟩
  | 47 => ⟨S32x32768, .i32⟩
  | 48 => ⟨S_, .i32⟩
  | 49 => ⟨S32x32768, .i32⟩
  | 50 => ⟨S32x32768, .i32⟩
  | 51 => ⟨S32x32768, .i32⟩
  | 52 => ⟨S32x32768, .i32⟩
  | 53 => ⟨S32x32768, .i32⟩
  | 54 => ⟨S_, .i32⟩
  | 55 => ⟨S32x32768, .i32⟩
  | 56 => ⟨S32x32768, .i32⟩
  | 57 => ⟨S_, .i32⟩
  | 58 => ⟨S32x32768, .i32⟩
  | 59 => ⟨S32x32768, .i32⟩
  | 60 => ⟨S32x32768, .i32⟩
  | 61 => ⟨S32x32768, .i32⟩
  | 62 => ⟨S32x32768, .i32⟩
  | 63 => ⟨S_, .i32⟩
  | 64 => ⟨S32x32768, .i32⟩
  | 65 => ⟨S32x32768, .i32⟩
  | 66 => ⟨S_, .i32⟩
  | 67 => ⟨S32x32768, .i32⟩
  | 68 => ⟨S32x32768, .i32⟩
  | 69 => ⟨S32x32768, .i32⟩
  | 70 => ⟨S32x32768, .i32⟩
  | 71 => ⟨S32x32768, .i32⟩
  | 72 => ⟨S_, .i32⟩
  | 73 => ⟨S32x32768, .i32⟩
  | 74 => ⟨S32x32768, .i32⟩
  | 75 => ⟨S_, .i32⟩
  | 76 => ⟨S32x32768, .i32⟩
  | 77 => ⟨S32x32768, .i32⟩
  | 78 => ⟨S32x32768, .i32⟩
  | 79 => ⟨S32x32768, .i32⟩
  | 80 => ⟨S32x32768, .i32⟩
  | 81 => ⟨S32x32768, .i32⟩
  | 82 => ⟨S32x32768, .i32⟩
  | 83 => ⟨S32x32768, .i32⟩
  | 84 => ⟨S_, .i32⟩
  | 85 => ⟨S32x32768, .i32⟩
  | 86 => ⟨S32x32768, .i32⟩
  | 87 => ⟨S32x32768, .i32⟩
  | 88 => ⟨S_, .i32⟩
  | 89 => ⟨S32x32768, .i32⟩
  | 90 => ⟨S32x32768, .i32⟩
  | 91 => ⟨S_, .i32⟩
  | 92 => ⟨S32x32768, .i32⟩
  | 93 => ⟨S32x32768, .i32⟩
  | 94 => ⟨S32x32768, .i32⟩
  | 95 => ⟨S32x32768, .i32⟩
  | 96 => ⟨S32x32768, .i32⟩
  | 97 => ⟨S_, .i32⟩
  | 98 => ⟨S32x32768, .i32⟩
  | 99 => ⟨S32x32768, .i32⟩
  | 100 => ⟨S_, .i32⟩
  | 101 => ⟨S32x32768, .i32⟩
  | 102 => ⟨S32x32768, .i32⟩
  | 103 => ⟨S32x32768, .i32⟩
  | 104 => ⟨S32x32768, .i32⟩
  | 105 => ⟨S32x32768, .i32⟩
  | 106 => ⟨S_, .i32⟩
  | 107 => ⟨S32x32768, .i32⟩
  | 108 => ⟨S32x32768, .i32⟩
  | 109 => ⟨S_, .i32⟩
  | 110 => ⟨S32x32768, .i32⟩
  | 111 => ⟨S32x32768, .i32⟩
  | 112 => ⟨S32x32768, .i32⟩
  | 113 => ⟨S32x32768, .i32⟩
  | 114 => ⟨S32x32768, .i32⟩
  | 115 => ⟨S_, .i32⟩
  | 116 => ⟨S32x32768, .i32⟩
  | 117 => ⟨S32x32768, .i32⟩
  | 118 => ⟨S_, .i32⟩
  | 119 => ⟨S32x32768, .i32⟩
  | 120 => ⟨S32x32768, .i32⟩
  | 121 => ⟨S32x32768, .i32⟩
  | 122 => ⟨S32x32768, .i32⟩
  | 123 => ⟨S32x32768, .i32⟩
  | 124 => ⟨S32x32768, .i32⟩
  | 125 => ⟨S32x32768, .i32⟩
  | 126 => ⟨S32x32768, .i32⟩
  | 127 => ⟨S_, .i32⟩
  | _ => ⟨S1x32768, .f32⟩

abbrev hbmTy0_2 (i : Nat) : BufTy := match i % 128 with
  | 0 => ⟨S32x32768, .i32⟩
  | 1 => ⟨S32x32768, .i32⟩
  | 2 => ⟨S32x32768, .i32⟩
  | 3 => ⟨S_, .i32⟩
  | 4 => ⟨S32x32768, .i32⟩
  | 5 => ⟨S32x32768, .i32⟩
  | 6 => ⟨S_, .i32⟩
  | 7 => ⟨S32x32768, .i32⟩
  | 8 => ⟨S32x32768, .i32⟩
  | 9 => ⟨S32x32768, .f32⟩
  | 10 => ⟨S_, .f32⟩
  | 11 => ⟨S32x32768, .f32⟩
  | 12 => ⟨S32x32768, .f32⟩
  | 13 => ⟨S1x1, .f32⟩
  | 14 => ⟨S32x32768, .f32⟩
  | 15 => ⟨S32x32768, .f32⟩
  | 16 => ⟨S32x32768, .f32⟩
  | 17 => ⟨S32x32768, .f32⟩
  | 18 => ⟨S32x32768, .f32⟩
  | 19 => ⟨S32x32768, .f32⟩
  | 20 => ⟨S_, .f32⟩
  | 21 => ⟨S32x32768, .f32⟩
  | 22 => ⟨S32x32768, .f32⟩
  | 23 => ⟨S32x32768, .f32⟩
  | 24 => ⟨S32x32768, .f32⟩
  | 25 => ⟨S_, .f32⟩
  | 26 => ⟨S32x32768, .f32⟩
  | 27 => ⟨S32x32768, .f32⟩
  | 28 => ⟨S32x32768, .f32⟩
  | 29 => ⟨S32x32768, .f32⟩
  | 30 => ⟨S512x32768, .f32⟩
  | _ => ⟨S1x32768, .f32⟩

abbrev hbmTy (i : Nat) : BufTy := match i / 128 with
  | 0 => hbmTy0_0 i
  | 1 => hbmTy0_1 i
  | 2 => hbmTy0_2 i
  | _ => ⟨S1x32768, .f32⟩

abbrev bufTy : (tb : Table) → Fin (tcTables nBuf tb) → BufTy
  | .hbm, ⟨i, _⟩ => hbmTy i
  | .local _ .vmem, ⟨0, _⟩ => ⟨S1x32768, .f32⟩
  | .local _ .vmem, ⟨1, _⟩ => ⟨S32x32768, .f32⟩
  | .local _ .vmem, ⟨2, _⟩ => ⟨S16x32768, .f32⟩
  | .local _ .vmem, ⟨3, _⟩ => ⟨S16x32768, .f32⟩
  | .local _ .vmem, ⟨4, _⟩ => ⟨S32x16, .i32⟩
  | _, _ => ⟨S1x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_c : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_c_1 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_call0_v0 : Ref sig .tc := ⟨.hbm, 36, rfl⟩
abbrev main_call0_call0_c : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_c_0 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_c_1 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_call0_v12 : Ref sig .tc := ⟨.hbm, 51, rfl⟩
abbrev main_call0_call0_v13 : Ref sig .tc := ⟨.hbm, 52, rfl⟩
abbrev main_call0_call0_c_2 : Ref sig .tc := ⟨.hbm, 53, rfl⟩
abbrev main_call0_call0_v14 : Ref sig .tc := ⟨.hbm, 54, rfl⟩
abbrev main_call0_call0_v15 : Ref sig .tc := ⟨.hbm, 55, rfl⟩
abbrev main_call0_call0_c_3 : Ref sig .tc := ⟨.hbm, 56, rfl⟩
abbrev main_call0_call0_v16 : Ref sig .tc := ⟨.hbm, 57, rfl⟩
abbrev main_call0_call0_v17 : Ref sig .tc := ⟨.hbm, 58, rfl⟩
abbrev main_call0_call0_v18 : Ref sig .tc := ⟨.hbm, 59, rfl⟩
abbrev main_call0_call0_v19 : Ref sig .tc := ⟨.hbm, 60, rfl⟩
abbrev main_call0_call0_v20 : Ref sig .tc := ⟨.hbm, 61, rfl⟩
abbrev main_call0_call0_c_4 : Ref sig .tc := ⟨.hbm, 62, rfl⟩
abbrev main_call0_call0_v21 : Ref sig .tc := ⟨.hbm, 63, rfl⟩
abbrev main_call0_call0_v22 : Ref sig .tc := ⟨.hbm, 64, rfl⟩
abbrev main_call0_call0_c_5 : Ref sig .tc := ⟨.hbm, 65, rfl⟩
abbrev main_call0_call0_v23 : Ref sig .tc := ⟨.hbm, 66, rfl⟩
abbrev main_call0_call0_v24 : Ref sig .tc := ⟨.hbm, 67, rfl⟩
abbrev main_call0_call0_v25 : Ref sig .tc := ⟨.hbm, 68, rfl⟩
abbrev main_call0_call0_v26 : Ref sig .tc := ⟨.hbm, 69, rfl⟩
abbrev main_call0_call0_v27 : Ref sig .tc := ⟨.hbm, 70, rfl⟩
abbrev main_call0_call0_c_6 : Ref sig .tc := ⟨.hbm, 71, rfl⟩
abbrev main_call0_call0_v28 : Ref sig .tc := ⟨.hbm, 72, rfl⟩
abbrev main_call0_call0_v29 : Ref sig .tc := ⟨.hbm, 73, rfl⟩
abbrev main_call0_call0_c_7 : Ref sig .tc := ⟨.hbm, 74, rfl⟩
abbrev main_call0_call0_v30 : Ref sig .tc := ⟨.hbm, 75, rfl⟩
abbrev main_call0_call0_v31 : Ref sig .tc := ⟨.hbm, 76, rfl⟩
abbrev main_call0_call0_v32 : Ref sig .tc := ⟨.hbm, 77, rfl⟩
abbrev main_call0_call0_v33 : Ref sig .tc := ⟨.hbm, 78, rfl⟩
abbrev main_call0_call0_v34 : Ref sig .tc := ⟨.hbm, 79, rfl⟩
abbrev main_call0_call0_v35 : Ref sig .tc := ⟨.hbm, 80, rfl⟩
abbrev main_call0_call0_v36 : Ref sig .tc := ⟨.hbm, 81, rfl⟩
abbrev main_call0_call0_v37 : Ref sig .tc := ⟨.hbm, 82, rfl⟩
abbrev main_call0_call0_c_8 : Ref sig .tc := ⟨.hbm, 83, rfl⟩
abbrev main_call0_call0_v38 : Ref sig .tc := ⟨.hbm, 84, rfl⟩
abbrev main_call0_call0_v39 : Ref sig .tc := ⟨.hbm, 85, rfl⟩
abbrev main_call0_call0_v40 : Ref sig .tc := ⟨.hbm, 86, rfl⟩
abbrev main_call0_call0_c_9 : Ref sig .tc := ⟨.hbm, 87, rfl⟩
abbrev main_call0_call0_v41 : Ref sig .tc := ⟨.hbm, 88, rfl⟩
abbrev main_call0_call0_v42 : Ref sig .tc := ⟨.hbm, 89, rfl⟩
abbrev main_call0_call0_c_10 : Ref sig .tc := ⟨.hbm, 90, rfl⟩
abbrev main_call0_call0_v43 : Ref sig .tc := ⟨.hbm, 91, rfl⟩
abbrev main_call0_call0_v44 : Ref sig .tc := ⟨.hbm, 92, rfl⟩
abbrev main_call0_call0_v45 : Ref sig .tc := ⟨.hbm, 93, rfl⟩
abbrev main_call0_call0_v46 : Ref sig .tc := ⟨.hbm, 94, rfl⟩
abbrev main_call0_call0_v47 : Ref sig .tc := ⟨.hbm, 95, rfl⟩
abbrev main_call0_call0_c_11 : Ref sig .tc := ⟨.hbm, 96, rfl⟩
abbrev main_call0_call0_v48 : Ref sig .tc := ⟨.hbm, 97, rfl⟩
abbrev main_call0_call0_v49 : Ref sig .tc := ⟨.hbm, 98, rfl⟩
abbrev main_call0_call0_c_12 : Ref sig .tc := ⟨.hbm, 99, rfl⟩
abbrev main_call0_call0_v50 : Ref sig .tc := ⟨.hbm, 100, rfl⟩
abbrev main_call0_call0_v51 : Ref sig .tc := ⟨.hbm, 101, rfl⟩
abbrev main_call0_call0_v52 : Ref sig .tc := ⟨.hbm, 102, rfl⟩
abbrev main_call0_call0_v53 : Ref sig .tc := ⟨.hbm, 103, rfl⟩
abbrev main_call0_call0_v54 : Ref sig .tc := ⟨.hbm, 104, rfl⟩
abbrev main_call0_call0_c_13 : Ref sig .tc := ⟨.hbm, 105, rfl⟩
abbrev main_call0_call0_v55 : Ref sig .tc := ⟨.hbm, 106, rfl⟩
abbrev main_call0_call0_v56 : Ref sig .tc := ⟨.hbm, 107, rfl⟩
abbrev main_call0_call0_c_14 : Ref sig .tc := ⟨.hbm, 108, rfl⟩
abbrev main_call0_call0_v57 : Ref sig .tc := ⟨.hbm, 109, rfl⟩
abbrev main_call0_call0_v58 : Ref sig .tc := ⟨.hbm, 110, rfl⟩
abbrev main_call0_call0_v59 : Ref sig .tc := ⟨.hbm, 111, rfl⟩
abbrev main_call0_call0_v60 : Ref sig .tc := ⟨.hbm, 112, rfl⟩
abbrev main_call0_call0_v61 : Ref sig .tc := ⟨.hbm, 113, rfl⟩
abbrev main_call0_call0_c_15 : Ref sig .tc := ⟨.hbm, 114, rfl⟩
abbrev main_call0_call0_v62 : Ref sig .tc := ⟨.hbm, 115, rfl⟩
abbrev main_call0_call0_v63 : Ref sig .tc := ⟨.hbm, 116, rfl⟩
abbrev main_call0_call0_c_16 : Ref sig .tc := ⟨.hbm, 117, rfl⟩
abbrev main_call0_call0_v64 : Ref sig .tc := ⟨.hbm, 118, rfl⟩
abbrev main_call0_call0_v65 : Ref sig .tc := ⟨.hbm, 119, rfl⟩
abbrev main_call0_call0_v66 : Ref sig .tc := ⟨.hbm, 120, rfl⟩
abbrev main_call0_call0_v67 : Ref sig .tc := ⟨.hbm, 121, rfl⟩
abbrev main_call0_call0_v68 : Ref sig .tc := ⟨.hbm, 122, rfl⟩
abbrev main_call0_call0_v69 : Ref sig .tc := ⟨.hbm, 123, rfl⟩
abbrev main_call0_call0_v70 : Ref sig .tc := ⟨.hbm, 124, rfl⟩
abbrev main_call0_call0_v71 : Ref sig .tc := ⟨.hbm, 125, rfl⟩
abbrev main_call0_call0_c_17 : Ref sig .tc := ⟨.hbm, 126, rfl⟩
abbrev main_call0_call0_v72 : Ref sig .tc := ⟨.hbm, 127, rfl⟩
abbrev main_call0_call0_v73 : Ref sig .tc := ⟨.hbm, 128, rfl⟩
abbrev main_call0_call0_v74 : Ref sig .tc := ⟨.hbm, 129, rfl⟩
abbrev main_call0_call0_c_18 : Ref sig .tc := ⟨.hbm, 130, rfl⟩
abbrev main_call0_call0_v75 : Ref sig .tc := ⟨.hbm, 131, rfl⟩
abbrev main_call0_call0_v76 : Ref sig .tc := ⟨.hbm, 132, rfl⟩
abbrev main_call0_call0_c_19 : Ref sig .tc := ⟨.hbm, 133, rfl⟩
abbrev main_call0_call0_v77 : Ref sig .tc := ⟨.hbm, 134, rfl⟩
abbrev main_call0_call0_v78 : Ref sig .tc := ⟨.hbm, 135, rfl⟩
abbrev main_call0_call0_v79 : Ref sig .tc := ⟨.hbm, 136, rfl⟩
abbrev main_call0_call0_v80 : Ref sig .tc := ⟨.hbm, 137, rfl⟩
abbrev main_call0_call0_v81 : Ref sig .tc := ⟨.hbm, 138, rfl⟩
abbrev main_call0_call0_c_20 : Ref sig .tc := ⟨.hbm, 139, rfl⟩
abbrev main_call0_call0_v82 : Ref sig .tc := ⟨.hbm, 140, rfl⟩
abbrev main_call0_call0_v83 : Ref sig .tc := ⟨.hbm, 141, rfl⟩
abbrev main_call0_call0_c_21 : Ref sig .tc := ⟨.hbm, 142, rfl⟩
abbrev main_call0_call0_v84 : Ref sig .tc := ⟨.hbm, 143, rfl⟩
abbrev main_call0_call0_v85 : Ref sig .tc := ⟨.hbm, 144, rfl⟩
abbrev main_call0_call0_v86 : Ref sig .tc := ⟨.hbm, 145, rfl⟩
abbrev main_call0_call0_v87 : Ref sig .tc := ⟨.hbm, 146, rfl⟩
abbrev main_call0_call0_v88 : Ref sig .tc := ⟨.hbm, 147, rfl⟩
abbrev main_call0_call0_c_22 : Ref sig .tc := ⟨.hbm, 148, rfl⟩
abbrev main_call0_call0_v89 : Ref sig .tc := ⟨.hbm, 149, rfl⟩
abbrev main_call0_call0_v90 : Ref sig .tc := ⟨.hbm, 150, rfl⟩
abbrev main_call0_call0_c_23 : Ref sig .tc := ⟨.hbm, 151, rfl⟩
abbrev main_call0_call0_v91 : Ref sig .tc := ⟨.hbm, 152, rfl⟩
abbrev main_call0_call0_v92 : Ref sig .tc := ⟨.hbm, 153, rfl⟩
abbrev main_call0_call0_v93 : Ref sig .tc := ⟨.hbm, 154, rfl⟩
abbrev main_call0_call0_v94 : Ref sig .tc := ⟨.hbm, 155, rfl⟩
abbrev main_call0_call0_v95 : Ref sig .tc := ⟨.hbm, 156, rfl⟩
abbrev main_call0_call0_c_24 : Ref sig .tc := ⟨.hbm, 157, rfl⟩
abbrev main_call0_call0_v96 : Ref sig .tc := ⟨.hbm, 158, rfl⟩
abbrev main_call0_call0_v97 : Ref sig .tc := ⟨.hbm, 159, rfl⟩
abbrev main_call0_call0_c_25 : Ref sig .tc := ⟨.hbm, 160, rfl⟩
abbrev main_call0_call0_v98 : Ref sig .tc := ⟨.hbm, 161, rfl⟩
abbrev main_call0_call0_v99 : Ref sig .tc := ⟨.hbm, 162, rfl⟩
abbrev main_call0_call0_v100 : Ref sig .tc := ⟨.hbm, 163, rfl⟩
abbrev main_call0_call0_v101 : Ref sig .tc := ⟨.hbm, 164, rfl⟩
abbrev main_call0_call0_v102 : Ref sig .tc := ⟨.hbm, 165, rfl⟩
abbrev main_call0_call0_v103 : Ref sig .tc := ⟨.hbm, 166, rfl⟩
abbrev main_call0_call0_v104 : Ref sig .tc := ⟨.hbm, 167, rfl⟩
abbrev main_call0_call0_v105 : Ref sig .tc := ⟨.hbm, 168, rfl⟩
abbrev main_call0_call0_c_26 : Ref sig .tc := ⟨.hbm, 169, rfl⟩
abbrev main_call0_call0_v106 : Ref sig .tc := ⟨.hbm, 170, rfl⟩
abbrev main_call0_call0_v107 : Ref sig .tc := ⟨.hbm, 171, rfl⟩
abbrev main_call0_call0_v108 : Ref sig .tc := ⟨.hbm, 172, rfl⟩
abbrev main_call0_call0_c_27 : Ref sig .tc := ⟨.hbm, 173, rfl⟩
abbrev main_call0_call0_v109 : Ref sig .tc := ⟨.hbm, 174, rfl⟩
abbrev main_call0_call0_v110 : Ref sig .tc := ⟨.hbm, 175, rfl⟩
abbrev main_call0_call0_c_28 : Ref sig .tc := ⟨.hbm, 176, rfl⟩
abbrev main_call0_call0_v111 : Ref sig .tc := ⟨.hbm, 177, rfl⟩
abbrev main_call0_call0_v112 : Ref sig .tc := ⟨.hbm, 178, rfl⟩
abbrev main_call0_call0_v113 : Ref sig .tc := ⟨.hbm, 179, rfl⟩
abbrev main_call0_call0_v114 : Ref sig .tc := ⟨.hbm, 180, rfl⟩
abbrev main_call0_call0_v115 : Ref sig .tc := ⟨.hbm, 181, rfl⟩
abbrev main_call0_call0_c_29 : Ref sig .tc := ⟨.hbm, 182, rfl⟩
abbrev main_call0_call0_v116 : Ref sig .tc := ⟨.hbm, 183, rfl⟩
abbrev main_call0_call0_v117 : Ref sig .tc := ⟨.hbm, 184, rfl⟩
abbrev main_call0_call0_c_30 : Ref sig .tc := ⟨.hbm, 185, rfl⟩
abbrev main_call0_call0_v118 : Ref sig .tc := ⟨.hbm, 186, rfl⟩
abbrev main_call0_call0_v119 : Ref sig .tc := ⟨.hbm, 187, rfl⟩
abbrev main_call0_call0_v120 : Ref sig .tc := ⟨.hbm, 188, rfl⟩
abbrev main_call0_call0_v121 : Ref sig .tc := ⟨.hbm, 189, rfl⟩
abbrev main_call0_call0_v122 : Ref sig .tc := ⟨.hbm, 190, rfl⟩
abbrev main_call0_call0_c_31 : Ref sig .tc := ⟨.hbm, 191, rfl⟩
abbrev main_call0_call0_v123 : Ref sig .tc := ⟨.hbm, 192, rfl⟩
abbrev main_call0_call0_v124 : Ref sig .tc := ⟨.hbm, 193, rfl⟩
abbrev main_call0_call0_c_32 : Ref sig .tc := ⟨.hbm, 194, rfl⟩
abbrev main_call0_call0_v125 : Ref sig .tc := ⟨.hbm, 195, rfl⟩
abbrev main_call0_call0_v126 : Ref sig .tc := ⟨.hbm, 196, rfl⟩
abbrev main_call0_call0_v127 : Ref sig .tc := ⟨.hbm, 197, rfl⟩
abbrev main_call0_call0_v128 : Ref sig .tc := ⟨.hbm, 198, rfl⟩
abbrev main_call0_call0_v129 : Ref sig .tc := ⟨.hbm, 199, rfl⟩
abbrev main_call0_call0_c_33 : Ref sig .tc := ⟨.hbm, 200, rfl⟩
abbrev main_call0_call0_v130 : Ref sig .tc := ⟨.hbm, 201, rfl⟩
abbrev main_call0_call0_v131 : Ref sig .tc := ⟨.hbm, 202, rfl⟩
abbrev main_call0_call0_c_34 : Ref sig .tc := ⟨.hbm, 203, rfl⟩
abbrev main_call0_call0_v132 : Ref sig .tc := ⟨.hbm, 204, rfl⟩
abbrev main_call0_call0_v133 : Ref sig .tc := ⟨.hbm, 205, rfl⟩
abbrev main_call0_call0_v134 : Ref sig .tc := ⟨.hbm, 206, rfl⟩
abbrev main_call0_call0_v135 : Ref sig .tc := ⟨.hbm, 207, rfl⟩
abbrev main_call0_call0_v136 : Ref sig .tc := ⟨.hbm, 208, rfl⟩
abbrev main_call0_call0_v137 : Ref sig .tc := ⟨.hbm, 209, rfl⟩
abbrev main_call0_call0_v138 : Ref sig .tc := ⟨.hbm, 210, rfl⟩
abbrev main_call0_call0_v139 : Ref sig .tc := ⟨.hbm, 211, rfl⟩
abbrev main_call0_call0_c_35 : Ref sig .tc := ⟨.hbm, 212, rfl⟩
abbrev main_call0_call0_v140 : Ref sig .tc := ⟨.hbm, 213, rfl⟩
abbrev main_call0_call0_v141 : Ref sig .tc := ⟨.hbm, 214, rfl⟩
abbrev main_call0_call0_v142 : Ref sig .tc := ⟨.hbm, 215, rfl⟩
abbrev main_call0_call0_c_36 : Ref sig .tc := ⟨.hbm, 216, rfl⟩
abbrev main_call0_call0_v143 : Ref sig .tc := ⟨.hbm, 217, rfl⟩
abbrev main_call0_call0_v144 : Ref sig .tc := ⟨.hbm, 218, rfl⟩
abbrev main_call0_call0_c_37 : Ref sig .tc := ⟨.hbm, 219, rfl⟩
abbrev main_call0_call0_v145 : Ref sig .tc := ⟨.hbm, 220, rfl⟩
abbrev main_call0_call0_v146 : Ref sig .tc := ⟨.hbm, 221, rfl⟩
abbrev main_call0_call0_v147 : Ref sig .tc := ⟨.hbm, 222, rfl⟩
abbrev main_call0_call0_v148 : Ref sig .tc := ⟨.hbm, 223, rfl⟩
abbrev main_call0_call0_v149 : Ref sig .tc := ⟨.hbm, 224, rfl⟩
abbrev main_call0_call0_c_38 : Ref sig .tc := ⟨.hbm, 225, rfl⟩
abbrev main_call0_call0_v150 : Ref sig .tc := ⟨.hbm, 226, rfl⟩
abbrev main_call0_call0_v151 : Ref sig .tc := ⟨.hbm, 227, rfl⟩
abbrev main_call0_call0_c_39 : Ref sig .tc := ⟨.hbm, 228, rfl⟩
abbrev main_call0_call0_v152 : Ref sig .tc := ⟨.hbm, 229, rfl⟩
abbrev main_call0_call0_v153 : Ref sig .tc := ⟨.hbm, 230, rfl⟩
abbrev main_call0_call0_v154 : Ref sig .tc := ⟨.hbm, 231, rfl⟩
abbrev main_call0_call0_v155 : Ref sig .tc := ⟨.hbm, 232, rfl⟩
abbrev main_call0_call0_v156 : Ref sig .tc := ⟨.hbm, 233, rfl⟩
abbrev main_call0_call0_c_40 : Ref sig .tc := ⟨.hbm, 234, rfl⟩
abbrev main_call0_call0_v157 : Ref sig .tc := ⟨.hbm, 235, rfl⟩
abbrev main_call0_call0_v158 : Ref sig .tc := ⟨.hbm, 236, rfl⟩
abbrev main_call0_call0_c_41 : Ref sig .tc := ⟨.hbm, 237, rfl⟩
abbrev main_call0_call0_v159 : Ref sig .tc := ⟨.hbm, 238, rfl⟩
abbrev main_call0_call0_v160 : Ref sig .tc := ⟨.hbm, 239, rfl⟩
abbrev main_call0_call0_v161 : Ref sig .tc := ⟨.hbm, 240, rfl⟩
abbrev main_call0_call0_v162 : Ref sig .tc := ⟨.hbm, 241, rfl⟩
abbrev main_call0_call0_v163 : Ref sig .tc := ⟨.hbm, 242, rfl⟩
abbrev main_call0_call0_c_42 : Ref sig .tc := ⟨.hbm, 243, rfl⟩
abbrev main_call0_call0_v164 : Ref sig .tc := ⟨.hbm, 244, rfl⟩
abbrev main_call0_call0_v165 : Ref sig .tc := ⟨.hbm, 245, rfl⟩
abbrev main_call0_call0_c_43 : Ref sig .tc := ⟨.hbm, 246, rfl⟩
abbrev main_call0_call0_v166 : Ref sig .tc := ⟨.hbm, 247, rfl⟩
abbrev main_call0_call0_v167 : Ref sig .tc := ⟨.hbm, 248, rfl⟩
abbrev main_call0_call0_v168 : Ref sig .tc := ⟨.hbm, 249, rfl⟩
abbrev main_call0_call0_v169 : Ref sig .tc := ⟨.hbm, 250, rfl⟩
abbrev main_call0_call0_v170 : Ref sig .tc := ⟨.hbm, 251, rfl⟩
abbrev main_call0_v19_0 : Ref sig .tc := ⟨.hbm, 252, rfl⟩
abbrev main_call0_call0_v172 : Ref sig .tc := ⟨.hbm, 253, rfl⟩
abbrev main_call0_call0_v173 : Ref sig .tc := ⟨.hbm, 254, rfl⟩
abbrev main_call0_call0_c_44 : Ref sig .tc := ⟨.hbm, 255, rfl⟩
abbrev main_call0_call0_v174 : Ref sig .tc := ⟨.hbm, 256, rfl⟩
abbrev main_call0_v19_1 : Ref sig .tc := ⟨.hbm, 257, rfl⟩
abbrev main_call0_v20 : Ref sig .tc := ⟨.hbm, 258, rfl⟩
abbrev main_call0_c_2 : Ref sig .tc := ⟨.hbm, 259, rfl⟩
abbrev main_call0_v21 : Ref sig .tc := ⟨.hbm, 260, rfl⟩
abbrev main_call0_v22 : Ref sig .tc := ⟨.hbm, 261, rfl⟩
abbrev main_call0_c_3 : Ref sig .tc := ⟨.hbm, 262, rfl⟩
abbrev main_call0_v23 : Ref sig .tc := ⟨.hbm, 263, rfl⟩
abbrev main_call0_v24 : Ref sig .tc := ⟨.hbm, 264, rfl⟩
abbrev main_call0_v25 : Ref sig .tc := ⟨.hbm, 265, rfl⟩
abbrev main_call0_cst : Ref sig .tc := ⟨.hbm, 266, rfl⟩
abbrev main_call0_v26 : Ref sig .tc := ⟨.hbm, 267, rfl⟩
abbrev main_call0_v27 : Ref sig .tc := ⟨.hbm, 268, rfl⟩
abbrev main_call0_v28 : Ref sig .tc := ⟨.hbm, 269, rfl⟩
abbrev main_call0_v29 : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_v7 : Ref sig .tc := ⟨.hbm, 275, rfl⟩
abbrev main_cst_3 : Ref sig .tc := ⟨.hbm, 276, rfl⟩
abbrev main_v8 : Ref sig .tc := ⟨.hbm, 277, rfl⟩
abbrev main_v9 : Ref sig .tc := ⟨.hbm, 278, rfl⟩
abbrev main_v10 : Ref sig .tc := ⟨.hbm, 279, rfl⟩
abbrev main_v11 : Ref sig .tc := ⟨.hbm, 280, rfl⟩
abbrev main_cst_4 : Ref sig .tc := ⟨.hbm, 281, rfl⟩
abbrev main_v12 : Ref sig .tc := ⟨.hbm, 282, rfl⟩
abbrev main_v13 : Ref sig .tc := ⟨.hbm, 283, rfl⟩
abbrev main_v14 : Ref sig .tc := ⟨.hbm, 284, rfl⟩
abbrev main_v15 : Ref sig .tc := ⟨.hbm, 285, rfl⟩
abbrev main_v16 : Ref sig .tc := ⟨.hbm, 286, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let v3 : Index := Scalar.indexCast arg0
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x32768 : Shape := ⟨2, ![1, 32768]⟩
abbrev S32x2048 : Shape := ⟨2, ![32, 2048]⟩
abbrev S_ : Shape := ⟨0, ![]⟩
abbrev S1 : Shape := ⟨1, ![1]⟩
abbrev S2 : Shape := ⟨1, ![2]⟩
abbrev S1x1x1 : Shape := ⟨3, ![1, 1, 1]⟩
abbrev S32x1x32768 : Shape := ⟨3, ![32, 1, 32768]⟩
abbrev S1x1x32768 : Shape := ⟨3, ![1, 1, 32768]⟩
abbrev S32x1x16 : Shape := ⟨3, ![32, 1, 16]⟩
abbrev S32x16 : Shape := ⟨2, ![32, 16]⟩
abbrev S32x16x1 : Shape := ⟨3, ![32, 16, 1]⟩
abbrev S32x16x32768 : Shape := ⟨3, ![32, 16, 32768]⟩
abbrev S1x1x1x1x1x32768 : Shape := ⟨6, ![1, 1, 1, 1, 1, 32768]⟩
abbrev S32x1x16x1x1x32768 : Shape := ⟨6, ![32, 1, 16, 1, 1, 32768]⟩
abbrev S1x32x1x1x1x32768 : Shape := ⟨6, ![1, 32, 1, 1, 1, 32768]⟩
abbrev S1x32x16x1x1x32768 : Shape := ⟨6, ![1, 32, 16, 1, 1, 32768]⟩
abbrev S512x32768 : Shape := ⟨2, ![512, 32768]⟩

abbrev nBuf : Space → Nat
  | .hbm => 347
  | .vmem => 0
  | .smem => 0
  | _ => 0

abbrev hbmTy0_0 (i : Nat) : BufTy := match i % 128 with
  | 0 => ⟨S1x32768, .f32⟩
  | 1 => ⟨S32x2048, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1x1x1, .f32⟩
  | 17 => ⟨S1x1x1, .f32⟩
  | 18 => ⟨S1, .i32⟩
  | 19 => ⟨S_, .i32⟩
  | 20 => ⟨S1, .i32⟩
  | 21 => ⟨S_, .i32⟩
  | 22 => ⟨S32x1x32768, .i64⟩
  | 23 => ⟨S32x1x32768, .i64⟩
  | 24 => ⟨S32x1x32768, .i64⟩
  | 25 => ⟨S_, .i64⟩
  | 26 => ⟨S32x1x32768, .i64⟩
  | 27 => ⟨S32x1x32768, .i64⟩
  | 28 => ⟨S_, .i64⟩
  | 29 => ⟨S32x1x32768, .i64⟩
  | 30 => ⟨S32x1x32768, .i64⟩
  | 31 => ⟨S_, .i64⟩
  | 32 => ⟨S32x1x32768, .i64⟩
  | 33 => ⟨S32x1x32768, .i64⟩
  | 34 => ⟨S32x1x32768, .i64⟩
  | 35 => ⟨S32x1x32768, .i64⟩
  | 36 => ⟨S_, .i64⟩
  | 37 => ⟨S32x1x32768, .i64⟩
  | 38 => ⟨S32x1x32768, .i64⟩
  | 39 => ⟨S32x1x32768, .i32⟩
  | 40 => ⟨S32x1x32768, .i32⟩
  | 41 => ⟨S_, .i32⟩
  | 42 => ⟨S_, .i32⟩
  | 43 => ⟨S_, .i32⟩
  | 44 => ⟨S32x1x32768, .i32⟩
  | 45 => ⟨S32x1x32768, .i32⟩
  | 46 => ⟨S32x1x32768, .i32⟩
  | 47 => ⟨S32x1x32768, .i32⟩
  | 48 => ⟨S32x1x32768, .i32⟩
  | 49 => ⟨S_, .i32⟩
  | 50 => ⟨S32x1x32768, .i32⟩
  | 51 => ⟨S32x1x32768, .i32⟩
  | 52 => ⟨S_, .i32⟩
  | 53 => ⟨S32x1x32768, .i32⟩
  | 54 => ⟨S32x1x32768, .i32⟩
  | 55 => ⟨S32x1x32768, .i32⟩
  | 56 => ⟨S32x1x32768, .i32⟩
  | 57 => ⟨S32x1x32768, .i32⟩
  | 58 => ⟨S_, .i32⟩
  | 59 => ⟨S32x1x32768, .i32⟩
  | 60 => ⟨S32x1x32768, .i32⟩
  | 61 => ⟨S_, .i32⟩
  | 62 => ⟨S32x1x32768, .i32⟩
  | 63 => ⟨S32x1x32768, .i32⟩
  | 64 => ⟨S32x1x32768, .i32⟩
  | 65 => ⟨S32x1x32768, .i32⟩
  | 66 => ⟨S32x1x32768, .i32⟩
  | 67 => ⟨S_, .i32⟩
  | 68 => ⟨S32x1x32768, .i32⟩
  | 69 => ⟨S32x1x32768, .i32⟩
  | 70 => ⟨S_, .i32⟩
  | 71 => ⟨S32x1x32768, .i32⟩
  | 72 => ⟨S32x1x32768, .i32⟩
  | 73 => ⟨S32x1x32768, .i32⟩
  | 74 => ⟨S32x1x32768, .i32⟩
  | 75 => ⟨S32x1x32768, .i32⟩
  | 76 => ⟨S_, .i32⟩
  | 77 => ⟨S32x1x32768, .i32⟩
  | 78 => ⟨S32x1x32768, .i32⟩
  | 79 => ⟨S_, .i32⟩
  | 80 => ⟨S32x1x32768, .i32⟩
  | 81 => ⟨S32x1x32768, .i32⟩
  | 82 => ⟨S32x1x32768, .i32⟩
  | 83 => ⟨S32x1x32768, .i32⟩
  | 84 => ⟨S32x1x32768, .i32⟩
  | 85 => ⟨S32x1x32768, .i32⟩
  | 86 => ⟨S32x1x32768, .i32⟩
  | 87 => ⟨S32x1x32768, .i32⟩
  | 88 => ⟨S_, .i32⟩
  | 89 => ⟨S32x1x32768, .i32⟩
  | 90 => ⟨S32x1x32768, .i32⟩
  | 91 => ⟨S32x1x32768, .i32⟩
  | 92 => ⟨S_, .i32⟩
  | 93 => ⟨S32x1x32768, .i32⟩
  | 94 => ⟨S32x1x32768, .i32⟩
  | 95 => ⟨S_, .i32⟩
  | 96 => ⟨S32x1x32768, .i32⟩
  | 97 => ⟨S32x1x32768, .i32⟩
  | 98 => ⟨S32x1x32768, .i32⟩
  | 99 => ⟨S32x1x32768, .i32⟩
  | 100 => ⟨S32x1x32768, .i32⟩
  | 101 => ⟨S_, .i32⟩
  | 102 => ⟨S32x1x32768, .i32⟩
  | 103 => ⟨S32x1x32768, .i32⟩
  | 104 => ⟨S_, .i32⟩
  | 105 => ⟨S32x1x32768, .i32⟩
  | 106 => ⟨S32x1x32768, .i32⟩
  | 107 => ⟨S32x1x32768, .i32⟩
  | 108 => ⟨S32x1x32768, .i32⟩
  | 109 => ⟨S32x1x32768, .i32⟩
  | 110 => ⟨S_, .i32⟩
  | 111 => ⟨S32x1x32768, .i32⟩
  | 112 => ⟨S32x1x32768, .i32⟩
  | 113 => ⟨S_, .i32⟩
  | 114 => ⟨S32x1x32768, .i32⟩
  | 115 => ⟨S32x1x32768, .i32⟩
  | 116 => ⟨S32x1x32768, .i32⟩
  | 117 => ⟨S32x1x32768, .i32⟩
  | 118 => ⟨S32x1x32768, .i32⟩
  | 119 => ⟨S_, .i32⟩
  | 120 => ⟨S32x1x32768, .i32⟩
  | 121 => ⟨S32x1x32768, .i32⟩
  | 122 => ⟨S_, .i32⟩
  | 123 => ⟨S32x1x32768, .i32⟩
  | 124 => ⟨S32x1x32768, .i32⟩
  | 125 => ⟨S32x1x32768, .i32⟩
  | 126 => ⟨S32x1x32768, .i32⟩
  | 127 => ⟨S32x1x32768, .i32⟩
  | _ => ⟨S1x32768, .f32⟩

abbrev hbmTy0_1 (i : Nat) : BufTy := match i % 128 with
  | 0 => ⟨S32x1x32768, .i32⟩
  | 1 => ⟨S32x1x32768, .i32⟩
  | 2 => ⟨S32x1x32768, .i32⟩
  | 3 => ⟨S_, .i32⟩
  | 4 => ⟨S32x1x32768, .i32⟩
  | 5 => ⟨S32x1x32768, .i32⟩
  | 6 => ⟨S32x1x32768, .i32⟩
  | 7 => ⟨S_, .i32⟩
  | 8 => ⟨S32x1x32768, .i32⟩
  | 9 => ⟨S32x1x32768, .i32⟩
  | 10 => ⟨S_, .i32⟩
  | 11 => ⟨S32x1x32768, .i32⟩
  | 12 => ⟨S32x1x32768, .i32⟩
  | 13 => ⟨S32x1x32768, .i32⟩
  | 14 => ⟨S32x1x32768, .i32⟩
  | 15 => ⟨S32x1x32768, .i32⟩
  | 16 => ⟨S_, .i32⟩
  | 17 => ⟨S32x1x32768, .i32⟩
  | 18 => ⟨S32x1x32768, .i32⟩
  | 19 => ⟨S_, .i32⟩
  | 20 => ⟨S32x1x32768, .i32⟩
  | 21 => ⟨S32x1x32768, .i32⟩
  | 22 => ⟨S32x1x32768, .i32⟩
  | 23 => ⟨S32x1x32768, .i32⟩
  | 24 => ⟨S32x1x32768, .i32⟩
  | 25 => ⟨S_, .i32⟩
  | 26 => ⟨S32x1x32768, .i32⟩
  | 27 => ⟨S32x1x32768, .i32⟩
  | 28 => ⟨S_, .i32⟩
  | 29 => ⟨S32x1x32768, .i32⟩
  | 30 => ⟨S32x1x32768, .i32⟩
  | 31 => ⟨S32x1x32768, .i32⟩
  | 32 => ⟨S32x1x32768, .i32⟩
  | 33 => ⟨S32x1x32768, .i32⟩
  | 34 => ⟨S_, .i32⟩
  | 35 => ⟨S32x1x32768, .i32⟩
  | 36 => ⟨S32x1x32768, .i32⟩
  | 37 => ⟨S_, .i32⟩
  | 38 => ⟨S32x1x32768, .i32⟩
  | 39 => ⟨S32x1x32768, .i32⟩
  | 40 => ⟨S32x1x32768, .i32⟩
  | 41 => ⟨S32x1x32768, .i32⟩
  | 42 => ⟨S32x1x32768, .i32⟩
  | 43 => ⟨S32x1x32768, .i32⟩
  | 44 => ⟨S32x1x32768, .i32⟩
  | 45 => ⟨S32x1x32768, .i32⟩
  | 46 => ⟨S_, .i32⟩
  | 47 => ⟨S32x1x32768, .i32⟩
  | 48 => ⟨S32x1x32768, .i32⟩
  | 49 => ⟨S32x1x32768, .i32⟩
  | 50 => ⟨S_, .i32⟩
  | 51 => ⟨S32x1x32768, .i32⟩
  | 52 => ⟨S32x1x32768, .i32⟩
  | 53 => ⟨S_, .i32⟩
  | 54 => ⟨S32x1x32768, .i32⟩
  | 55 => ⟨S32x1x32768, .i32⟩
  | 56 => ⟨S32x1x32768, .i32⟩
  | 57 => ⟨S32x1x32768, .i32⟩
  | 58 => ⟨S32x1x32768, .i32⟩
  | 59 => ⟨S_, .i32⟩
  | 60 => ⟨S32x1x32768, .i32⟩
  | 61 => ⟨S32x1x32768, .i32⟩
  | 62 => ⟨S_, .i32⟩
  | 63 => ⟨S32x1x32768, .i32⟩
  | 64 => ⟨S32x1x32768, .i32⟩
  | 65 => ⟨S32x1x32768, .i32⟩
  | 66 => ⟨S32x1x32768, .i32⟩
  | 67 => ⟨S32x1x32768, .i32⟩
  | 68 => ⟨S_, .i32⟩
  | 69 => ⟨S32x1x32768, .i32⟩
  | 70 => ⟨S32x1x32768, .i32⟩
  | 71 => ⟨S_, .i32⟩
  | 72 => ⟨S32x1x32768, .i32⟩
  | 73 => ⟨S32x1x32768, .i32⟩
  | 74 => ⟨S32x1x32768, .i32⟩
  | 75 => ⟨S32x1x32768, .i32⟩
  | 76 => ⟨S32x1x32768, .i32⟩
  | 77 => ⟨S_, .i32⟩
  | 78 => ⟨S32x1x32768, .i32⟩
  | 79 => ⟨S32x1x32768, .i32⟩
  | 80 => ⟨S_, .i32⟩
  | 81 => ⟨S32x1x32768, .i32⟩
  | 82 => ⟨S32x1x32768, .i32⟩
  | 83 => ⟨S32x1x32768, .i32⟩
  | 84 => ⟨S32x1x32768, .i32⟩
  | 85 => ⟨S32x1x32768, .i32⟩
  | 86 => ⟨S32x1x32768, .i32⟩
  | 87 => ⟨S32x1x32768, .i32⟩
  | 88 => ⟨S32x1x32768, .i32⟩
  | 89 => ⟨S_, .i32⟩
  | 90 => ⟨S32x1x32768, .i32⟩
  | 91 => ⟨S32x1x32768, .i32⟩
  | 92 => ⟨S32x1x32768, .i32⟩
  | 93 => ⟨S_, .i32⟩
  | 94 => ⟨S32x1x32768, .i32⟩
  | 95 => ⟨S32x1x32768, .i32⟩
  | 96 => ⟨S_, .i32⟩
  | 97 => ⟨S32x1x32768, .i32⟩
  | 98 => ⟨S32x1x32768, .i32⟩
  | 99 => ⟨S32x1x32768, .i32⟩
  | 100 => ⟨S32x1x32768, .i32⟩
  | 101 => ⟨S32x1x32768, .i32⟩
  | 102 => ⟨S_, .i32⟩
  | 103 => ⟨S32x1x32768, .i32⟩
  | 104 => ⟨S32x1x32768, .i32⟩
  | 105 => ⟨S_, .i32⟩
  | 106 => ⟨S32x1x32768, .i32⟩
  | 107 => ⟨S32x1x32768, .i32⟩
  | 108 => ⟨S32x1x32768, .i32⟩
  | 109 => ⟨S32x1x32768, .i32⟩
  | 110 => ⟨S32x1x32768, .i32⟩
  | 111 => ⟨S_, .i32⟩
  | 112 => ⟨S32x1x32768, .i32⟩
  | 113 => ⟨S32x1x32768, .i32⟩
  | 114 => ⟨S_, .i32⟩
  | 115 => ⟨S32x1x32768, .i32⟩
  | 116 => ⟨S32x1x32768, .i32⟩
  | 117 => ⟨S32x1x32768, .i32⟩
  | 118 => ⟨S32x1x32768, .i32⟩
  | 119 => ⟨S32x1x32768, .i32⟩
  | 120 => ⟨S_, .i32⟩
  | 121 => ⟨S32x1x32768, .i32⟩
  | 122 => ⟨S32x1x32768, .i32⟩
  | 123 => ⟨S_, .i32⟩
  | 124 => ⟨S32x1x32768, .i32⟩
  | 125 => ⟨S32x1x32768, .i32⟩
  | 126 => ⟨S32x1x32768, .i32⟩
  | 127 => ⟨S32x1x32768, .i32⟩
  | _ => ⟨S1x32768, .f32⟩

abbrev hbmTy0_2 (i : Nat) : BufTy := match i % 128 with
  | 0 => ⟨S32x1x32768, .i32⟩
  | 1 => ⟨S32x1x32768, .i32⟩
  | 2 => ⟨S32x1x32768, .i32⟩
  | 3 => ⟨S32x1x32768, .i32⟩
  | 4 => ⟨S_, .i32⟩
  | 5 => ⟨S32x1x32768, .i32⟩
  | 6 => ⟨S32x1x32768, .i32⟩
  | 7 => ⟨S32x1x32768, .i32⟩
  | 8 => ⟨S_, .i32⟩
  | 9 => ⟨S32x1x32768, .i32⟩
  | 10 => ⟨S32x1x32768, .i32⟩
  | 11 => ⟨S_, .i32⟩
  | 12 => ⟨S32x1x32768, .i32⟩
  | 13 => ⟨S32x1x32768, .i32⟩
  | 14 => ⟨S32x1x32768, .f32⟩
  | 15 => ⟨S_, .f32⟩
  | 16 => ⟨S32x1x32768, .f32⟩
  | 17 => ⟨S32x1x32768, .f32⟩
  | 18 => ⟨S1x1x1, .f32⟩
  | 19 => ⟨S32x1x32768, .f32⟩
  | 20 => ⟨S32x1x32768, .f32⟩
  | 21 => ⟨S32x1x32768, .f32⟩
  | 22 => ⟨S32x1x32768, .f32⟩
  | 23 => ⟨S32x1x32768, .f32⟩
  | 24 => ⟨S32x1x32768, .f32⟩
  | 25 => ⟨S_, .f32⟩
  | 26 => ⟨S32x1x32768, .f32⟩
  | 27 => ⟨S32x1x32768, .f32⟩
  | 28 => ⟨S32x1x32768, .f32⟩
  | 29 => ⟨S32x1x32768, .f32⟩
  | 30 => ⟨S_, .f32⟩
  | 31 => ⟨S32x1x32768, .f32⟩
  | 32 => ⟨S32x1x32768, .f32⟩
  | 33 => ⟨S32x1x32768, .f32⟩
  | 34 => ⟨S32x1x32768, .f32⟩
  | 35 => ⟨S1x1x32768, .f32⟩
  | 36 => ⟨S32x1x32768, .f32⟩
  | 37 => ⟨S32x1x32768, .f32⟩
  | 38 => ⟨S32x1x16, .f32⟩
  | 39 => ⟨S32x1x16, .i32⟩
  | 40 => ⟨S32x16, .i32⟩
  | 41 => ⟨S32x16x1, .i32⟩
  | 42 => ⟨S1x1x32768, .i32⟩
  | 43 => ⟨S32x16x32768, .i32⟩
  | 44 => ⟨S32x16x32768, .i32⟩
  | 45 => ⟨S32x16x32768, .i1⟩
  | 46 => ⟨S32x16x32768, .f32⟩
  | 47 => ⟨S_, .f32⟩
  | 48 => ⟨S_, .f32⟩
  | 49 => ⟨S_, .f32⟩
  | 50 => ⟨S1x32768, .f32⟩
  | 51 => ⟨S1x1x32768, .f32⟩
  | 52 => ⟨S1x1x1x1x1x32768, .f32⟩
  | 53 => ⟨S32x1x16x1x1x32768, .f32⟩
  | 54 => ⟨S32x16x32768, .f32⟩
  | 55 => ⟨S_, .f32⟩
  | 56 => ⟨S_, .f32⟩
  | 57 => ⟨S32x16x32768, .f32⟩
  | 58 => ⟨S32x16x32768, .f32⟩
  | 59 => ⟨S_, .f32⟩
  | 60 => ⟨S32x16x32768, .f32⟩
  | 61 => ⟨S32x16x32768, .f32⟩
  | 62 => ⟨S_, .f32⟩
  | 63 => ⟨S32x16x32768, .f32⟩
  | 64 => ⟨S32x16x32768, .f32⟩
  | 65 => ⟨S32x16x32768, .f32⟩
  | 66 => ⟨S32x16x32768, .f32⟩
  | 67 => ⟨S1x32x1x1x1x32768, .f32⟩
  | 68 => ⟨S1x32x16x1x1x32768, .f32⟩
  | 69 => ⟨S32x16x32768, .f32⟩
  | 70 => ⟨S32x16x32768, .f32⟩
  | 71 => ⟨S_, .f32⟩
  | 72 => ⟨S32x16x32768, .f32⟩
  | 73 => ⟨S32x16x32768, .f32⟩
  | 74 => ⟨S_, .f32⟩
  | 75 => ⟨S32x16, .f32⟩
  | 76 => ⟨S_, .f32⟩
  | 77 => ⟨S32x16, .f32⟩
  | 78 => ⟨S32x16, .f32⟩
  | 79 => ⟨S32x16x1, .f32⟩
  | 80 => ⟨S32x16x32768, .f32⟩
  | 81 => ⟨S32x16x32768, .f32⟩
  | 82 => ⟨S32x16x32768, .f32⟩
  | 83 => ⟨S_, .f32⟩
  | 84 => ⟨S32x16, .f32⟩
  | 85 => ⟨S32x16x1, .f32⟩
  | 86 => ⟨S32x16x32768, .f32⟩
  | 87 => ⟨S32x16x32768, .f32⟩
  | 88 => ⟨S32x16x32768, .f32⟩
  | 89 => ⟨S32x16x32768, .f32⟩
  | 90 => ⟨S512x32768, .f32⟩
  | _ => ⟨S1x32768, .f32⟩

abbrev hbmTy (i : Nat) : BufTy := match i / 128 with
  | 0 => hbmTy0_0 i
  | 1 => hbmTy0_1 i
  | 2 => hbmTy0_2 i
  | _ => ⟨S1x32768, .f32⟩

abbrev bufTy : (tb : Table) → Fin (tcTables nBuf tb) → BufTy
  | .hbm, ⟨i, _⟩ => hbmTy i
  | _, _ => ⟨S1x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_c : Ref sig .tc := ⟨.hbm, 25, rfl⟩
abbrev main_call0_v11 : Ref sig .tc := ⟨.hbm, 26, rfl⟩
abbrev main_call0_v12 : Ref sig .tc := ⟨.hbm, 27, rfl⟩
abbrev main_call0_c_0 : Ref sig .tc := ⟨.hbm, 28, rfl⟩
abbrev main_call0_v13 : Ref sig .tc := ⟨.hbm, 29, rfl⟩
abbrev main_call0_v14 : Ref sig .tc := ⟨.hbm, 30, rfl⟩
abbrev main_call0_c_1 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_c_2 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_call0_v0 : Ref sig .tc := ⟨.hbm, 41, rfl⟩
abbrev main_call0_call0_c : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_c_0 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_c_1 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_call0_v12 : Ref sig .tc := ⟨.hbm, 56, rfl⟩
abbrev main_call0_call0_v13 : Ref sig .tc := ⟨.hbm, 57, rfl⟩
abbrev main_call0_call0_c_2 : Ref sig .tc := ⟨.hbm, 58, rfl⟩
abbrev main_call0_call0_v14 : Ref sig .tc := ⟨.hbm, 59, rfl⟩
abbrev main_call0_call0_v15 : Ref sig .tc := ⟨.hbm, 60, rfl⟩
abbrev main_call0_call0_c_3 : Ref sig .tc := ⟨.hbm, 61, rfl⟩
abbrev main_call0_call0_v16 : Ref sig .tc := ⟨.hbm, 62, rfl⟩
abbrev main_call0_call0_v17 : Ref sig .tc := ⟨.hbm, 63, rfl⟩
abbrev main_call0_call0_v18 : Ref sig .tc := ⟨.hbm, 64, rfl⟩
abbrev main_call0_call0_v19 : Ref sig .tc := ⟨.hbm, 65, rfl⟩
abbrev main_call0_call0_v20 : Ref sig .tc := ⟨.hbm, 66, rfl⟩
abbrev main_call0_call0_c_4 : Ref sig .tc := ⟨.hbm, 67, rfl⟩
abbrev main_call0_call0_v21 : Ref sig .tc := ⟨.hbm, 68, rfl⟩
abbrev main_call0_call0_v22 : Ref sig .tc := ⟨.hbm, 69, rfl⟩
abbrev main_call0_call0_c_5 : Ref sig .tc := ⟨.hbm, 70, rfl⟩
abbrev main_call0_call0_v23 : Ref sig .tc := ⟨.hbm, 71, rfl⟩
abbrev main_call0_call0_v24 : Ref sig .tc := ⟨.hbm, 72, rfl⟩
abbrev main_call0_call0_v25 : Ref sig .tc := ⟨.hbm, 73, rfl⟩
abbrev main_call0_call0_v26 : Ref sig .tc := ⟨.hbm, 74, rfl⟩
abbrev main_call0_call0_v27 : Ref sig .tc := ⟨.hbm, 75, rfl⟩
abbrev main_call0_call0_c_6 : Ref sig .tc := ⟨.hbm, 76, rfl⟩
abbrev main_call0_call0_v28 : Ref sig .tc := ⟨.hbm, 77, rfl⟩
abbrev main_call0_call0_v29 : Ref sig .tc := ⟨.hbm, 78, rfl⟩
abbrev main_call0_call0_c_7 : Ref sig .tc := ⟨.hbm, 79, rfl⟩
abbrev main_call0_call0_v30 : Ref sig .tc := ⟨.hbm, 80, rfl⟩
abbrev main_call0_call0_v31 : Ref sig .tc := ⟨.hbm, 81, rfl⟩
abbrev main_call0_call0_v32 : Ref sig .tc := ⟨.hbm, 82, rfl⟩
abbrev main_call0_call0_v33 : Ref sig .tc := ⟨.hbm, 83, rfl⟩
abbrev main_call0_call0_v34 : Ref sig .tc := ⟨.hbm, 84, rfl⟩
abbrev main_call0_call0_v35 : Ref sig .tc := ⟨.hbm, 85, rfl⟩
abbrev main_call0_call0_v36 : Ref sig .tc := ⟨.hbm, 86, rfl⟩
abbrev main_call0_call0_v37 : Ref sig .tc := ⟨.hbm, 87, rfl⟩
abbrev main_call0_call0_c_8 : Ref sig .tc := ⟨.hbm, 88, rfl⟩
abbrev main_call0_call0_v38 : Ref sig .tc := ⟨.hbm, 89, rfl⟩
abbrev main_call0_call0_v39 : Ref sig .tc := ⟨.hbm, 90, rfl⟩
abbrev main_call0_call0_v40 : Ref sig .tc := ⟨.hbm, 91, rfl⟩
abbrev main_call0_call0_c_9 : Ref sig .tc := ⟨.hbm, 92, rfl⟩
abbrev main_call0_call0_v41 : Ref sig .tc := ⟨.hbm, 93, rfl⟩
abbrev main_call0_call0_v42 : Ref sig .tc := ⟨.hbm, 94, rfl⟩
abbrev main_call0_call0_c_10 : Ref sig .tc := ⟨.hbm, 95, rfl⟩
abbrev main_call0_call0_v43 : Ref sig .tc := ⟨.hbm, 96, rfl⟩
abbrev main_call0_call0_v44 : Ref sig .tc := ⟨.hbm, 97, rfl⟩
abbrev main_call0_call0_v45 : Ref sig .tc := ⟨.hbm, 98, rfl⟩
abbrev main_call0_call0_v46 : Ref sig .tc := ⟨.hbm, 99, rfl⟩
abbrev main_call0_call0_v47 : Ref sig .tc := ⟨.hbm, 100, rfl⟩
abbrev main_call0_call0_c_11 : Ref sig .tc := ⟨.hbm, 101, rfl⟩
abbrev main_call0_call0_v48 : Ref sig .tc := ⟨.hbm, 102, rfl⟩
abbrev main_call0_call0_v49 : Ref sig .tc := ⟨.hbm, 103, rfl⟩
abbrev main_call0_call0_c_12 : Ref sig .tc := ⟨.hbm, 104, rfl⟩
abbrev main_call0_call0_v50 : Ref sig .tc := ⟨.hbm, 105, rfl⟩
abbrev main_call0_call0_v51 : Ref sig .tc := ⟨.hbm, 106, rfl⟩
abbrev main_call0_call0_v52 : Ref sig .tc := ⟨.hbm, 107, rfl⟩
abbrev main_call0_call0_v53 : Ref sig .tc := ⟨.hbm, 108, rfl⟩
abbrev main_call0_call0_v54 : Ref sig .tc := ⟨.hbm, 109, rfl⟩
abbrev main_call0_call0_c_13 : Ref sig .tc := ⟨.hbm, 110, rfl⟩
abbrev main_call0_call0_v55 : Ref sig .tc := ⟨.hbm, 111, rfl⟩
abbrev main_call0_call0_v56 : Ref sig .tc := ⟨.hbm, 112, rfl⟩
abbrev main_call0_call0_c_14 : Ref sig .tc := ⟨.hbm, 113, rfl⟩
abbrev main_call0_call0_v57 : Ref sig .tc := ⟨.hbm, 114, rfl⟩
abbrev main_call0_call0_v58 : Ref sig .tc := ⟨.hbm, 115, rfl⟩
abbrev main_call0_call0_v59 : Ref sig .tc := ⟨.hbm, 116, rfl⟩
abbrev main_call0_call0_v60 : Ref sig .tc := ⟨.hbm, 117, rfl⟩
abbrev main_call0_call0_v61 : Ref sig .tc := ⟨.hbm, 118, rfl⟩
abbrev main_call0_call0_c_15 : Ref sig .tc := ⟨.hbm, 119, rfl⟩
abbrev main_call0_call0_v62 : Ref sig .tc := ⟨.hbm, 120, rfl⟩
abbrev main_call0_call0_v63 : Ref sig .tc := ⟨.hbm, 121, rfl⟩
abbrev main_call0_call0_c_16 : Ref sig .tc := ⟨.hbm, 122, rfl⟩
abbrev main_call0_call0_v64 : Ref sig .tc := ⟨.hbm, 123, rfl⟩
abbrev main_call0_call0_v65 : Ref sig .tc := ⟨.hbm, 124, rfl⟩
abbrev main_call0_call0_v66 : Ref sig .tc := ⟨.hbm, 125, rfl⟩
abbrev main_call0_call0_v67 : Ref sig .tc := ⟨.hbm, 126, rfl⟩
abbrev main_call0_call0_v68 : Ref sig .tc := ⟨.hbm, 127, rfl⟩
abbrev main_call0_call0_v69 : Ref sig .tc := ⟨.hbm, 128, rfl⟩
abbrev main_call0_call0_v70 : Ref sig .tc := ⟨.hbm, 129, rfl⟩
abbrev main_call0_call0_v71 : Ref sig .tc := ⟨.hbm, 130, rfl⟩
abbrev main_call0_call0_c_17 : Ref sig .tc := ⟨.hbm, 131, rfl⟩
abbrev main_call0_call0_v72 : Ref sig .tc := ⟨.hbm, 132, rfl⟩
abbrev main_call0_call0_v73 : Ref sig .tc := ⟨.hbm, 133, rfl⟩
abbrev main_call0_call0_v74 : Ref sig .tc := ⟨.hbm, 134, rfl⟩
abbrev main_call0_call0_c_18 : Ref sig .tc := ⟨.hbm, 135, rfl⟩
abbrev main_call0_call0_v75 : Ref sig .tc := ⟨.hbm, 136, rfl⟩
abbrev main_call0_call0_v76 : Ref sig .tc := ⟨.hbm, 137, rfl⟩
abbrev main_call0_call0_c_19 : Ref sig .tc := ⟨.hbm, 138, rfl⟩
abbrev main_call0_call0_v77 : Ref sig .tc := ⟨.hbm, 139, rfl⟩
abbrev main_call0_call0_v78 : Ref sig .tc := ⟨.hbm, 140, rfl⟩
abbrev main_call0_call0_v79 : Ref sig .tc := ⟨.hbm, 141, rfl⟩
abbrev main_call0_call0_v80 : Ref sig .tc := ⟨.hbm, 142, rfl⟩
abbrev main_call0_call0_v81 : Ref sig .tc := ⟨.hbm, 143, rfl⟩
abbrev main_call0_call0_c_20 : Ref sig .tc := ⟨.hbm, 144, rfl⟩
abbrev main_call0_call0_v82 : Ref sig .tc := ⟨.hbm, 145, rfl⟩
abbrev main_call0_call0_v83 : Ref sig .tc := ⟨.hbm, 146, rfl⟩
abbrev main_call0_call0_c_21 : Ref sig .tc := ⟨.hbm, 147, rfl⟩
abbrev main_call0_call0_v84 : Ref sig .tc := ⟨.hbm, 148, rfl⟩
abbrev main_call0_call0_v85 : Ref sig .tc := ⟨.hbm, 149, rfl⟩
abbrev main_call0_call0_v86 : Ref sig .tc := ⟨.hbm, 150, rfl⟩
abbrev main_call0_call0_v87 : Ref sig .tc := ⟨.hbm, 151, rfl⟩
abbrev main_call0_call0_v88 : Ref sig .tc := ⟨.hbm, 152, rfl⟩
abbrev main_call0_call0_c_22 : Ref sig .tc := ⟨.hbm, 153, rfl⟩
abbrev main_call0_call0_v89 : Ref sig .tc := ⟨.hbm, 154, rfl⟩
abbrev main_call0_call0_v90 : Ref sig .tc := ⟨.hbm, 155, rfl⟩
abbrev main_call0_call0_c_23 : Ref sig .tc := ⟨.hbm, 156, rfl⟩
abbrev main_call0_call0_v91 : Ref sig .tc := ⟨.hbm, 157, rfl⟩
abbrev main_call0_call0_v92 : Ref sig .tc := ⟨.hbm, 158, rfl⟩
abbrev main_call0_call0_v93 : Ref sig .tc := ⟨.hbm, 159, rfl⟩
abbrev main_call0_call0_v94 : Ref sig .tc := ⟨.hbm, 160, rfl⟩
abbrev main_call0_call0_v95 : Ref sig .tc := ⟨.hbm, 161, rfl⟩
abbrev main_call0_call0_c_24 : Ref sig .tc := ⟨.hbm, 162, rfl⟩
abbrev main_call0_call0_v96 : Ref sig .tc := ⟨.hbm, 163, rfl⟩
abbrev main_call0_call0_v97 : Ref sig .tc := ⟨.hbm, 164, rfl⟩
abbrev main_call0_call0_c_25 : Ref sig .tc := ⟨.hbm, 165, rfl⟩
abbrev main_call0_call0_v98 : Ref sig .tc := ⟨.hbm, 166, rfl⟩
abbrev main_call0_call0_v99 : Ref sig .tc := ⟨.hbm, 167, rfl⟩
abbrev main_call0_call0_v100 : Ref sig .tc := ⟨.hbm, 168, rfl⟩
abbrev main_call0_call0_v101 : Ref sig .tc := ⟨.hbm, 169, rfl⟩
abbrev main_call0_call0_v102 : Ref sig .tc := ⟨.hbm, 170, rfl⟩
abbrev main_call0_call0_v103 : Ref sig .tc := ⟨.hbm, 171, rfl⟩
abbrev main_call0_call0_v104 : Ref sig .tc := ⟨.hbm, 172, rfl⟩
abbrev main_call0_call0_v105 : Ref sig .tc := ⟨.hbm, 173, rfl⟩
abbrev main_call0_call0_c_26 : Ref sig .tc := ⟨.hbm, 174, rfl⟩
abbrev main_call0_call0_v106 : Ref sig .tc := ⟨.hbm, 175, rfl⟩
abbrev main_call0_call0_v107 : Ref sig .tc := ⟨.hbm, 176, rfl⟩
abbrev main_call0_call0_v108 : Ref sig .tc := ⟨.hbm, 177, rfl⟩
abbrev main_call0_call0_c_27 : Ref sig .tc := ⟨.hbm, 178, rfl⟩
abbrev main_call0_call0_v109 : Ref sig .tc := ⟨.hbm, 179, rfl⟩
abbrev main_call0_call0_v110 : Ref sig .tc := ⟨.hbm, 180, rfl⟩
abbrev main_call0_call0_c_28 : Ref sig .tc := ⟨.hbm, 181, rfl⟩
abbrev main_call0_call0_v111 : Ref sig .tc := ⟨.hbm, 182, rfl⟩
abbrev main_call0_call0_v112 : Ref sig .tc := ⟨.hbm, 183, rfl⟩
abbrev main_call0_call0_v113 : Ref sig .tc := ⟨.hbm, 184, rfl⟩
abbrev main_call0_call0_v114 : Ref sig .tc := ⟨.hbm, 185, rfl⟩
abbrev main_call0_call0_v115 : Ref sig .tc := ⟨.hbm, 186, rfl⟩
abbrev main_call0_call0_c_29 : Ref sig .tc := ⟨.hbm, 187, rfl⟩
abbrev main_call0_call0_v116 : Ref sig .tc := ⟨.hbm, 188, rfl⟩
abbrev main_call0_call0_v117 : Ref sig .tc := ⟨.hbm, 189, rfl⟩
abbrev main_call0_call0_c_30 : Ref sig .tc := ⟨.hbm, 190, rfl⟩
abbrev main_call0_call0_v118 : Ref sig .tc := ⟨.hbm, 191, rfl⟩
abbrev main_call0_call0_v119 : Ref sig .tc := ⟨.hbm, 192, rfl⟩
abbrev main_call0_call0_v120 : Ref sig .tc := ⟨.hbm, 193, rfl⟩
abbrev main_call0_call0_v121 : Ref sig .tc := ⟨.hbm, 194, rfl⟩
abbrev main_call0_call0_v122 : Ref sig .tc := ⟨.hbm, 195, rfl⟩
abbrev main_call0_call0_c_31 : Ref sig .tc := ⟨.hbm, 196, rfl⟩
abbrev main_call0_call0_v123 : Ref sig .tc := ⟨.hbm, 197, rfl⟩
abbrev main_call0_call0_v124 : Ref sig .tc := ⟨.hbm, 198, rfl⟩
abbrev main_call0_call0_c_32 : Ref sig .tc := ⟨.hbm, 199, rfl⟩
abbrev main_call0_call0_v125 : Ref sig .tc := ⟨.hbm, 200, rfl⟩
abbrev main_call0_call0_v126 : Ref sig .tc := ⟨.hbm, 201, rfl⟩
abbrev main_call0_call0_v127 : Ref sig .tc := ⟨.hbm, 202, rfl⟩
abbrev main_call0_call0_v128 : Ref sig .tc := ⟨.hbm, 203, rfl⟩
abbrev main_call0_call0_v129 : Ref sig .tc := ⟨.hbm, 204, rfl⟩
abbrev main_call0_call0_c_33 : Ref sig .tc := ⟨.hbm, 205, rfl⟩
abbrev main_call0_call0_v130 : Ref sig .tc := ⟨.hbm, 206, rfl⟩
abbrev main_call0_call0_v131 : Ref sig .tc := ⟨.hbm, 207, rfl⟩
abbrev main_call0_call0_c_34 : Ref sig .tc := ⟨.hbm, 208, rfl⟩
abbrev main_call0_call0_v132 : Ref sig .tc := ⟨.hbm, 209, rfl⟩
abbrev main_call0_call0_v133 : Ref sig .tc := ⟨.hbm, 210, rfl⟩
abbrev main_call0_call0_v134 : Ref sig .tc := ⟨.hbm, 211, rfl⟩
abbrev main_call0_call0_v135 : Ref sig .tc := ⟨.hbm, 212, rfl⟩
abbrev main_call0_call0_v136 : Ref sig .tc := ⟨.hbm, 213, rfl⟩
abbrev main_call0_call0_v137 : Ref sig .tc := ⟨.hbm, 214, rfl⟩
abbrev main_call0_call0_v138 : Ref sig .tc := ⟨.hbm, 215, rfl⟩
abbrev main_call0_call0_v139 : Ref sig .tc := ⟨.hbm, 216, rfl⟩
abbrev main_call0_call0_c_35 : Ref sig .tc := ⟨.hbm, 217, rfl⟩
abbrev main_call0_call0_v140 : Ref sig .tc := ⟨.hbm, 218, rfl⟩
abbrev main_call0_call0_v141 : Ref sig .tc := ⟨.hbm, 219, rfl⟩
abbrev main_call0_call0_v142 : Ref sig .tc := ⟨.hbm, 220, rfl⟩
abbrev main_call0_call0_c_36 : Ref sig .tc := ⟨.hbm, 221, rfl⟩
abbrev main_call0_call0_v143 : Ref sig .tc := ⟨.hbm, 222, rfl⟩
abbrev main_call0_call0_v144 : Ref sig .tc := ⟨.hbm, 223, rfl⟩
abbrev main_call0_call0_c_37 : Ref sig .tc := ⟨.hbm, 224, rfl⟩
abbrev main_call0_call0_v145 : Ref sig .tc := ⟨.hbm, 225, rfl⟩
abbrev main_call0_call0_v146 : Ref sig .tc := ⟨.hbm, 226, rfl⟩
abbrev main_call0_call0_v147 : Ref sig .tc := ⟨.hbm, 227, rfl⟩
abbrev main_call0_call0_v148 : Ref sig .tc := ⟨.hbm, 228, rfl⟩
abbrev main_call0_call0_v149 : Ref sig .tc := ⟨.hbm, 229, rfl⟩
abbrev main_call0_call0_c_38 : Ref sig .tc := ⟨.hbm, 230, rfl⟩
abbrev main_call0_call0_v150 : Ref sig .tc := ⟨.hbm, 231, rfl⟩
abbrev main_call0_call0_v151 : Ref sig .tc := ⟨.hbm, 232, rfl⟩
abbrev main_call0_call0_c_39 : Ref sig .tc := ⟨.hbm, 233, rfl⟩
abbrev main_call0_call0_v152 : Ref sig .tc := ⟨.hbm, 234, rfl⟩
abbrev main_call0_call0_v153 : Ref sig .tc := ⟨.hbm, 235, rfl⟩
abbrev main_call0_call0_v154 : Ref sig .tc := ⟨.hbm, 236, rfl⟩
abbrev main_call0_call0_v155 : Ref sig .tc := ⟨.hbm, 237, rfl⟩
abbrev main_call0_call0_v156 : Ref sig .tc := ⟨.hbm, 238, rfl⟩
abbrev main_call0_call0_c_40 : Ref sig .tc := ⟨.hbm, 239, rfl⟩
abbrev main_call0_call0_v157 : Ref sig .tc := ⟨.hbm, 240, rfl⟩
abbrev main_call0_call0_v158 : Ref sig .tc := ⟨.hbm, 241, rfl⟩
abbrev main_call0_call0_c_41 : Ref sig .tc := ⟨.hbm, 242, rfl⟩
abbrev main_call0_call0_v159 : Ref sig .tc := ⟨.hbm, 243, rfl⟩
abbrev main_call0_call0_v160 : Ref sig .tc := ⟨.hbm, 244, rfl⟩
abbrev main_call0_call0_v161 : Ref sig .tc := ⟨.hbm, 245, rfl⟩
abbrev main_call0_call0_v162 : Ref sig .tc := ⟨.hbm, 246, rfl⟩
abbrev main_call0_call0_v163 : Ref sig .tc := ⟨.hbm, 247, rfl⟩
abbrev main_call0_call0_c_42 : Ref sig .tc := ⟨.hbm, 248, rfl⟩
abbrev main_call0_call0_v164 : Ref sig .tc := ⟨.hbm, 249, rfl⟩
abbrev main_call0_call0_v165 : Ref sig .tc := ⟨.hbm, 250, rfl⟩
abbrev main_call0_call0_c_43 : Ref sig .tc := ⟨.hbm, 251, rfl⟩
abbrev main_call0_call0_v166 : Ref sig .tc := ⟨.hbm, 252, rfl⟩
abbrev main_call0_call0_v167 : Ref sig .tc := ⟨.hbm, 253, rfl⟩
abbrev main_call0_call0_v168 : Ref sig .tc := ⟨.hbm, 254, rfl⟩
abbrev main_call0_call0_v169 : Ref sig .tc := ⟨.hbm, 255, rfl⟩
abbrev main_call0_call0_v170 : Ref sig .tc := ⟨.hbm, 256, rfl⟩
abbrev main_call0_v23_0 : Ref sig .tc := ⟨.hbm, 257, rfl⟩
abbrev main_call0_call0_v172 : Ref sig .tc := ⟨.hbm, 258, rfl⟩
abbrev main_call0_call0_v173 : Ref sig .tc := ⟨.hbm, 259, rfl⟩
abbrev main_call0_call0_c_44 : Ref sig .tc := ⟨.hbm, 260, rfl⟩
abbrev main_call0_call0_v174 : Ref sig .tc := ⟨.hbm, 261, rfl⟩
abbrev main_call0_v23_1 : Ref sig .tc := ⟨.hbm, 262, rfl⟩
abbrev main_call0_v24 : Ref sig .tc := ⟨.hbm, 263, rfl⟩
abbrev main_call0_c_3 : Ref sig .tc := ⟨.hbm, 264, rfl⟩
abbrev main_call0_v25 : Ref sig .tc := ⟨.hbm, 265, rfl⟩
abbrev main_call0_v26 : Ref sig .tc := ⟨.hbm, 266, rfl⟩
abbrev main_call0_c_4 : Ref sig .tc := ⟨.hbm, 267, rfl⟩
abbrev main_call0_v27 : Ref sig .tc := ⟨.hbm, 268, rfl⟩
abbrev main_call0_v28 : Ref sig .tc := ⟨.hbm, 269, rfl⟩
abbrev main_call0_v29 : Ref sig .tc := ⟨.hbm, 270, rfl⟩
abbrev main_call0_cst : Ref sig .tc := ⟨.hbm, 271, rfl⟩
abbrev main_call0_v30 : Ref sig .tc := ⟨.hbm, 272, rfl⟩
abbrev main_call0_v31 : Ref sig .tc := ⟨.hbm, 273, rfl⟩
abbrev main_call0_v32 : Ref sig .tc := ⟨.hbm, 274, rfl⟩
abbrev main_call0_v33 : Ref sig .tc := ⟨.hbm, 275, rfl⟩
abbrev main_call0_v34 : Ref sig .tc := ⟨.hbm, 276, rfl⟩
abbrev main_call0_v35 : Ref sig .tc := ⟨.hbm, 277, rfl⟩
abbrev main_call0_v36 : Ref sig .tc := ⟨.hbm, 278, rfl⟩
abbrev main_call0_v37 : Ref sig .tc := ⟨.hbm, 279, rfl⟩
abbrev main_v7 : Ref sig .tc := ⟨.hbm, 280, rfl⟩
abbrev main_cst_3 : Ref sig .tc := ⟨.hbm, 281, rfl⟩
abbrev main_v8 : Ref sig .tc := ⟨.hbm, 282, rfl⟩
abbrev main_v9 : Ref sig .tc := ⟨.hbm, 283, rfl⟩
abbrev main_v10 : Ref sig .tc := ⟨.hbm, 284, rfl⟩
abbrev main_v11 : Ref sig .tc := ⟨.hbm, 285, rfl⟩
abbrev main_cst_4 : Ref sig .tc := ⟨.hbm, 286, rfl⟩
abbrev main_v12 : Ref sig .tc := ⟨.hbm, 287, rfl⟩
abbrev main_v13 : Ref sig .tc := ⟨.hbm, 288, rfl⟩
abbrev main_v14 : Ref sig .tc := ⟨.hbm, 289, rfl⟩
abbrev main_v15 : Ref sig .tc := ⟨.hbm, 290, rfl⟩
abbrev main_v16 : Ref sig .tc := ⟨.hbm, 291, rfl⟩
abbrev main_v17 : Ref sig .tc := ⟨.hbm, 292, rfl⟩
abbrev main_v18 : Ref sig .tc := ⟨.hbm, 293, rfl⟩
abbrev main_values : Ref sig .tc := ⟨.hbm, 294, rfl⟩
abbrev main_indices : Ref sig .tc := ⟨.hbm, 295, rfl⟩
abbrev main_v19 : Ref sig .tc := ⟨.hbm, 296, rfl⟩
abbrev main_call1_v0 : Ref sig .tc := ⟨.hbm, 297, rfl⟩
abbrev main_call1_v1 : Ref sig .tc := ⟨.hbm, 298, rfl⟩
abbrev main_call1_v2 : Ref sig .tc := ⟨.hbm, 299, rfl⟩
abbrev main_call1_v3 : Ref sig .tc := ⟨.hbm, 300, rfl⟩
abbrev main_call1_v4 : Ref sig .tc := ⟨.hbm, 301, rfl⟩
abbrev main_v20 : Ref sig .tc := ⟨.hbm, 302, rfl⟩
abbrev main_cst_5 : Ref sig .tc := ⟨.hbm, 303, rfl⟩
abbrev main_cst_6 : Ref sig .tc := ⟨.hbm, 304, rfl⟩
abbrev main_v21 : Ref sig .tc := ⟨.hbm, 305, rfl⟩
abbrev main_v22 : Ref sig .tc := ⟨.hbm, 306, rfl⟩
abbrev main_v23 : Ref sig .tc := ⟨.hbm, 307, rfl⟩
abbrev main_v24 : Ref sig .tc := ⟨.hbm, 308, rfl⟩
abbrev main_v25 : Ref sig .tc := ⟨.hbm, 309, rfl⟩
abbrev main_v26 : Ref sig .tc := ⟨.hbm, 310, rfl⟩
abbrev main_call2_call0_cst : Ref sig .tc := ⟨.hbm, 311, rfl⟩
abbrev main_call2_call0_v0 : Ref sig .tc := ⟨.hbm, 312, rfl⟩
abbrev main_v27 : Ref sig .tc := ⟨.hbm, 313, rfl⟩
abbrev main_v28 : Ref sig .tc := ⟨.hbm, 314, rfl⟩
abbrev main_cst_7 : Ref sig .tc := ⟨.hbm, 315, rfl⟩
abbrev main_v29 : Ref sig .tc := ⟨.hbm, 316, rfl⟩
abbrev main_v30 : Ref sig .tc := ⟨.hbm, 317, rfl⟩
abbrev main_cst_8 : Ref sig .tc := ⟨.hbm, 318, rfl⟩
abbrev main_v31 : Ref sig .tc := ⟨.hbm, 319, rfl⟩
abbrev main_v32 : Ref sig .tc := ⟨.hbm, 320, rfl⟩
abbrev main_v33 : Ref sig .tc := ⟨.hbm, 321, rfl⟩
abbrev main_v34 : Ref sig .tc := ⟨.hbm, 322, rfl⟩
abbrev main_v35 : Ref sig .tc := ⟨.hbm, 323, rfl⟩
abbrev main_v36 : Ref sig .tc := ⟨.hbm, 324, rfl⟩
abbrev main_v37 : Ref sig .tc := ⟨.hbm, 325, rfl⟩
abbrev main_v38 : Ref sig .tc := ⟨.hbm, 326, rfl⟩
abbrev main_v39 : Ref sig .tc := ⟨.hbm, 327, rfl⟩
abbrev main_v40 : Ref sig .tc := ⟨.hbm, 328, rfl⟩
abbrev main_v41 : Ref sig .tc := ⟨.hbm, 329, rfl⟩
abbrev main_cst_9 : Ref sig .tc := ⟨.hbm, 330, rfl⟩
abbrev main_v42 : Ref sig .tc := ⟨.hbm, 331, rfl⟩
abbrev main_cst_10 : Ref sig .tc := ⟨.hbm, 332, rfl⟩
abbrev main_v43 : Ref sig .tc := ⟨.hbm, 333, rfl⟩
abbrev main_v44 : Ref sig .tc := ⟨.hbm, 334, rfl⟩
abbrev main_v45 : Ref sig .tc := ⟨.hbm, 335, rfl⟩
abbrev main_v46 : Ref sig .tc := ⟨.hbm, 336, rfl⟩
abbrev main_v47 : Ref sig .tc := ⟨.hbm, 337, rfl⟩
abbrev main_v48 : Ref sig .tc := ⟨.hbm, 338, rfl⟩
abbrev main_cst_11 : Ref sig .tc := ⟨.hbm, 339, rfl⟩
abbrev main_v49 : Ref sig .tc := ⟨.hbm, 340, rfl⟩
abbrev main_v50 : Ref sig .tc := ⟨.hbm, 341, rfl⟩
abbrev main_v51 : Ref sig .tc := ⟨.hbm, 342, rfl⟩
abbrev main_v52 : Ref sig .tc := ⟨.hbm, 343, rfl⟩
abbrev main_v53 : Ref sig .tc := ⟨.hbm, 344, rfl⟩
abbrev main_v54 : Ref sig .tc := ⟨.hbm, 345, rfl⟩
abbrev main_v55 : Ref sig .tc := ⟨.hbm, 346, rfl⟩

abbrev nD : Nat := 1
abbrev τ : Topo := Topo.v7x

variable {F : FTy → Type} [FloatOps F]
-- ==== Proof.RefOps.lean ====
/- The reference as a list of host operations: each function's body over its buffers, and @main as one line of operations. -/
module

public import proofs.«01_k».proof.Proof.Gen.ReferenceIdeal
public import Idealize.ShloMosaic.Lib.StableHlo.Run
public import Idealize.ShloMosaic.Lib.Pipeline.Frame
public import Idealize.ShloMosaic.PureOps.Ideal

@[expose] public section

set_option maxRecDepth 8000

noncomputable section

namespace Cert.ReferenceIdeal.Hand

open Idealize.ShloMosaic Idealize.ShloMosaic.TcCoe Idealize.SL.Sem
open Cert.ReferenceIdeal.Gen

variable {F : FTy → Type} [FloatOps F]

abbrev Op (F : FTy → Type) : Type := HloOp τ sig (Elt F)

/-- The generator's operations, stretch 1 of 4. -/
def tf0 (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : List (Op F) :=
  [StableHlo.TRef.binary arg0 arg1 φ.v0 xori,
   StableHlo.TRef.nullary φ.c (constantI S_ 32 466688986#32),
   StableHlo.TRef.binary φ.v0 φ.c φ.v1 xori,
   StableHlo.TRef.unary arg0 φ.v2 (broadcastInDim S32x1x32768 ![] bcast_S_S32x1x32768),
   StableHlo.TRef.binary arg2 φ.v2 φ.v3 addi,
   StableHlo.TRef.unary arg1 φ.v4 (broadcastInDim S32x1x32768 ![] bcast_S_S32x1x32768),
   StableHlo.TRef.binary arg3 φ.v4 φ.v5 addi,
   StableHlo.TRef.binary φ.v3 φ.v5 φ.v6 addi,
   StableHlo.TRef.nullary φ.c_0 (constantI S_ 32 13#32),
   StableHlo.TRef.unary φ.c_0 φ.v7 (broadcastInDim S32x1x32768 ![] bcast_S_S32x1x32768),
   StableHlo.TRef.binary φ.v5 φ.v7 φ.v8 Host.shli,
   StableHlo.TRef.nullary φ.c_1 (constantI S_ 32 19#32),
   StableHlo.TRef.unary φ.c_1 φ.v9 (broadcastInDim S32x1x32768 ![] bcast_S_S32x1x32768),
   StableHlo.TRef.binary φ.v5 φ.v9 φ.v10 Host.shrui,
   StableHlo.TRef.binary φ.v8 φ.v10 φ.v11 ori,
   StableHlo.TRef.binary φ.v6 φ.v11 φ.v12 xori,
   StableHlo.TRef.binary φ.v6 φ.v12 φ.v13 addi,
   StableHlo.TRef.nullary φ.c_2 (constantI S_ 32 15#32),
   StableHlo.TRef.unary φ.c_2 φ.v14 (broadcastInDim S32x1x32768 ![] bcast_S_S32x1x32768),
   StableHlo.TRef.binary φ.v12 φ.v14 φ.v15 Host.shli,
   StableHlo.TRef.nullary φ.c_3 (constantI S_ 32 17#32),
   StableHlo.TRef.unary φ.c_3 φ.v16 (broadcastInDim S32x1x32768 ![] bcast_S_S32x1x32768),
   StableHlo.TRef.binary φ.v12 φ.v16 φ.v17 Host.shrui,
   StableHlo.TRef.binary φ.v15 φ.v17 φ.v18 ori,
   StableHlo.TRef.binary φ.v13 φ.v18 φ.v19 xori,
   StableHlo.TRef.binary φ.v13 φ.v19 φ.v20 addi,
   StableHlo.TRef.nullary φ.c_4 (constantI S_ 32 26#32),
   StableHlo.TRef.unary φ.c_4 φ.v21 (broadcastInDim S32x1x32768 ![] bcast_S_S32x1x32768),
   StableHlo.TRef.binary φ.v19 φ.v21 φ.v22 Host.shli,
   StableHlo.TRef.nullary φ.c_5 (constantI S_ 32 6#32),
   StableHlo.TRef.unary φ.c_5 φ.v23 (broadcastInDim S32x1x32768 ![] bcast_S_S32x1x32768),
   StableHlo.TRef.binary φ.v19 φ.v23 φ.v24 Host.shrui,
   StableHlo.TRef.binary φ.v22 φ.v24 φ.v25 ori,
   StableHlo.TRef.binary φ.v20 φ.v25 φ.v26 xori,
   StableHlo.TRef.binary φ.v20 φ.v26 φ.v27 addi,
   StableHlo.TRef.nullary φ.c_6 (constantI S_ 32 6#32),
   StableHlo.TRef.unary φ.c_6 φ.v28 (broadcastInDim S32x1x32768 ![] bcast_S_S32x1x32768),
   StableHlo.TRef.binary φ.v26 φ.v28 φ.v29 Host.shli,
   StableHlo.TRef.nullary φ.c_7 (constantI S_ 32 26#32),
   StableHlo.TRef.unary φ.c_7 φ.v30 (broadcastInDim S32x1x32768 ![] bcast_S_S32x1x32768),
   StableHlo.TRef.binary φ.v26 φ.v30 φ.v31 Host.shrui,
   StableHlo.TRef.binary φ.v29 φ.v31 φ.v32 ori,
   StableHlo.TRef.binary φ.v27 φ.v32 φ.v33 xori,
   StableHlo.TRef.unary arg1 φ.v34 (broadcastInDim S32x1x32768 ![] bcast_S_S32x1x32768),
   StableHlo.TRef.binary φ.v27 φ.v34 φ.v35 addi,
   StableHlo.TRef.unary φ.v1 φ.v36 (broadcastInDim S32x1x32768 ![] bcast_S_S32x1x32768),
   StableHlo.TRef.binary φ.v33 φ.v36 φ.v37 addi,
   StableHlo.TRef.nullary φ.c_8 (constantI S_ 32 1#32),
   StableHlo.TRef.unary φ.c_8 φ.v38 (broadcastInDim S32x1x32768 ![] bcast_S_S32x1x32768),
   StableHlo.TRef.binary φ.v37 φ.v38 φ.v39 addi,
   StableHlo.TRef.binary φ.v35 φ.v39 φ.v40 addi,
   StableHlo.TRef.nullary φ.c_9 (constantI S_ 32 17#32),
   StableHlo.TRef.unary φ.c_9 φ.v41 (broadcastInDim S32x1x32768 ![] bcast_S_S32x1x32768),
   StableHlo.TRef.binary φ.v39 φ.v41 φ.v42 Host.shli,
   StableHlo.TRef.nullary φ.c_10 (constantI S_ 32 15#32),
   StableHlo.TRef.unary φ.c_10 φ.v43 (broadcastInDim S32x1x32768 ![] bcast_S_S32x1x32768),
   StableHlo.TRef.binary φ.v39 φ.v43 φ.v44 Host.shrui,
   StableHlo.TRef.binary φ.v42 φ.v44 φ.v45 ori,
   StableHlo.TRef.binary φ.v40 φ.v45 φ.v46 xori,
   StableHlo.TRef.binary φ.v40 φ.v46 φ.v47 addi]

set_option maxHeartbeats 4000000 in
theorem tf0_eq (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) :
    fn_threefry2x32.body_part0 (F := F) arg0 arg1 arg2 arg3 φ = StableHlo.seq (tf0 arg0 arg1 arg2 arg3 φ) := rfl

/-- The generator's operations, stretch 2 of 4. -/
def tf1 (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : List (Op F) :=
  [StableHlo.TRef.nullary φ.c_11 (constantI S_ 32 29#32),
   StableHlo.TRef.unary φ.c_11 φ.v48 (broadcastInDim S32x1x32768 ![] bcast_S_S32x1x32768),
   StableHlo.TRef.binary φ.v46 φ.v48 φ.v49 Host.shli,
   StableHlo.TRef.nullary φ.c_12 (constantI S_ 32 3#32),
   StableHlo.TRef.unary φ.c_12 φ.v50 (broadcastInDim S32x1x32768 ![] bcast_S_S32x1x32768),
   StableHlo.TRef.binary φ.v46 φ.v50 φ.v51 Host.shrui,
   StableHlo.TRef.binary φ.v49 φ.v51 φ.v52 ori,
   StableHlo.TRef.binary φ.v47 φ.v52 φ.v53 xori,
   StableHlo.TRef.binary φ.v47 φ.v53 φ.v54 addi,
   StableHlo.TRef.nullary φ.c_13 (constantI S_ 32 16#32),
   StableHlo.TRef.unary φ.c_13 φ.v55 (broadcastInDim S32x1x32768 ![] bcast_S_S32x1x32768),
   StableHlo.TRef.binary φ.v53 φ.v55 φ.v56 Host.shli,
   StableHlo.TRef.nullary φ.c_14 (constantI S_ 32 16#32),
   StableHlo.TRef.unary φ.c_14 φ.v57 (broadcastInDim S32x1x32768 ![] bcast_S_S32x1x32768),
   StableHlo.TRef.binary φ.v53 φ.v57 φ.v58 Host.shrui,
   StableHlo.TRef.binary φ.v56 φ.v58 φ.v59 ori,
   StableHlo.TRef.binary φ.v54 φ.v59 φ.v60 xori,
   StableHlo.TRef.binary φ.v54 φ.v60 φ.v61 addi,
   StableHlo.TRef.nullary φ.c_15 (constantI S_ 32 24#32),
   StableHlo.TRef.unary φ.c_15 φ.v62 (broadcastInDim S32x1x32768 ![] bcast_S_S32x1x32768),
   StableHlo.TRef.binary φ.v60 φ.v62 φ.v63 Host.shli,
   StableHlo.TRef.nullary φ.c_16 (constantI S_ 32 8#32),
   StableHlo.TRef.unary φ.c_16 φ.v64 (broadcastInDim S32x1x32768 ![] bcast_S_S32x1x32768),
   StableHlo.TRef.binary φ.v60 φ.v64 φ.v65 Host.shrui,
   StableHlo.TRef.binary φ.v63 φ.v65 φ.v66 ori,
   StableHlo.TRef.binary φ.v61 φ.v66 φ.v67 xori,
   StableHlo.TRef.unary φ.v1 φ.v68 (broadcastInDim S32x1x32768 ![] bcast_S_S32x1x32768),
   StableHlo.TRef.binary φ.v61 φ.v68 φ.v69 addi,
   StableHlo.TRef.unary arg0 φ.v70 (broadcastInDim S32x1x32768 ![] bcast_S_S32x1x32768),
   StableHlo.TRef.binary φ.v67 φ.v70 φ.v71 addi,
   StableHlo.TRef.nullary φ.c_17 (constantI S_ 32 2#32),
   StableHlo.TRef.unary φ.c_17 φ.v72 (broadcastInDim S32x1x32768 ![] bcast_S_S32x1x32768),
   StableHlo.TRef.binary φ.v71 φ.v72 φ.v73 addi,
   StableHlo.TRef.binary φ.v69 φ.v73 φ.v74 addi,
   StableHlo.TRef.nullary φ.c_18 (constantI S_ 32 13#32),
   StableHlo.TRef.unary φ.c_18 φ.v75 (broadcastInDim S32x1x32768 ![] bcast_S_S32x1x32768),
   StableHlo.TRef.binary φ.v73 φ.v75 φ.v76 Host.shli,
   StableHlo.TRef.nullary φ.c_19 (constantI S_ 32 19#32),
   StableHlo.TRef.unary φ.c_19 φ.v77 (broadcastInDim S32x1x32768 ![] bcast_S_S32x1x32768),
   StableHlo.TRef.binary φ.v73 φ.v77 φ.v78 Host.shrui,
   StableHlo.TRef.binary φ.v76 φ.v78 φ.v79 ori,
   StableHlo.TRef.binary φ.v74 φ.v79 φ.v80 xori,
   StableHlo.TRef.binary φ.v74 φ.v80 φ.v81 addi,
   StableHlo.TRef.nullary φ.c_20 (constantI S_ 32 15#32),
   StableHlo.TRef.unary φ.c_20 φ.v82 (broadcastInDim S32x1x32768 ![] bcast_S_S32x1x32768),
   StableHlo.TRef.binary φ.v80 φ.v82 φ.v83 Host.shli,
   StableHlo.TRef.nullary φ.c_21 (constantI S_ 32 17#32),
   StableHlo.TRef.unary φ.c_21 φ.v84 (broadcastInDim S32x1x32768 ![] bcast_S_S32x1x32768),
   StableHlo.TRef.binary φ.v80 φ.v84 φ.v85 Host.shrui,
   StableHlo.TRef.binary φ.v83 φ.v85 φ.v86 ori,
   StableHlo.TRef.binary φ.v81 φ.v86 φ.v87 xori,
   StableHlo.TRef.binary φ.v81 φ.v87 φ.v88 addi,
   StableHlo.TRef.nullary φ.c_22 (constantI S_ 32 26#32),
   StableHlo.TRef.unary φ.c_22 φ.v89 (broadcastInDim S32x1x32768 ![] bcast_S_S32x1x32768),
   StableHlo.TRef.binary φ.v87 φ.v89 φ.v90 Host.shli,
   StableHlo.TRef.nullary φ.c_23 (constantI S_ 32 6#32),
   StableHlo.TRef.unary φ.c_23 φ.v91 (broadcastInDim S32x1x32768 ![] bcast_S_S32x1x32768),
   StableHlo.TRef.binary φ.v87 φ.v91 φ.v92 Host.shrui,
   StableHlo.TRef.binary φ.v90 φ.v92 φ.v93 ori,
   StableHlo.TRef.binary φ.v88 φ.v93 φ.v94 xori]

set_option maxHeartbeats 4000000 in
theorem tf1_eq (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) :
    fn_threefry2x32.body_part1 (F := F) arg0 arg1 arg2 arg3 φ = StableHlo.seq (tf1 arg0 arg1 arg2 arg3 φ) := rfl

/-- The generator's operations, stretch 3 of 4. -/
def tf2 (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : List (Op F) :=
  [StableHlo.TRef.binary φ.v88 φ.v94 φ.v95 addi,
   StableHlo.TRef.nullary φ.c_24 (constantI S_ 32 6#32),
   StableHlo.TRef.unary φ.c_24 φ.v96 (broadcastInDim S32x1x32768 ![] bcast_S_S32x1x32768),
   StableHlo.TRef.binary φ.v94 φ.v96 φ.v97 Host.shli,
   StableHlo.TRef.nullary φ.c_25 (constantI S_ 32 26#32),
   StableHlo.TRef.unary φ.c_25 φ.v98 (broadcastInDim S32x1x32768 ![] bcast_S_S32x1x32768),
   StableHlo.TRef.binary φ.v94 φ.v98 φ.v99 Host.shrui,
   StableHlo.TRef.binary φ.v97 φ.v99 φ.v100 ori,
   StableHlo.TRef.binary φ.v95 φ.v100 φ.v101 xori,
   StableHlo.TRef.unary arg0 φ.v102 (broadcastInDim S32x1x32768 ![] bcast_S_S32x1x32768),
   StableHlo.TRef.binary φ.v95 φ.v102 φ.v103 addi,
   StableHlo.TRef.unary arg1 φ.v104 (broadcastInDim S32x1x32768 ![] bcast_S_S32x1x32768),
   StableHlo.TRef.binary φ.v101 φ.v104 φ.v105 addi,
   StableHlo.TRef.nullary φ.c_26 (constantI S_ 32 3#32),
   StableHlo.TRef.unary φ.c_26 φ.v106 (broadcastInDim S32x1x32768 ![] bcast_S_S32x1x32768),
   StableHlo.TRef.binary φ.v105 φ.v106 φ.v107 addi,
   StableHlo.TRef.binary φ.v103 φ.v107 φ.v108 addi,
   StableHlo.TRef.nullary φ.c_27 (constantI S_ 32 17#32),
   StableHlo.TRef.unary φ.c_27 φ.v109 (broadcastInDim S32x1x32768 ![] bcast_S_S32x1x32768),
   StableHlo.TRef.binary φ.v107 φ.v109 φ.v110 Host.shli,
   StableHlo.TRef.nullary φ.c_28 (constantI S_ 32 15#32),
   StableHlo.TRef.unary φ.c_28 φ.v111 (broadcastInDim S32x1x32768 ![] bcast_S_S32x1x32768),
   StableHlo.TRef.binary φ.v107 φ.v111 φ.v112 Host.shrui,
   StableHlo.TRef.binary φ.v110 φ.v112 φ.v113 ori,
   StableHlo.TRef.binary φ.v108 φ.v113 φ.v114 xori,
   StableHlo.TRef.binary φ.v108 φ.v114 φ.v115 addi,
   StableHlo.TRef.nullary φ.c_29 (constantI S_ 32 29#32),
   StableHlo.TRef.unary φ.c_29 φ.v116 (broadcastInDim S32x1x32768 ![] bcast_S_S32x1x32768),
   StableHlo.TRef.binary φ.v114 φ.v116 φ.v117 Host.shli,
   StableHlo.TRef.nullary φ.c_30 (constantI S_ 32 3#32),
   StableHlo.TRef.unary φ.c_30 φ.v118 (broadcastInDim S32x1x32768 ![] bcast_S_S32x1x32768),
   StableHlo.TRef.binary φ.v114 φ.v118 φ.v119 Host.shrui,
   StableHlo.TRef.binary φ.v117 φ.v119 φ.v120 ori,
   StableHlo.TRef.binary φ.v115 φ.v120 φ.v121 xori,
   StableHlo.TRef.binary φ.v115 φ.v121 φ.v122 addi,
   StableHlo.TRef.nullary φ.c_31 (constantI S_ 32 16#32),
   StableHlo.TRef.unary φ.c_31 φ.v123 (broadcastInDim S32x1x32768 ![] bcast_S_S32x1x32768),
   StableHlo.TRef.binary φ.v121 φ.v123 φ.v124 Host.shli,
   StableHlo.TRef.nullary φ.c_32 (constantI S_ 32 16#32),
   StableHlo.TRef.unary φ.c_32 φ.v125 (broadcastInDim S32x1x32768 ![] bcast_S_S32x1x32768),
   StableHlo.TRef.binary φ.v121 φ.v125 φ.v126 Host.shrui,
   StableHlo.TRef.binary φ.v124 φ.v126 φ.v127 ori,
   StableHlo.TRef.binary φ.v122 φ.v127 φ.v128 xori,
   StableHlo.TRef.binary φ.v122 φ.v128 φ.v129 addi,
   StableHlo.TRef.nullary φ.c_33 (constantI S_ 32 24#32),
   StableHlo.TRef.unary φ.c_33 φ.v130 (broadcastInDim S32x1x32768 ![] bcast_S_S32x1x32768),
   StableHlo.TRef.binary φ.v128 φ.v130 φ.v131 Host.shli,
   StableHlo.TRef.nullary φ.c_34 (constantI S_ 32 8#32),
   StableHlo.TRef.unary φ.c_34 φ.v132 (broadcastInDim S32x1x32768 ![] bcast_S_S32x1x32768),
   StableHlo.TRef.binary φ.v128 φ.v132 φ.v133 Host.shrui,
   StableHlo.TRef.binary φ.v131 φ.v133 φ.v134 ori,
   StableHlo.TRef.binary φ.v129 φ.v134 φ.v135 xori,
   StableHlo.TRef.unary arg1 φ.v136 (broadcastInDim S32x1x32768 ![] bcast_S_S32x1x32768),
   StableHlo.TRef.binary φ.v129 φ.v136 φ.v137 addi,
   StableHlo.TRef.unary φ.v1 φ.v138 (broadcastInDim S32x1x32768 ![] bcast_S_S32x1x32768),
   StableHlo.TRef.binary φ.v135 φ.v138 φ.v139 addi,
   StableHlo.TRef.nullary φ.c_35 (constantI S_ 32 4#32),
   StableHlo.TRef.unary φ.c_35 φ.v140 (broadcastInDim S32x1x32768 ![] bcast_S_S32x1x32768),
   StableHlo.TRef.binary φ.v139 φ.v140 φ.v141 addi,
   StableHlo.TRef.binary φ.v137 φ.v141 φ.v142 addi]

set_option maxHeartbeats 4000000 in
theorem tf2_eq (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) :
    fn_threefry2x32.body_part2 (F := F) arg0 arg1 arg2 arg3 φ = StableHlo.seq (tf2 arg0 arg1 arg2 arg3 φ) := rfl

/-- The generator's operations, stretch 4 of 4. -/
def tf3 (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : List (Op F) :=
  [StableHlo.TRef.nullary φ.c_36 (constantI S_ 32 13#32),
   StableHlo.TRef.unary φ.c_36 φ.v143 (broadcastInDim S32x1x32768 ![] bcast_S_S32x1x32768),
   StableHlo.TRef.binary φ.v141 φ.v143 φ.v144 Host.shli,
   StableHlo.TRef.nullary φ.c_37 (constantI S_ 32 19#32),
   StableHlo.TRef.unary φ.c_37 φ.v145 (broadcastInDim S32x1x32768 ![] bcast_S_S32x1x32768),
   StableHlo.TRef.binary φ.v141 φ.v145 φ.v146 Host.shrui,
   StableHlo.TRef.binary φ.v144 φ.v146 φ.v147 ori,
   StableHlo.TRef.binary φ.v142 φ.v147 φ.v148 xori,
   StableHlo.TRef.binary φ.v142 φ.v148 φ.v149 addi,
   StableHlo.TRef.nullary φ.c_38 (constantI S_ 32 15#32),
   StableHlo.TRef.unary φ.c_38 φ.v150 (broadcastInDim S32x1x32768 ![] bcast_S_S32x1x32768),
   StableHlo.TRef.binary φ.v148 φ.v150 φ.v151 Host.shli,
   StableHlo.TRef.nullary φ.c_39 (constantI S_ 32 17#32),
   StableHlo.TRef.unary φ.c_39 φ.v152 (broadcastInDim S32x1x32768 ![] bcast_S_S32x1x32768),
   StableHlo.TRef.binary φ.v148 φ.v152 φ.v153 Host.shrui,
   StableHlo.TRef.binary φ.v151 φ.v153 φ.v154 ori,
   StableHlo.TRef.binary φ.v149 φ.v154 φ.v155 xori,
   StableHlo.TRef.binary φ.v149 φ.v155 φ.v156 addi,
   StableHlo.TRef.nullary φ.c_40 (constantI S_ 32 26#32),
   StableHlo.TRef.unary φ.c_40 φ.v157 (broadcastInDim S32x1x32768 ![] bcast_S_S32x1x32768),
   StableHlo.TRef.binary φ.v155 φ.v157 φ.v158 Host.shli,
   StableHlo.TRef.nullary φ.c_41 (constantI S_ 32 6#32),
   StableHlo.TRef.unary φ.c_41 φ.v159 (broadcastInDim S32x1x32768 ![] bcast_S_S32x1x32768),
   StableHlo.TRef.binary φ.v155 φ.v159 φ.v160 Host.shrui,
   StableHlo.TRef.binary φ.v158 φ.v160 φ.v161 ori,
   StableHlo.TRef.binary φ.v156 φ.v161 φ.v162 xori,
   StableHlo.TRef.binary φ.v156 φ.v162 φ.v163 addi,
   StableHlo.TRef.nullary φ.c_42 (constantI S_ 32 6#32),
   StableHlo.TRef.unary φ.c_42 φ.v164 (broadcastInDim S32x1x32768 ![] bcast_S_S32x1x32768),
   StableHlo.TRef.binary φ.v162 φ.v164 φ.v165 Host.shli,
   StableHlo.TRef.nullary φ.c_43 (constantI S_ 32 26#32),
   StableHlo.TRef.unary φ.c_43 φ.v166 (broadcastInDim S32x1x32768 ![] bcast_S_S32x1x32768),
   StableHlo.TRef.binary φ.v162 φ.v166 φ.v167 Host.shrui,
   StableHlo.TRef.binary φ.v165 φ.v167 φ.v168 ori,
   StableHlo.TRef.binary φ.v163 φ.v168 φ.v169 xori,
   StableHlo.TRef.unary φ.v1 φ.v170 (broadcastInDim S32x1x32768 ![] bcast_S_S32x1x32768),
   StableHlo.TRef.binary φ.v163 φ.v170 φ.v171 addi,
   StableHlo.TRef.unary arg0 φ.v172 (broadcastInDim S32x1x32768 ![] bcast_S_S32x1x32768),
   StableHlo.TRef.binary φ.v169 φ.v172 φ.v173 addi,
   StableHlo.TRef.nullary φ.c_44 (constantI S_ 32 5#32),
   StableHlo.TRef.unary φ.c_44 φ.v174 (broadcastInDim S32x1x32768 ![] bcast_S_S32x1x32768),
   StableHlo.TRef.binary φ.v173 φ.v174 φ.v175 addi]

set_option maxHeartbeats 4000000 in
theorem tf3_eq (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) :
    fn_threefry2x32.body_part3 (F := F) arg0 arg1 arg2 arg3 φ = StableHlo.seq (tf3 arg0 arg1 arg2 arg3 φ) := rfl

/-- The generator's operations. -/
def tfAll (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : List (Op F) :=
  tf0 arg0 arg1 arg2 arg3 φ ++ (tf1 arg0 arg1 arg2 arg3 φ ++ (tf2 arg0 arg1 arg2 arg3 φ ++ tf3 arg0 arg1 arg2 arg3 φ))

theorem tfAll_eq (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) :
    fn_threefry2x32.body (F := F) arg0 arg1 arg2 arg3 φ = StableHlo.seq (tfAll arg0 arg1 arg2 arg3 φ) := by
  unfold fn_threefry2x32.body tfAll
  rw [tf0_eq, tf1_eq, tf2_eq, tf3_eq, StableHlo.seq_append, StableHlo.seq_append, StableHlo.seq_append]

/-- The uniform draw before the generator. -/
def uPre (arg0 : StableHlo.TRef sig ⟨S2, .i32⟩) (arg1 : StableHlo.TRef sig ⟨S_, .f32⟩) (arg2 : StableHlo.TRef sig ⟨S_, .f32⟩) (φ : fn_uniform.Bufs) : List (Op F) :=
  [StableHlo.TRef.unary arg1 φ.v0 id,
   StableHlo.TRef.unary arg2 φ.v1 id,
   StableHlo.TRef.unary φ.v0 φ.v2 (broadcastInDim S1x1x1 ![] bcast_S_S1x1x1),
   StableHlo.TRef.unary φ.v1 φ.v3 (broadcastInDim S1x1x1 ![] bcast_S_S1x1x1),
   StableHlo.TRef.unary arg0 φ.v4 (extractStridedSlice S1 ![0] · slices_S2_S1_0),
   StableHlo.TRef.reshape φ.v4 φ.v5 (rfl : (.i32 : EltTy) = .i32) shapeCasts_S1_S_,
   StableHlo.TRef.unary arg0 φ.v6 (extractStridedSlice S1 ![1] · slices_S2_S1_1),
   StableHlo.TRef.reshape φ.v6 φ.v7 (rfl : (.i32 : EltTy) = .i32) shapeCasts_S1_S_,
   StableHlo.TRef.nullary φ.v8 (iotaInDim S32x1x32768 64 0),
   StableHlo.TRef.nullary φ.v9 (iotaInDim S32x1x32768 64 1),
   StableHlo.TRef.nullary φ.v10 (iotaInDim S32x1x32768 64 2),
   StableHlo.TRef.nullary φ.c (constantI S_ 64 32768#64),
   StableHlo.TRef.unary φ.c φ.v11 (broadcastInDim S32x1x32768 ![] bcast_S_S32x1x32768),
   StableHlo.TRef.binary φ.v11 φ.v8 φ.v12 muli,
   StableHlo.TRef.nullary φ.c_0 (constantI S_ 64 32768#64),
   StableHlo.TRef.unary φ.c_0 φ.v13 (broadcastInDim S32x1x32768 ![] bcast_S_S32x1x32768),
   StableHlo.TRef.binary φ.v13 φ.v9 φ.v14 muli,
   StableHlo.TRef.nullary φ.c_1 (constantI S_ 64 1#64),
   StableHlo.TRef.unary φ.c_1 φ.v15 (broadcastInDim S32x1x32768 ![] bcast_S_S32x1x32768),
   StableHlo.TRef.binary φ.v15 φ.v10 φ.v16 muli,
   StableHlo.TRef.binary φ.v12 φ.v14 φ.v17 addi,
   StableHlo.TRef.binary φ.v17 φ.v16 φ.v18 addi,
   StableHlo.TRef.nullary φ.c_2 (constantI S_ 64 32#64),
   StableHlo.TRef.unary φ.c_2 φ.v19 (broadcastInDim S32x1x32768 ![] bcast_S_S32x1x32768),
   StableHlo.TRef.binary φ.v18 φ.v19 φ.v20 Host.shrui,
   StableHlo.TRef.unary φ.v18 φ.v21 (trunci 32 · natLt_32_64),
   StableHlo.TRef.unary φ.v20 φ.v22 (trunci 32 · natLt_32_64)]

/-- The uniform draw after the generator. -/
def uPost (arg0 : StableHlo.TRef sig ⟨S2, .i32⟩) (arg1 : StableHlo.TRef sig ⟨S_, .f32⟩) (arg2 : StableHlo.TRef sig ⟨S_, .f32⟩) (φ : fn_uniform.Bufs) : List (Op F) :=
  [StableHlo.TRef.binary φ.call0.v171 φ.call0.v175 φ.v24 xori,
   StableHlo.TRef.nullary φ.c_3 (constantI S_ 32 9#32),
   StableHlo.TRef.unary φ.c_3 φ.v25 (broadcastInDim S32x1x32768 ![] bcast_S_S32x1x32768),
   StableHlo.TRef.binary φ.v24 φ.v25 φ.v26 Host.shrui,
   StableHlo.TRef.nullary φ.c_4 (constantI S_ 32 1065353216#32),
   StableHlo.TRef.unary φ.c_4 φ.v27 (broadcastInDim S32x1x32768 ![] bcast_S_S32x1x32768),
   StableHlo.TRef.binary φ.v26 φ.v27 φ.v28 ori,
   StableHlo.TRef.unary φ.v28 φ.v29 (bitcastToFloat .f32),
   StableHlo.TRef.nullary φ.cst (constant S_ .f32 0x3F800000#32),
   StableHlo.TRef.unary φ.cst φ.v30 (broadcastInDim S32x1x32768 ![] bcast_S_S32x1x32768),
   StableHlo.TRef.binary φ.v29 φ.v30 φ.v31 subf,
   StableHlo.TRef.binary φ.v3 φ.v2 φ.v32 subf,
   StableHlo.TRef.unary φ.v32 φ.v33 (broadcastInDim S32x1x32768 ![0, 1, 2] bcast_S1x1x1_S32x1x32768_0_1_2),
   StableHlo.TRef.binary φ.v31 φ.v33 φ.v34 mulf,
   StableHlo.TRef.unary φ.v2 φ.v35 (broadcastInDim S32x1x32768 ![0, 1, 2] bcast_S1x1x1_S32x1x32768_0_1_2),
   StableHlo.TRef.binary φ.v34 φ.v35 φ.v36 addf,
   StableHlo.TRef.unary φ.v2 φ.v37 (broadcastInDim S32x1x32768 ![0, 1, 2] bcast_S1x1x1_S32x1x32768_0_1_2),
   StableHlo.TRef.binary φ.v37 φ.v36 φ.v38 maximumf]

/-- The uniform draw. -/
def uAll (arg0 : StableHlo.TRef sig ⟨S2, .i32⟩) (arg1 : StableHlo.TRef sig ⟨S_, .f32⟩) (arg2 : StableHlo.TRef sig ⟨S_, .f32⟩) (φ : fn_uniform.Bufs) : List (Op F) :=
  uPre arg0 arg1 arg2 φ ++ (tfAll φ.v5 φ.v7 φ.v22 φ.v21 φ.call0 ++ uPost arg0 arg1 arg2 φ)

set_option maxHeartbeats 4000000 in
theorem uAll_eq (arg0 : StableHlo.TRef sig ⟨S2, .i32⟩) (arg1 : StableHlo.TRef sig ⟨S_, .f32⟩) (arg2 : StableHlo.TRef sig ⟨S_, .f32⟩) (φ : fn_uniform.Bufs) :
    fn_uniform.body (F := F) arg0 arg1 arg2 φ = StableHlo.seq (uAll arg0 arg1 arg2 φ) := by
  unfold uAll
  rw [StableHlo.seq_append, StableHlo.seq_append, ← tfAll_eq]
  rfl

/-- The one-hot rows. -/
def ohAll (arg0 : StableHlo.TRef sig ⟨S32x16, .i32⟩) (φ : fn_one_hot.Bufs) : List (Op F) :=
  [StableHlo.TRef.unary arg0 φ.v0 (broadcastInDim S32x16x1 ![0, 1] bcast_S32x16_S32x16x1_0_1),
   StableHlo.TRef.nullary φ.v1 (iotaInDim S1x1x32768 32 2),
   StableHlo.TRef.unary φ.v0 φ.v2 (broadcastInDim S32x16x32768 ![0, 1, 2] bcast_S32x16x1_S32x16x32768_0_1_2),
   StableHlo.TRef.unary φ.v1 φ.v3 (broadcastInDim S32x16x32768 ![0, 1, 2] bcast_S1x1x32768_S32x16x32768_0_1_2),
   StableHlo.TRef.binary φ.v2 φ.v3 φ.v4 (cmpi .eq),
   StableHlo.TRef.unary φ.v4 φ.v5 (uitofp .f32)]

theorem ohAll_eq (arg0 : StableHlo.TRef sig ⟨S32x16, .i32⟩) (φ : fn_one_hot.Bufs) :
    fn_one_hot.body (F := F) arg0 φ = StableHlo.seq (ohAll arg0 φ) := rfl

/-- The running count. -/
def csAll (arg0 : StableHlo.TRef sig ⟨S32x16x32768, .f32⟩) (φ : fn_cumsum_0.Bufs) : List (Op F) :=
  [StableHlo.TRef.nullary φ.cst (constant S_ .f32 0x00000000#32),
   StableHlo.TRef.unary φ.cst φ.v0 (broadcastInDim S_ ![] bcast_S_S_),
   StableHlo.TRef.binary arg0 φ.v0 φ.v1 (fun x v => Host.reduceWindowAdd ![1, 16, 1] ![1, 1, 1] ![0, 15, 0] ![0, 0, 0] x v reduceWindows_S32x16x32768_S32x16x32768_w1s1p0_0_w16s1p15_0_w1s1p0_0 h_S_)]

theorem csAll_eq (arg0 : StableHlo.TRef sig ⟨S32x16x32768, .f32⟩) (φ : fn_cumsum.Bufs) :
    fn_cumsum.body (F := F) arg0 φ = StableHlo.seq (csAll arg0 φ.call0) := rfl

/-- The key and the two ends of the draw. -/
def opsA : List (Op F) :=
  [StableHlo.nullary main_c (constantI S_ 32 42#32),
   StableHlo.nullary main_c_0 (constantI S_ 32 32#32),
   StableHlo.binary main_c main_c_0 main_v0 (Host.shrui : (⟨S_, .i32⟩ : BufTy).Contents (Elt F) → (⟨S_, .i32⟩ : BufTy).Contents (Elt F) → (⟨S_, .i32⟩ : BufTy).Contents (Elt F)),
   StableHlo.unary main_v0 main_v1 (id : (⟨S_, .i32⟩ : BufTy).Contents (Elt F) → (⟨S_, .i32⟩ : BufTy).Contents (Elt F)),
   StableHlo.unary main_v1 main_v2 (broadcastInDim S1 ![] bcast_S_S1 : (⟨S_, .i32⟩ : BufTy).Contents (Elt F) → (⟨S1, .i32⟩ : BufTy).Contents (Elt F)),
   StableHlo.nullary main_c_1 (constantI S_ 32 4294967295#32),
   StableHlo.binary main_c main_c_1 main_v3 (andi : (⟨S_, .i32⟩ : BufTy).Contents (Elt F) → (⟨S_, .i32⟩ : BufTy).Contents (Elt F) → (⟨S_, .i32⟩ : BufTy).Contents (Elt F)),
   StableHlo.unary main_v3 main_v4 (id : (⟨S_, .i32⟩ : BufTy).Contents (Elt F) → (⟨S_, .i32⟩ : BufTy).Contents (Elt F)),
   StableHlo.unary main_v4 main_v5 (broadcastInDim S1 ![] bcast_S_S1 : (⟨S_, .i32⟩ : BufTy).Contents (Elt F) → (⟨S1, .i32⟩ : BufTy).Contents (Elt F)),
   StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
   StableHlo.nullary main_cst (constant S_ .f32 0x00000000#32),
   StableHlo.nullary main_cst_2 (constant S_ .f32 0x3F800000#32)]

/-- From the draw to the picked indices. -/
def opsB : List (Op F) :=
  [StableHlo.nullary main_cst_3 (constant S_ .f32 0x1E3CE508#32),
   StableHlo.unary main_cst_3 main_v8 (broadcastInDim S32x1x32768 ![] bcast_S_S32x1x32768 : (⟨S_, .f32⟩ : BufTy).Contents (Elt F) → (⟨S32x1x32768, .f32⟩ : BufTy).Contents (Elt F)),
   StableHlo.binary main_v7 main_v8 main_v9 (addf : (⟨S32x1x32768, .f32⟩ : BufTy).Contents (Elt F) → (⟨S32x1x32768, .f32⟩ : BufTy).Contents (Elt F) → (⟨S32x1x32768, .f32⟩ : BufTy).Contents (Elt F)),
   StableHlo.unary main_v9 main_v10 (Host.log : (⟨S32x1x32768, .f32⟩ : BufTy).Contents (Elt F) → (⟨S32x1x32768, .f32⟩ : BufTy).Contents (Elt F)),
   StableHlo.unary main_v10 main_v11 (Host.negf : (⟨S32x1x32768, .f32⟩ : BufTy).Contents (Elt F) → (⟨S32x1x32768, .f32⟩ : BufTy).Contents (Elt F)),
   StableHlo.nullary main_cst_4 (constant S_ .f32 0x1E3CE508#32),
   StableHlo.unary main_cst_4 main_v12 (broadcastInDim S32x1x32768 ![] bcast_S_S32x1x32768 : (⟨S_, .f32⟩ : BufTy).Contents (Elt F) → (⟨S32x1x32768, .f32⟩ : BufTy).Contents (Elt F)),
   StableHlo.binary main_v11 main_v12 main_v13 (addf : (⟨S32x1x32768, .f32⟩ : BufTy).Contents (Elt F) → (⟨S32x1x32768, .f32⟩ : BufTy).Contents (Elt F) → (⟨S32x1x32768, .f32⟩ : BufTy).Contents (Elt F)),
   StableHlo.unary main_v13 main_v14 (Host.log : (⟨S32x1x32768, .f32⟩ : BufTy).Contents (Elt F) → (⟨S32x1x32768, .f32⟩ : BufTy).Contents (Elt F)),
   StableHlo.unary main_v14 main_v15 (Host.negf : (⟨S32x1x32768, .f32⟩ : BufTy).Contents (Elt F) → (⟨S32x1x32768, .f32⟩ : BufTy).Contents (Elt F)),
   StableHlo.unary main_arg0 main_v16 (broadcastInDim S1x1x32768 ![1, 2] bcast_S1x32768_S1x1x32768_1_2 : (⟨S1x32768, .f32⟩ : BufTy).Contents (Elt F) → (⟨S1x1x32768, .f32⟩ : BufTy).Contents (Elt F)),
   StableHlo.unary main_v16 main_v17 (broadcastInDim S32x1x32768 ![0, 1, 2] bcast_S1x1x32768_S32x1x32768_0_1_2 : (⟨S1x1x32768, .f32⟩ : BufTy).Contents (Elt F) → (⟨S32x1x32768, .f32⟩ : BufTy).Contents (Elt F)),
   StableHlo.binary main_v17 main_v15 main_v18 (addf : (⟨S32x1x32768, .f32⟩ : BufTy).Contents (Elt F) → (⟨S32x1x32768, .f32⟩ : BufTy).Contents (Elt F) → (⟨S32x1x32768, .f32⟩ : BufTy).Contents (Elt F)),
   StableHlo.unary main_v18 main_values ((fun x => (Host.topK S32x1x16 2 (FloatOps.cmpfTotal .gt) x sliceFits_S32x1x32768_S32x1x16).1) : (⟨S32x1x32768, .f32⟩ : BufTy).Contents (Elt F) → (⟨S32x1x16, .f32⟩ : BufTy).Contents (Elt F)),
   StableHlo.unary main_v18 main_indices ((fun x => (Host.topK S32x1x16 2 (FloatOps.cmpfTotal .gt) x sliceFits_S32x1x32768_S32x1x16).2) : (⟨S32x1x32768, .f32⟩ : BufTy).Contents (Elt F) → (⟨S32x1x16, .i32⟩ : BufTy).Contents (Elt F)),
   StableHlo.reshape main_indices main_v19 (rfl : (.i32 : EltTy) = .i32) shapeCasts_S32x1x16_S32x16]

/-- Up to the running count. -/
def opsC : List (Op F) :=
  [StableHlo.nullary main_cst_5 (constant S_ .f32 0x3F800000#32),
   StableHlo.nullary main_cst_6 (constant S_ .f32 0x3A83126F#32),
   StableHlo.binary main_cst_5 main_cst_6 main_v21 (maximumf : (⟨S_, .f32⟩ : BufTy).Contents (Elt F) → (⟨S_, .f32⟩ : BufTy).Contents (Elt F) → (⟨S_, .f32⟩ : BufTy).Contents (Elt F)),
   StableHlo.unary main_arg0 main_v22 (Host.exp : (⟨S1x32768, .f32⟩ : BufTy).Contents (Elt F) → (⟨S1x32768, .f32⟩ : BufTy).Contents (Elt F)),
   StableHlo.unary main_v22 main_v23 (broadcastInDim S1x1x32768 ![1, 2] bcast_S1x32768_S1x1x32768_1_2 : (⟨S1x32768, .f32⟩ : BufTy).Contents (Elt F) → (⟨S1x1x32768, .f32⟩ : BufTy).Contents (Elt F)),
   StableHlo.reshape main_v23 main_v24 (rfl : (.f32 : EltTy) = .f32) shapeCasts_S1x1x32768_S1x1x1x1x1x32768,
   StableHlo.unary main_v24 main_v25 (broadcastInDim S32x1x16x1x1x32768 ![0, 1, 2, 3, 4, 5] bcast_S1x1x1x1x1x32768_S32x1x16x1x1x32768_0_1_2_3_4_5 : (⟨S1x1x1x1x1x32768, .f32⟩ : BufTy).Contents (Elt F) → (⟨S32x1x16x1x1x32768, .f32⟩ : BufTy).Contents (Elt F)),
   StableHlo.reshape main_v25 main_v26 (rfl : (.f32 : EltTy) = .f32) shapeCasts_S32x1x16x1x1x32768_S32x16x32768]

/-- From the count to the row maxima. -/
def opsD : List (Op F) :=
  [StableHlo.binary main_v27 main_v20 main_v28 (subf : (⟨S32x16x32768, .f32⟩ : BufTy).Contents (Elt F) → (⟨S32x16x32768, .f32⟩ : BufTy).Contents (Elt F) → (⟨S32x16x32768, .f32⟩ : BufTy).Contents (Elt F)),
   StableHlo.nullary main_cst_7 (constant S_ .f32 0x3F800000#32),
   StableHlo.unary main_cst_7 main_v29 (broadcastInDim S32x16x32768 ![] bcast_S_S32x16x32768 : (⟨S_, .f32⟩ : BufTy).Contents (Elt F) → (⟨S32x16x32768, .f32⟩ : BufTy).Contents (Elt F)),
   StableHlo.binary main_v29 main_v28 main_v30 (subf : (⟨S32x16x32768, .f32⟩ : BufTy).Contents (Elt F) → (⟨S32x16x32768, .f32⟩ : BufTy).Contents (Elt F) → (⟨S32x16x32768, .f32⟩ : BufTy).Contents (Elt F)),
   StableHlo.nullary main_cst_8 (constant S_ .f32 0x1E3CE508#32),
   StableHlo.unary main_cst_8 main_v31 (broadcastInDim S32x16x32768 ![] bcast_S_S32x16x32768 : (⟨S_, .f32⟩ : BufTy).Contents (Elt F) → (⟨S32x16x32768, .f32⟩ : BufTy).Contents (Elt F)),
   StableHlo.binary main_v30 main_v31 main_v32 (addf : (⟨S32x16x32768, .f32⟩ : BufTy).Contents (Elt F) → (⟨S32x16x32768, .f32⟩ : BufTy).Contents (Elt F) → (⟨S32x16x32768, .f32⟩ : BufTy).Contents (Elt F)),
   StableHlo.binary main_v26 main_v32 main_v33 (mulf : (⟨S32x16x32768, .f32⟩ : BufTy).Contents (Elt F) → (⟨S32x16x32768, .f32⟩ : BufTy).Contents (Elt F) → (⟨S32x16x32768, .f32⟩ : BufTy).Contents (Elt F)),
   StableHlo.unary main_v33 main_v34 (Host.log : (⟨S32x16x32768, .f32⟩ : BufTy).Contents (Elt F) → (⟨S32x16x32768, .f32⟩ : BufTy).Contents (Elt F)),
   StableHlo.reshape main_v15 main_v35 (rfl : (.f32 : EltTy) = .f32) shapeCasts_S32x1x32768_S1x32x1x1x1x32768,
   StableHlo.unary main_v35 main_v36 (broadcastInDim S1x32x16x1x1x32768 ![0, 1, 2, 3, 4, 5] bcast_S1x32x1x1x1x32768_S1x32x16x1x1x32768_0_1_2_3_4_5 : (⟨S1x32x1x1x1x32768, .f32⟩ : BufTy).Contents (Elt F) → (⟨S1x32x16x1x1x32768, .f32⟩ : BufTy).Contents (Elt F)),
   StableHlo.reshape main_v36 main_v37 (rfl : (.f32 : EltTy) = .f32) shapeCasts_S1x32x16x1x1x32768_S32x16x32768,
   StableHlo.binary main_v34 main_v37 main_v38 (addf : (⟨S32x16x32768, .f32⟩ : BufTy).Contents (Elt F) → (⟨S32x16x32768, .f32⟩ : BufTy).Contents (Elt F) → (⟨S32x16x32768, .f32⟩ : BufTy).Contents (Elt F)),
   StableHlo.unary main_v21 main_v39 (id : (⟨S_, .f32⟩ : BufTy).Contents (Elt F) → (⟨S_, .f32⟩ : BufTy).Contents (Elt F)),
   StableHlo.unary main_v39 main_v40 (broadcastInDim S32x16x32768 ![] bcast_S_S32x16x32768 : (⟨S_, .f32⟩ : BufTy).Contents (Elt F) → (⟨S32x16x32768, .f32⟩ : BufTy).Contents (Elt F)),
   StableHlo.binary main_v38 main_v40 main_v41 (Host.divf : (⟨S32x16x32768, .f32⟩ : BufTy).Contents (Elt F) → (⟨S32x16x32768, .f32⟩ : BufTy).Contents (Elt F) → (⟨S32x16x32768, .f32⟩ : BufTy).Contents (Elt F)),
   StableHlo.nullary main_cst_9 (constant S_ .f32 0xFF800000#32),
   StableHlo.binary main_v41 main_cst_9 main_v42 ((fun x v => Host.reduce FloatOps.maximumf x v reducesTo_S32x16x32768_S32x16_d2 h_S_) : (⟨S32x16x32768, .f32⟩ : BufTy).Contents (Elt F) → (⟨S_, .f32⟩ : BufTy).Contents (Elt F) → (⟨S32x16, .f32⟩ : BufTy).Contents (Elt F)),
   StableHlo.nullary main_cst_10 (constant S_ .f32 0xFF800000#32),
   StableHlo.unary main_cst_10 main_v43 (broadcastInDim S32x16 ![] bcast_S_S32x16 : (⟨S_, .f32⟩ : BufTy).Contents (Elt F) → (⟨S32x16, .f32⟩ : BufTy).Contents (Elt F)),
   StableHlo.binary main_v43 main_v42 main_v44 (maximumf : (⟨S32x16, .f32⟩ : BufTy).Contents (Elt F) → (⟨S32x16, .f32⟩ : BufTy).Contents (Elt F) → (⟨S32x16, .f32⟩ : BufTy).Contents (Elt F))]

/-- The soft weights and the result. -/
def opsE : List (Op F) :=
  [StableHlo.unary main_v44 main_v45 (broadcastInDim S32x16x1 ![0, 1] bcast_S32x16_S32x16x1_0_1 : (⟨S32x16, .f32⟩ : BufTy).Contents (Elt F) → (⟨S32x16x1, .f32⟩ : BufTy).Contents (Elt F)),
   StableHlo.unary main_v45 main_v46 (broadcastInDim S32x16x32768 ![0, 1, 2] bcast_S32x16x1_S32x16x32768_0_1_2 : (⟨S32x16x1, .f32⟩ : BufTy).Contents (Elt F) → (⟨S32x16x32768, .f32⟩ : BufTy).Contents (Elt F)),
   StableHlo.binary main_v41 main_v46 main_v47 (subf : (⟨S32x16x32768, .f32⟩ : BufTy).Contents (Elt F) → (⟨S32x16x32768, .f32⟩ : BufTy).Contents (Elt F) → (⟨S32x16x32768, .f32⟩ : BufTy).Contents (Elt F)),
   StableHlo.unary main_v47 main_v48 (Host.exp : (⟨S32x16x32768, .f32⟩ : BufTy).Contents (Elt F) → (⟨S32x16x32768, .f32⟩ : BufTy).Contents (Elt F)),
   StableHlo.nullary main_cst_11 (constant S_ .f32 0x00000000#32),
   StableHlo.binary main_v48 main_cst_11 main_v49 ((fun x v => Host.reduceAdd x v reducesTo_S32x16x32768_S32x16_d2 h_S_) : (⟨S32x16x32768, .f32⟩ : BufTy).Contents (Elt F) → (⟨S_, .f32⟩ : BufTy).Contents (Elt F) → (⟨S32x16, .f32⟩ : BufTy).Contents (Elt F)),
   StableHlo.unary main_v49 main_v50 (broadcastInDim S32x16x1 ![0, 1] bcast_S32x16_S32x16x1_0_1 : (⟨S32x16, .f32⟩ : BufTy).Contents (Elt F) → (⟨S32x16x1, .f32⟩ : BufTy).Contents (Elt F)),
   StableHlo.unary main_v50 main_v51 (broadcastInDim S32x16x32768 ![0, 1, 2] bcast_S32x16x1_S32x16x32768_0_1_2 : (⟨S32x16x1, .f32⟩ : BufTy).Contents (Elt F) → (⟨S32x16x32768, .f32⟩ : BufTy).Contents (Elt F)),
   StableHlo.binary main_v48 main_v51 main_v52 (Host.divf : (⟨S32x16x32768, .f32⟩ : BufTy).Contents (Elt F) → (⟨S32x16x32768, .f32⟩ : BufTy).Contents (Elt F) → (⟨S32x16x32768, .f32⟩ : BufTy).Contents (Elt F)),
   StableHlo.binary main_v20 main_v52 main_v53 (subf : (⟨S32x16x32768, .f32⟩ : BufTy).Contents (Elt F) → (⟨S32x16x32768, .f32⟩ : BufTy).Contents (Elt F) → (⟨S32x16x32768, .f32⟩ : BufTy).Contents (Elt F)),
   StableHlo.binary main_v53 main_v52 main_v54 (addf : (⟨S32x16x32768, .f32⟩ : BufTy).Contents (Elt F) → (⟨S32x16x32768, .f32⟩ : BufTy).Contents (Elt F) → (⟨S32x16x32768, .f32⟩ : BufTy).Contents (Elt F)),
   StableHlo.reshape main_v54 main_v55 (rfl : (.f32 : EltTy) = .f32) shapeCasts_S32x16x32768_S512x32768]

/-- The draw of @main. -/
abbrev opsU : List (Op F) := uAll (.of main_v6) (.of main_cst) (.of main_cst_2) main_call0
/-- The one-hot rows of @main. -/
abbrev opsH : List (Op F) := ohAll (.of main_v19) main_call1
/-- The running count of @main. -/
abbrev opsK : List (Op F) := csAll (.of main_v20) main_call2_call0

/-- Every operation of @main. -/
def opsAll : List (Op F) := (opsA ++ (opsU ++ (opsB ++ (opsH ++ (opsC ++ (opsK ++ opsD)))))) ++ opsE

set_option maxHeartbeats 40000000 in
theorem part0_eq (d : Dev nD) : main_part0 (F := F) d = StableHlo.seq (opsA ++ (opsU ++ (opsB ++ (opsH ++ (opsC ++ (opsK ++ opsD)))))) := by
  rw [StableHlo.seq_append, StableHlo.seq_append, StableHlo.seq_append, StableHlo.seq_append, StableHlo.seq_append, StableHlo.seq_append,
    ← uAll_eq, ← ohAll_eq, ← csAll_eq _ main_call2]
  rfl

theorem part1_eq (d : Dev nD) : main_part1 (F := F) d = StableHlo.seq opsE := rfl

theorem main_eq (d : Dev nD) : main (F := F) d = StableHlo.seq opsAll := by
  unfold opsAll
  rw [StableHlo.seq_append, ← part0_eq d, ← part1_eq d]
  rfl

end Cert.ReferenceIdeal.Hand

end
-- ==== Proof.RefRun.lean ====
/- The reference's run: every execution ends with each buffer at the fold of the operations over the launch contents, the arguments
   unchanged. -/
module

public import proofs.«01_k».proof.Proof.Gen.ReferenceIdeal
public import Idealize.ShloMosaic.Lib.StableHlo.Run
public import Idealize.ShloMosaic.Lib.Pipeline.Frame
public import Idealize.ShloMosaic.PureOps.Ideal
public import proofs.«01_k».proof.Proof.RefOps
public import Idealize.ShloMosaic.Lib.Quiescent

@[expose] public section

set_option maxRecDepth 8000

noncomputable section

namespace Cert.ReferenceIdeal.Hand

open Idealize.ShloMosaic Idealize.ShloMosaic.TcCoe Idealize.SL.Sem
open Cert.ReferenceIdeal.Gen

variable {F : FTy → Type} [FloatOps F]

theorem tf0_sub (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : (tf0 arg0 arg1 arg2 arg3 φ : List (Op F)).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub ..⟩

theorem tf0_fresh (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : (tf0 arg0 arg1 arg2 arg3 φ : List (Op F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev tf0_W (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : List (Ref sig .tc) :=
  [φ.v0.ref, φ.c.ref, φ.v1.ref, φ.v2.ref, φ.v3.ref, φ.v4.ref, φ.v5.ref, φ.v6.ref, φ.c_0.ref, φ.v7.ref, φ.v8.ref, φ.c_1.ref, φ.v9.ref, φ.v10.ref, φ.v11.ref, φ.v12.ref, φ.v13.ref, φ.c_2.ref, φ.v14.ref, φ.v15.ref, φ.c_3.ref, φ.v16.ref, φ.v17.ref, φ.v18.ref, φ.v19.ref, φ.v20.ref, φ.c_4.ref, φ.v21.ref, φ.v22.ref, φ.c_5.ref, φ.v23.ref, φ.v24.ref, φ.v25.ref, φ.v26.ref, φ.v27.ref, φ.c_6.ref, φ.v28.ref, φ.v29.ref, φ.c_7.ref, φ.v30.ref, φ.v31.ref, φ.v32.ref, φ.v33.ref, φ.v34.ref, φ.v35.ref, φ.v36.ref, φ.v37.ref, φ.c_8.ref, φ.v38.ref, φ.v39.ref, φ.v40.ref, φ.c_9.ref, φ.v41.ref, φ.v42.ref, φ.c_10.ref, φ.v43.ref, φ.v44.ref, φ.v45.ref, φ.v46.ref, φ.v47.ref]

theorem tf0_writes (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : (tf0 arg0 arg1 arg2 arg3 φ : List (Op F)).Forall fun op => op.writes ⊆ ((tf0_W arg0 arg1 arg2 arg3 φ).map (Proc.devRef (τ := τ) .tc)).toFinset :=
  StableHlo.forall_writes_sub_of_map rfl

theorem tf1_sub (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : (tf1 arg0 arg1 arg2 arg3 φ : List (Op F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩

theorem tf1_fresh (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : (tf1 arg0 arg1 arg2 arg3 φ : List (Op F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev tf1_W (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : List (Ref sig .tc) :=
  [φ.c_11.ref, φ.v48.ref, φ.v49.ref, φ.c_12.ref, φ.v50.ref, φ.v51.ref, φ.v52.ref, φ.v53.ref, φ.v54.ref, φ.c_13.ref, φ.v55.ref, φ.v56.ref, φ.c_14.ref, φ.v57.ref, φ.v58.ref, φ.v59.ref, φ.v60.ref, φ.v61.ref, φ.c_15.ref, φ.v62.ref, φ.v63.ref, φ.c_16.ref, φ.v64.ref, φ.v65.ref, φ.v66.ref, φ.v67.ref, φ.v68.ref, φ.v69.ref, φ.v70.ref, φ.v71.ref, φ.c_17.ref, φ.v72.ref, φ.v73.ref, φ.v74.ref, φ.c_18.ref, φ.v75.ref, φ.v76.ref, φ.c_19.ref, φ.v77.ref, φ.v78.ref, φ.v79.ref, φ.v80.ref, φ.v81.ref, φ.c_20.ref, φ.v82.ref, φ.v83.ref, φ.c_21.ref, φ.v84.ref, φ.v85.ref, φ.v86.ref, φ.v87.ref, φ.v88.ref, φ.c_22.ref, φ.v89.ref, φ.v90.ref, φ.c_23.ref, φ.v91.ref, φ.v92.ref, φ.v93.ref, φ.v94.ref]

theorem tf1_writes (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : (tf1 arg0 arg1 arg2 arg3 φ : List (Op F)).Forall fun op => op.writes ⊆ ((tf1_W arg0 arg1 arg2 arg3 φ).map (Proc.devRef (τ := τ) .tc)).toFinset :=
  StableHlo.forall_writes_sub_of_map rfl

theorem tf2_sub (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : (tf2 arg0 arg1 arg2 arg3 φ : List (Op F)).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub ..⟩

theorem tf2_fresh (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : (tf2 arg0 arg1 arg2 arg3 φ : List (Op F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev tf2_W (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : List (Ref sig .tc) :=
  [φ.v95.ref, φ.c_24.ref, φ.v96.ref, φ.v97.ref, φ.c_25.ref, φ.v98.ref, φ.v99.ref, φ.v100.ref, φ.v101.ref, φ.v102.ref, φ.v103.ref, φ.v104.ref, φ.v105.ref, φ.c_26.ref, φ.v106.ref, φ.v107.ref, φ.v108.ref, φ.c_27.ref, φ.v109.ref, φ.v110.ref, φ.c_28.ref, φ.v111.ref, φ.v112.ref, φ.v113.ref, φ.v114.ref, φ.v115.ref, φ.c_29.ref, φ.v116.ref, φ.v117.ref, φ.c_30.ref, φ.v118.ref, φ.v119.ref, φ.v120.ref, φ.v121.ref, φ.v122.ref, φ.c_31.ref, φ.v123.ref, φ.v124.ref, φ.c_32.ref, φ.v125.ref, φ.v126.ref, φ.v127.ref, φ.v128.ref, φ.v129.ref, φ.c_33.ref, φ.v130.ref, φ.v131.ref, φ.c_34.ref, φ.v132.ref, φ.v133.ref, φ.v134.ref, φ.v135.ref, φ.v136.ref, φ.v137.ref, φ.v138.ref, φ.v139.ref, φ.c_35.ref, φ.v140.ref, φ.v141.ref, φ.v142.ref]

theorem tf2_writes (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : (tf2 arg0 arg1 arg2 arg3 φ : List (Op F)).Forall fun op => op.writes ⊆ ((tf2_W arg0 arg1 arg2 arg3 φ).map (Proc.devRef (τ := τ) .tc)).toFinset :=
  StableHlo.forall_writes_sub_of_map rfl

theorem tf3_sub (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : (tf3 arg0 arg1 arg2 arg3 φ : List (Op F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub ..⟩

theorem tf3_fresh (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : (tf3 arg0 arg1 arg2 arg3 φ : List (Op F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev tf3_W (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : List (Ref sig .tc) :=
  [φ.c_36.ref, φ.v143.ref, φ.v144.ref, φ.c_37.ref, φ.v145.ref, φ.v146.ref, φ.v147.ref, φ.v148.ref, φ.v149.ref, φ.c_38.ref, φ.v150.ref, φ.v151.ref, φ.c_39.ref, φ.v152.ref, φ.v153.ref, φ.v154.ref, φ.v155.ref, φ.v156.ref, φ.c_40.ref, φ.v157.ref, φ.v158.ref, φ.c_41.ref, φ.v159.ref, φ.v160.ref, φ.v161.ref, φ.v162.ref, φ.v163.ref, φ.c_42.ref, φ.v164.ref, φ.v165.ref, φ.c_43.ref, φ.v166.ref, φ.v167.ref, φ.v168.ref, φ.v169.ref, φ.v170.ref, φ.v171.ref, φ.v172.ref, φ.v173.ref, φ.c_44.ref, φ.v174.ref, φ.v175.ref]

theorem tf3_writes (arg0 : StableHlo.TRef sig ⟨S_, .i32⟩) (arg1 : StableHlo.TRef sig ⟨S_, .i32⟩) (arg2 : StableHlo.TRef sig ⟨S32x1x32768, .i32⟩) (arg3 : StableHlo.TRef sig ⟨S32x1x32768, .i32⟩) (φ : fn_threefry2x32.Bufs) : (tf3 arg0 arg1 arg2 arg3 φ : List (Op F)).Forall fun op => op.writes ⊆ ((tf3_W arg0 arg1 arg2 arg3 φ).map (Proc.devRef (τ := τ) .tc)).toFinset :=
  StableHlo.forall_writes_sub_of_map rfl

theorem uPre_sub (arg0 : StableHlo.TRef sig ⟨S2, .i32⟩) (arg1 : StableHlo.TRef sig ⟨S_, .f32⟩) (arg2 : StableHlo.TRef sig ⟨S_, .f32⟩) (φ : fn_uniform.Bufs) : (uPre arg0 arg1 arg2 φ : List (Op F)).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.nullary_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub ..⟩

theorem uPre_fresh (arg0 : StableHlo.TRef sig ⟨S2, .i32⟩) (arg1 : StableHlo.TRef sig ⟨S_, .f32⟩) (arg2 : StableHlo.TRef sig ⟨S_, .f32⟩) (φ : fn_uniform.Bufs) : (uPre arg0 arg1 arg2 φ : List (Op F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

abbrev uPre_W (arg0 : StableHlo.TRef sig ⟨S2, .i32⟩) (arg1 : StableHlo.TRef sig ⟨S_, .f32⟩) (arg2 : StableHlo.TRef sig ⟨S_, .f32⟩) (φ : fn_uniform.Bufs) : List (Ref sig .tc) :=
  [φ.v0.ref, φ.v1.ref, φ.v2.ref, φ.v3.ref, φ.v4.ref, φ.v5.ref, φ.v6.ref, φ.v7.ref, φ.v8.ref, φ.v9.ref, φ.v10.ref, φ.c.ref, φ.v11.ref, φ.v12.ref, φ.c_0.ref, φ.v13.ref, φ.v14.ref, φ.c_1.ref, φ.v15.ref, φ.v16.ref, φ.v17.ref, φ.v18.ref, φ.c_2.ref, φ.v19.ref, φ.v20.ref, φ.v21.ref, φ.v22.ref]

theorem uPre_writes (arg0 : StableHlo.TRef sig ⟨S2, .i32⟩) (arg1 : StableHlo.TRef sig ⟨S_, .f32⟩) (arg2 : StableHlo.TRef sig ⟨S_, .f32⟩) (φ : fn_uniform.Bufs) : (uPre arg0 arg1 arg2 φ : List (Op F)).Forall fun op => op.writes ⊆ ((uPre_W arg0 arg1 arg2 φ).map (Proc.devRef (τ := τ) .tc)).toFinset :=
  StableHlo.forall_writes_sub_of_map rfl

theorem uPost_sub (arg0 : StableHlo.TRef sig ⟨S2, .i32⟩) (arg1 : StableHlo.TRef sig ⟨S_, .f32⟩) (arg2 : StableHlo.TRef sig ⟨S_, .f32⟩) (φ : fn_uniform.Bufs) : (uPost arg0 arg1 arg2 φ : List (Op F)).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub ..⟩

theorem uPost_fresh (arg0 : StableHlo.TRef sig ⟨S2, .i32⟩) (arg1 : StableHlo.TRef sig ⟨S_, .f32⟩) (arg2 : StableHlo.TRef sig ⟨S_, .f32⟩) (φ : fn_uniform.Bufs) : (uPost arg0 arg1 arg2 φ : List (Op F)).Forall fun op => op.fresh = ∅ :=
  ⟨rfl, rfl, rfl, rfl, rfl, rfl, rfl, rfl, rfl, rfl, rfl, rfl, rfl, rfl, rfl, rfl, rfl, rfl⟩

abbrev uPost_W (arg0 : StableHlo.TRef sig ⟨S2, .i32⟩) (arg1 : StableHlo.TRef sig ⟨S_, .f32⟩) (arg2 : StableHlo.TRef sig ⟨S_, .f32⟩) (φ : fn_uniform.Bufs) : List (Ref sig .tc) :=
  [φ.v24.ref, φ.c_3.ref, φ.v25.ref, φ.v26.ref, φ.c_4.ref, φ.v27.ref, φ.v28.ref, φ.v29.ref, φ.cst.ref, φ.v30.ref, φ.v31.ref, φ.v32.ref, φ.v33.ref, φ.v34.ref, φ.v35.ref, φ.v36.ref, φ.v37.ref, φ.v38.ref]

theorem uPost_writes (arg0 : StableHlo.TRef sig ⟨S2, .i32⟩) (arg1 : StableHlo.TRef sig ⟨S_, .f32⟩) (arg2 : StableHlo.TRef sig ⟨S_, .f32⟩) (φ : fn_uniform.Bufs) : (uPost arg0 arg1 arg2 φ : List (Op F)).Forall fun op => op.writes ⊆ ((uPost_W arg0 arg1 arg2 φ).map (Proc.devRef (τ := τ) .tc)).toFinset :=
  StableHlo.forall_writes_sub_of_map rfl

theorem ohAll_sub (arg0 : StableHlo.TRef sig ⟨S32x16, .i32⟩) (φ : fn_one_hot.Bufs) : (ohAll arg0 φ : List (Op F)).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩

theorem ohAll_fresh (arg0 : StableHlo.TRef sig ⟨S32x16, .i32⟩) (φ : fn_one_hot.Bufs) : (ohAll arg0 φ : List (Op F)).Forall fun op => op.fresh = ∅ :=
  ⟨rfl, rfl, rfl, rfl, rfl, rfl⟩

abbrev ohAll_W (arg0 : StableHlo.TRef sig ⟨S32x16, .i32⟩) (φ : fn_one_hot.Bufs) : List (Ref sig .tc) :=
  [φ.v0.ref, φ.v1.ref, φ.v2.ref, φ.v3.ref, φ.v4.ref, φ.v5.ref]

theorem ohAll_writes (arg0 : StableHlo.TRef sig ⟨S32x16, .i32⟩) (φ : fn_one_hot.Bufs) : (ohAll arg0 φ : List (Op F)).Forall fun op => op.writes ⊆ ((ohAll_W arg0 φ).map (Proc.devRef (τ := τ) .tc)).toFinset :=
  StableHlo.forall_writes_sub_of_map rfl

theorem csAll_sub (arg0 : StableHlo.TRef sig ⟨S32x16x32768, .f32⟩) (φ : fn_cumsum_0.Bufs) : (csAll arg0 φ : List (Op F)).Forall fun op => op.bufs ⊆ StableHlo.tcRefs τ sig :=
  ⟨StableHlo.nullary_bufs_sub .., StableHlo.unary_bufs_sub .., StableHlo.binary_bufs_sub ..⟩

theorem csAll_fresh (arg0 : StableHlo.TRef sig ⟨S32x16x32768, .f32⟩) (φ : fn_cumsum_0.Bufs) : (csAll arg0 φ : List (Op F)).Forall fun op => op.fresh = ∅ :=
  ⟨rfl, rfl, rfl⟩

abbrev csAll_W (arg0 : StableHlo.TRef sig ⟨S32x16x32768, .f32⟩) (φ : fn_cumsum_0.Bufs) : List (Ref sig .tc) :=
  [φ.cst.ref, φ.v0.ref, φ.v1.ref]

theorem csAll_writes (arg0 : StableHlo.TRef sig ⟨S32x16x32768, .f32⟩) (φ : fn_cumsum_0.Bufs) : (csAll arg0 φ : List (Op F)).Forall fun op => op.writes ⊆ ((csAll_W arg0 φ).map (Proc.devRef (τ := τ) .tc)).toFinset :=
  StableHlo.forall_writes_sub_of_map rfl

theorem opsA_sub : (opsA : List (Op F)).Forall fun op => op.bufs ⊆ StableHlo.tcRefs τ sig :=
  ⟨StableHlo.nullary_bufs_sub .., StableHlo.nullary_bufs_sub .., StableHlo.binary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.nullary_bufs_sub ..⟩

theorem opsA_fresh : (opsA : List (Op F)).Forall fun op => op.fresh = ∅ :=
  ⟨rfl, rfl, rfl, rfl, rfl, rfl, rfl, rfl, rfl, rfl, rfl, rfl⟩

abbrev opsA_W : List (Ref sig .tc) :=
  [main_c, main_c_0, main_v0, main_v1, main_v2, main_c_1, main_v3, main_v4, main_v5, main_v6, main_cst, main_cst_2]

theorem opsA_writes : (opsA : List (Op F)).Forall fun op => op.writes ⊆ ((opsA_W).map (Proc.devRef (τ := τ) .tc)).toFinset :=
  StableHlo.forall_writes_sub_of_map rfl

theorem opsB_sub : (opsB : List (Op F)).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.reshape_bufs_sub ..⟩

theorem opsB_fresh : (opsB : List (Op F)).Forall fun op => op.fresh = ∅ :=
  ⟨rfl, rfl, rfl, rfl, rfl, rfl, rfl, rfl, rfl, rfl, rfl, rfl, rfl, rfl, rfl, rfl⟩

abbrev opsB_W : List (Ref sig .tc) :=
  [main_cst_3, main_v8, main_v9, main_v10, main_v11, main_cst_4, main_v12, main_v13, main_v14, main_v15, main_v16, main_v17, main_v18, main_values, main_indices, main_v19]

theorem opsB_writes : (opsB : List (Op F)).Forall fun op => op.writes ⊆ ((opsB_W).map (Proc.devRef (τ := τ) .tc)).toFinset :=
  StableHlo.forall_writes_sub_of_map rfl

theorem opsC_sub : (opsC : List (Op F)).Forall fun op => op.bufs ⊆ StableHlo.tcRefs τ sig :=
  ⟨StableHlo.nullary_bufs_sub .., StableHlo.nullary_bufs_sub .., StableHlo.binary_bufs_sub .., StableHlo.unary_bufs_sub .., StableHlo.unary_bufs_sub .., StableHlo.reshape_bufs_sub .., StableHlo.unary_bufs_sub .., StableHlo.reshape_bufs_sub ..⟩

theorem opsC_fresh : (opsC : List (Op F)).Forall fun op => op.fresh = ∅ :=
  ⟨rfl, rfl, rfl, rfl, rfl, rfl, rfl, rfl⟩

abbrev opsC_W : List (Ref sig .tc) :=
  [main_cst_5, main_cst_6, main_v21, main_v22, main_v23, main_v24, main_v25, main_v26]

theorem opsC_writes : (opsC : List (Op F)).Forall fun op => op.writes ⊆ ((opsC_W).map (Proc.devRef (τ := τ) .tc)).toFinset :=
  StableHlo.forall_writes_sub_of_map rfl

theorem opsD_sub : (opsD : List (Op F)).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub ..⟩

theorem opsD_fresh : (opsD : List (Op F)).Forall fun op => op.fresh = ∅ :=
  ⟨rfl, rfl, rfl, rfl, rfl, rfl, rfl, rfl, rfl, rfl, rfl, rfl, rfl, rfl, rfl, rfl, rfl, rfl, rfl, rfl, rfl⟩

abbrev opsD_W : List (Ref sig .tc) :=
  [main_v28, main_cst_7, main_v29, main_v30, main_cst_8, main_v31, main_v32, main_v33, main_v34, main_v35, main_v36, main_v37, main_v38, main_v39, main_v40, main_v41, main_cst_9, main_v42, main_cst_10, main_v43, main_v44]

theorem opsD_writes : (opsD : List (Op F)).Forall fun op => op.writes ⊆ ((opsD_W).map (Proc.devRef (τ := τ) .tc)).toFinset :=
  StableHlo.forall_writes_sub_of_map rfl

theorem opsE_sub : (opsE : List (Op F)).Forall fun op => op.bufs ⊆ StableHlo.tcRefs τ sig :=
  ⟨StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.binary_bufs_sub .., StableHlo.reshape_bufs_sub ..⟩

theorem opsE_fresh : (opsE : List (Op F)).Forall fun op => op.fresh = ∅ :=
  ⟨rfl, rfl, rfl, rfl, rfl, rfl, rfl, rfl, rfl, rfl, rfl, rfl⟩

abbrev opsE_W : List (Ref sig .tc) :=
  [main_v45, main_v46, main_v47, main_v48, main_cst_11, main_v49, main_v50, main_v51, main_v52, main_v53, main_v54, main_v55]

theorem opsE_writes : (opsE : List (Op F)).Forall fun op => op.writes ⊆ ((opsE_W).map (Proc.devRef (τ := τ) .tc)).toFinset :=
  StableHlo.forall_writes_sub_of_map rfl

/-- The stretches of @main in order. -/
def segs : List (List (Op F)) :=
  [opsA,
   uPre (.of main_v6) (.of main_cst) (.of main_cst_2) main_call0,
   tf0 main_call0.v5 main_call0.v7 main_call0.v22 main_call0.v21 main_call0.call0,
   tf1 main_call0.v5 main_call0.v7 main_call0.v22 main_call0.v21 main_call0.call0,
   tf2 main_call0.v5 main_call0.v7 main_call0.v22 main_call0.v21 main_call0.call0,
   tf3 main_call0.v5 main_call0.v7 main_call0.v22 main_call0.v21 main_call0.call0,
   uPost (.of main_v6) (.of main_cst) (.of main_cst_2) main_call0,
   opsB,
   ohAll (.of main_v19) main_call1,
   opsC,
   csAll (.of main_v20) main_call2_call0,
   opsD,
   opsE]

theorem opsAll_eq : (opsAll : List (Op F)) = segs.flatten := by
  simp only [opsAll, opsU, opsH, opsK, uAll, tfAll, segs, List.flatten_cons, List.flatten_nil, List.append_nil, List.append_assoc]

/-- A property of every operation of @main, from each stretch's. -/
theorem forall_opsAll {p : Op F → Prop} (h : ∀ l ∈ (segs : List (List (Op F))), l.Forall p) : ∀ op ∈ (opsAll : List (Op F)), p op := by
  intro op hop
  rw [opsAll_eq] at hop
  obtain ⟨l, hl, ho⟩ := List.mem_flatten.mp hop
  exact List.forall_iff_forall_mem.mp (h l hl) op ho

theorem segs_sub : ∀ l ∈ (segs : List (List (Op F))), l.Forall fun op => op.bufs ⊆ StableHlo.tcRefs τ sig := by
  intro l hl
  simp only [segs, List.mem_cons, List.not_mem_nil, or_false] at hl
  rcases hl with rfl | rfl | rfl | rfl | rfl | rfl | rfl | rfl | rfl | rfl | rfl | rfl | rfl
  · exact opsA_sub
  · exact uPre_sub (.of main_v6) (.of main_cst) (.of main_cst_2) main_call0
  · exact tf0_sub main_call0.v5 main_call0.v7 main_call0.v22 main_call0.v21 main_call0.call0
  · exact tf1_sub main_call0.v5 main_call0.v7 main_call0.v22 main_call0.v21 main_call0.call0
  · exact tf2_sub main_call0.v5 main_call0.v7 main_call0.v22 main_call0.v21 main_call0.call0
  · exact tf3_sub main_call0.v5 main_call0.v7 main_call0.v22 main_call0.v21 main_call0.call0
  · exact uPost_sub (.of main_v6) (.of main_cst) (.of main_cst_2) main_call0
  · exact opsB_sub
  · exact ohAll_sub (.of main_v19) main_call1
  · exact opsC_sub
  · exact csAll_sub (.of main_v20) main_call2_call0
  · exact opsD_sub
  · exact opsE_sub

theorem segs_fresh : ∀ l ∈ (segs : List (List (Op F))), l.Forall fun op => op.fresh = ∅ := by
  intro l hl
  simp only [segs, List.mem_cons, List.not_mem_nil, or_false] at hl
  rcases hl with rfl | rfl | rfl | rfl | rfl | rfl | rfl | rfl | rfl | rfl | rfl | rfl | rfl
  · exact opsA_fresh
  · exact uPre_fresh (.of main_v6) (.of main_cst) (.of main_cst_2) main_call0
  · exact tf0_fresh main_call0.v5 main_call0.v7 main_call0.v22 main_call0.v21 main_call0.call0
  · exact tf1_fresh main_call0.v5 main_call0.v7 main_call0.v22 main_call0.v21 main_call0.call0
  · exact tf2_fresh main_call0.v5 main_call0.v7 main_call0.v22 main_call0.v21 main_call0.call0
  · exact tf3_fresh main_call0.v5 main_call0.v7 main_call0.v22 main_call0.v21 main_call0.call0
  · exact uPost_fresh (.of main_v6) (.of main_cst) (.of main_cst_2) main_call0
  · exact opsB_fresh
  · exact ohAll_fresh (.of main_v19) main_call1
  · exact opsC_fresh
  · exact csAll_fresh (.of main_v20) main_call2_call0
  · exact opsD_fresh
  · exact opsE_fresh

/-- Every buffer @main writes. -/
def allW : List (Ref sig .tc) :=
  opsA_W ++ (uPre_W (.of main_v6) (.of main_cst) (.of main_cst_2) main_call0) ++ (tf0_W main_call0.v5 main_call0.v7 main_call0.v22 main_call0.v21 main_call0.call0) ++ (tf1_W main_call0.v5 main_call0.v7 main_call0.v22 main_call0.v21 main_call0.call0) ++ (tf2_W main_call0.v5 main_call0.v7 main_call0.v22 main_call0.v21 main_call0.call0) ++ (tf3_W main_call0.v5 main_call0.v7 main_call0.v22 main_call0.v21 main_call0.call0) ++ (uPost_W (.of main_v6) (.of main_cst) (.of main_cst_2) main_call0) ++ opsB_W ++ (ohAll_W (.of main_v19) main_call1) ++ opsC_W ++ (csAll_W (.of main_v20) main_call2_call0) ++ opsD_W ++ opsE_W

theorem mono_writes {l : List (Op F)} {W : List (Ref sig .tc)}
    (h : l.Forall fun op => op.writes ⊆ (W.map (Proc.devRef (τ := τ) .tc)).toFinset) (hW : ∀ r ∈ W, r ∈ allW) :
    l.Forall fun op => op.writes ⊆ (allW.map (Proc.devRef (τ := τ) .tc)).toFinset :=
  h.imp fun op ho => ho.trans fun b hb => by
    obtain ⟨r, hr, e⟩ := List.mem_map.mp (List.mem_toFinset.mp hb)
    exact List.mem_toFinset.mpr (List.mem_map.mpr ⟨r, hW r hr, e⟩)

theorem segs_writes : ∀ l ∈ (segs : List (List (Op F))), l.Forall fun op => op.writes ⊆ (allW.map (Proc.devRef (τ := τ) .tc)).toFinset := by
  intro l hl
  simp only [segs, List.mem_cons, List.not_mem_nil, or_false] at hl
  rcases hl with rfl | rfl | rfl | rfl | rfl | rfl | rfl | rfl | rfl | rfl | rfl | rfl | rfl
  · exact mono_writes (opsA_writes) (fun r hr => by unfold allW; simp only [List.mem_append]; tauto)
  · exact mono_writes (uPre_writes (.of main_v6) (.of main_cst) (.of main_cst_2) main_call0) (fun r hr => by unfold allW; simp only [List.mem_append]; tauto)
  · exact mono_writes (tf0_writes main_call0.v5 main_call0.v7 main_call0.v22 main_call0.v21 main_call0.call0) (fun r hr => by unfold allW; simp only [List.mem_append]; tauto)
  · exact mono_writes (tf1_writes main_call0.v5 main_call0.v7 main_call0.v22 main_call0.v21 main_call0.call0) (fun r hr => by unfold allW; simp only [List.mem_append]; tauto)
  · exact mono_writes (tf2_writes main_call0.v5 main_call0.v7 main_call0.v22 main_call0.v21 main_call0.call0) (fun r hr => by unfold allW; simp only [List.mem_append]; tauto)
  · exact mono_writes (tf3_writes main_call0.v5 main_call0.v7 main_call0.v22 main_call0.v21 main_call0.call0) (fun r hr => by unfold allW; simp only [List.mem_append]; tauto)
  · exact mono_writes (uPost_writes (.of main_v6) (.of main_cst) (.of main_cst_2) main_call0) (fun r hr => by unfold allW; simp only [List.mem_append]; tauto)
  · exact mono_writes (opsB_writes) (fun r hr => by unfold allW; simp only [List.mem_append]; tauto)
  · exact mono_writes (ohAll_writes (.of main_v19) main_call1) (fun r hr => by unfold allW; simp only [List.mem_append]; tauto)
  · exact mono_writes (opsC_writes) (fun r hr => by unfold allW; simp only [List.mem_append]; tauto)
  · exact mono_writes (csAll_writes (.of main_v20) main_call2_call0) (fun r hr => by unfold allW; simp only [List.mem_append]; tauto)
  · exact mono_writes (opsD_writes) (fun r hr => by unfold allW; simp only [List.mem_append]; tauto)
  · exact mono_writes (opsE_writes) (fun r hr => by unfold allW; simp only [List.mem_append]; tauto)

/-- No operation of @main writes the first argument … -/
theorem arg0_kept (V : Valuation τ sig (Elt F)) : StableHlo.after opsAll V (Proc.devRef .tc main_arg0) = V (Proc.devRef .tc main_arg0) :=
  StableHlo.after_of_writes_sub _ V (List.forall_iff_forall_mem.mpr (forall_opsAll segs_writes)) (by decide)

/-- … or the second. -/
theorem arg1_kept (V : Valuation τ sig (Elt F)) : StableHlo.after opsAll V (Proc.devRef .tc main_arg1) = V (Proc.devRef .tc main_arg1) :=
  StableHlo.after_of_writes_sub _ V (List.forall_iff_forall_mem.mpr (forall_opsAll segs_writes)) (by decide)

theorem scopedRefs_eq : (Finset.univ.filter fun b : Ref sig .tc => b.isScoped) = ∅ := by decide
theorem scopedSems_eq : (Finset.univ.filter fun sm : SemLoc sig => sm.isScoped .tc) = ∅ := by decide

/-- The run. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = StableHlo.after opsAll (StableHlo.launchContents m d) (Proc.devRef .tc b) :=
  StableHlo.run_seq scopedRefs_eq scopedSems_eq defs main (fun _ => opsAll) main_eq
    (fun _ => List.forall_iff_forall_mem.mpr (forall_opsAll segs_sub)) m ρ (fun _ => forall_opsAll segs_fresh)

/-- The frame: the arguments end unchanged, and no counter is left raised. -/
theorem frame (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c main_arg0).trans (arg0_kept _), (h c main_arg1).trans (arg1_kept _)⟩,
    Idealize.ShloMosaic.sem_eq_zero_of_no_sems (by decide) r.2⟩) (run_main m ρ)

end Cert.ReferenceIdeal.Hand

end
-- ==== Proof.Mixing.lean ====
/- The mixing rounds of the noise generator, read off a list of host operations: a round is one short list over any buffers,
   and what it leaves in its two state buffers is a function of the two words that were there, element by element. -/
module

public import Idealize.ShloMosaic.Lib.StableHlo.Run
public import Idealize.ShloMosaic.Lib.Pipeline.Frame
public import Idealize.ShloMosaic.PureOps.Ideal

@[expose] public section

noncomputable section

namespace Cert.Mixing

open Idealize.ShloMosaic Idealize.SL.Sem Idealize.ShloMosaic.StableHlo

variable {τ : Topo} {sig : RefSig} {T Tx Ta Tb Ty Tz : BufTy}

/-- What a typed buffer holds. -/
def rd (V : Valuation τ sig (Elt Ideal)) (x : TRef sig T) : T.Contents (Elt Ideal) := x.ofBuf (V (Proc.devRef .tc x.ref))

theorem rd_nullary (y : TRef sig Ty) (v : Ty.Contents (Elt Ideal)) (V : Valuation τ sig (Elt Ideal)) :
    rd ((TRef.nullary (τ := τ) y v).result V) y = v := by
  unfold rd; rw [nullary_result]; exact TRef.ofBuf_toBuf y _

theorem rd_unary (x : TRef sig Tx) (y : TRef sig Ty) (f : Tx.Contents (Elt Ideal) → Ty.Contents (Elt Ideal))
    (V : Valuation τ sig (Elt Ideal)) : rd ((TRef.unary (τ := τ) x y f).result V) y = f (rd V x) := by
  unfold rd; rw [unary_result]; exact TRef.ofBuf_toBuf y _

theorem rd_binary (a : TRef sig Ta) (b : TRef sig Tb) (y : TRef sig Ty)
    (f : Ta.Contents (Elt Ideal) → Tb.Contents (Elt Ideal) → Ty.Contents (Elt Ideal))
    (V : Valuation τ sig (Elt Ideal)) : rd ((TRef.binary (τ := τ) a b y f).result V) y = f (rd V a) (rd V b) := by
  unfold rd; rw [binary_result]; exact TRef.ofBuf_toBuf y _

theorem rd_nullary_ne (y : TRef sig Ty) (v : Ty.Contents (Elt Ideal)) (V : Valuation τ sig (Elt Ideal)) (z : TRef sig Tz)
    (h : z.ref ≠ y.ref) : rd ((TRef.nullary (τ := τ) y v).result V) z = rd V z := by
  unfold rd; exact congrArg _ (result_of_writes_ne _ V y.ref z.ref rfl h)

theorem rd_unary_ne (x : TRef sig Tx) (y : TRef sig Ty) (f : Tx.Contents (Elt Ideal) → Ty.Contents (Elt Ideal))
    (V : Valuation τ sig (Elt Ideal)) (z : TRef sig Tz) (h : z.ref ≠ y.ref) :
    rd ((TRef.unary (τ := τ) x y f).result V) z = rd V z := by
  unfold rd; exact congrArg _ (result_of_writes_ne _ V y.ref z.ref rfl h)

theorem rd_binary_ne (a : TRef sig Ta) (b : TRef sig Tb) (y : TRef sig Ty)
    (f : Ta.Contents (Elt Ideal) → Tb.Contents (Elt Ideal) → Ty.Contents (Elt Ideal))
    (V : Valuation τ sig (Elt Ideal)) (z : TRef sig Tz) (h : z.ref ≠ y.ref) :
    rd ((TRef.binary (τ := τ) a b y f).result V) z = rd V z := by
  unfold rd; exact congrArg _ (result_of_writes_ne _ V y.ref z.ref rfl h)

abbrev S0 : Shape := ⟨0, ![]⟩

/-- Two words of state. -/
abbrev W2 : Type := BitVec 32 × BitVec 32

/-- One mixing round on a state: add, rotate (shift left by `r`, right by `l`), combine. -/
def mix (r l : BitVec 32) (p : W2) : W2 :=
  (IntOp.addi p.1 p.2, IntOp.xori (IntOp.addi p.1 p.2) (IntOp.ori (IntOp.shli .host p.2 r) (IntOp.shrui .host p.2 l)))

/-- A key addition after four rounds. -/
def inject (a b n : BitVec 32) (p : W2) : W2 := (IntOp.addi p.1 a, IntOp.addi (IntOp.addi p.2 b) n)

/-- The key addition before the first round. -/
def start (a b : BitVec 32) (p : W2) : W2 := (IntOp.addi p.1 a, IntOp.addi p.2 b)

variable {S : Shape}

abbrev KT : BufTy := ⟨S0, .i32⟩
abbrev VT (S : Shape) : BufTy := ⟨S, .i32⟩

/-- The contents `V` agree with `U` on the buffers `K`, and the two state buffers hold the words `st`, element by element. -/
structure Held (V U : Valuation τ sig (Elt Ideal)) (K : List (Ref sig .tc)) (x0 x1 : TRef sig (VT S)) (st : S.Idx → W2) : Prop where
  keep : ∀ r ∈ K, V (Proc.devRef .tc r) = U (Proc.devRef .tc r)
  state : ∀ i, ((rd V x0 : S.Idx → BitVec 32) i, (rd V x1 : S.Idx → BitVec 32) i) = st i

theorem Held.key {V U : Valuation τ sig (Elt Ideal)} {K : List (Ref sig .tc)} {x0 x1 : TRef sig (VT S)} {st : S.Idx → W2}
    (h : Held V U K x0 x1 st) (k : TRef sig KT) (hk : k.ref ∈ K) : rd V k = rd U k := by
  unfold rd; rw [h.keep _ hk]

/-- The nine operations of a round. -/
abbrev mixOps (hb : S0.BroadcastsInDim S (![] : Fin 0 → Fin S.rank)) (r l : BitVec 32) (x0 x1 y : TRef sig (VT S)) (cA : TRef sig KT)
    (tA sA : TRef sig (VT S)) (cB : TRef sig KT) (tB sB o z : TRef sig (VT S)) : List (HloOp τ sig (Elt Ideal)) :=
  [TRef.binary x0 x1 y addi, TRef.nullary cA (constantI S0 32 r), TRef.unary cA tA (broadcastInDim S ![] hb),
   TRef.binary x1 tA sA Host.shli, TRef.nullary cB (constantI S0 32 l), TRef.unary cB tB (broadcastInDim S ![] hb),
   TRef.binary x1 tB sB Host.shrui, TRef.binary sA sB o ori, TRef.binary y o z xori]

/-- What a round leaves. -/
theorem Held.mix {V U : Valuation τ sig (Elt Ideal)} {K : List (Ref sig .tc)} {x0 x1 : TRef sig (VT S)} {st : S.Idx → W2}
    (h : Held V U K x0 x1 st) (hb : S0.BroadcastsInDim S (![] : Fin 0 → Fin S.rank)) (r l : BitVec 32) (y : TRef sig (VT S))
    (cA : TRef sig KT) (tA sA : TRef sig (VT S)) (cB : TRef sig KT) (tB sB o z : TRef sig (VT S))
    (hn : [x1.ref, y.ref, cA.ref, tA.ref, sA.ref, cB.ref, tB.ref, sB.ref, o.ref, z.ref].Nodup)
    (hK : ∀ k ∈ K, k ∉ [y.ref, cA.ref, tA.ref, sA.ref, cB.ref, tB.ref, sB.ref, o.ref, z.ref]) :
    Held (after (mixOps hb r l x0 x1 y cA tA sA cB tB sB o z) V) U K y z (fun i => Mixing.mix r l (st i)) where
  keep k hk := by
    rw [after_of_writes_sub _ V (forall_writes_sub_of_map (W := [y.ref, cA.ref, tA.ref, sA.ref, cB.ref, tB.ref, sB.ref, o.ref, z.ref]) rfl)
      (hK k hk)]
    exact h.keep k hk
  state i := by
    simp only [List.nodup_cons, List.mem_cons, List.not_mem_nil, or_false, not_or] at hn
    obtain ⟨⟨a1, a2, a3, a4, a5, a6, a7, a8, a9⟩, ⟨b1, b2, b3, b4, b5, b6, b7, b8⟩, ⟨c1, c2, c3, c4, c5, c6, c7⟩, ⟨d1, d2, d3, d4, d5, d6⟩,
      ⟨e1, e2, e3, e4, e5⟩, ⟨f1, f2, f3, f4⟩, ⟨g1, g2, g3⟩, ⟨k1, k2⟩, l1, -⟩ := hn
    have hs := h.state i
    have h0 := congrArg Prod.fst hs
    have h1 := congrArg Prod.snd hs
    dsimp only at h0 h1
    simp only [after_cons, after_nil]
    simp (disch := assumption) only [rd_nullary, rd_unary, rd_binary, rd_nullary_ne, rd_unary_ne, rd_binary_ne]
    unfold Mixing.mix
    rw [← h0, ← h1]
    rfl

/-- The seven operations of a key addition. -/
abbrev injectOps (hb : S0.BroadcastsInDim S (![] : Fin 0 → Fin S.rank)) (n : BitVec 32) (ka kb : TRef sig KT) (x0 x1 tA y : TRef sig (VT S))
    (tB w : TRef sig (VT S)) (c : TRef sig KT) (t z : TRef sig (VT S)) : List (HloOp τ sig (Elt Ideal)) :=
  [TRef.unary ka tA (broadcastInDim S ![] hb), TRef.binary x0 tA y addi, TRef.unary kb tB (broadcastInDim S ![] hb),
   TRef.binary x1 tB w addi, TRef.nullary c (constantI S0 32 n), TRef.unary c t (broadcastInDim S ![] hb), TRef.binary w t z addi]

/-- What a key addition leaves. -/
theorem Held.inject {V U : Valuation τ sig (Elt Ideal)} {K : List (Ref sig .tc)} {x0 x1 : TRef sig (VT S)} {st : S.Idx → W2}
    (h : Held V U K x0 x1 st) (hb : S0.BroadcastsInDim S (![] : Fin 0 → Fin S.rank)) (n : BitVec 32) (ka kb : TRef sig KT)
    (tA y tB w : TRef sig (VT S)) (c : TRef sig KT) (t z : TRef sig (VT S)) (a b : BitVec 32)
    (ha : rd U ka = fun _ => a) (hbv : rd U kb = fun _ => b) (hka : ka.ref ∈ K) (hkb : kb.ref ∈ K)
    (hn : [x1.ref, tA.ref, y.ref, tB.ref, w.ref, c.ref, t.ref, z.ref].Nodup) (hx : x0.ref ≠ tA.ref)
    (hK : ∀ k ∈ K, k ∉ [tA.ref, y.ref, tB.ref, w.ref, c.ref, t.ref, z.ref]) :
    Held (after (injectOps hb n ka kb x0 x1 tA y tB w c t z) V) U K y z (fun i => Mixing.inject a b n (st i)) where
  keep k hk := by
    rw [after_of_writes_sub _ V (forall_writes_sub_of_map (W := [tA.ref, y.ref, tB.ref, w.ref, c.ref, t.ref, z.ref]) rfl) (hK k hk)]
    exact h.keep k hk
  state i := by
    have hkb' := hK _ hkb
    simp only [List.nodup_cons, List.mem_cons, List.not_mem_nil, or_false, not_or] at hn hkb'
    obtain ⟨⟨a1, a2, a3, a4, a5, a6, a7⟩, ⟨b1, b2, b3, b4, b5, b6⟩, ⟨c1, c2, c3, c4, c5⟩, ⟨d1, d2, d3, d4⟩,
      ⟨e1, e2, e3⟩, ⟨f1, f2⟩, g1, -⟩ := hn
    obtain ⟨m1, m2, m3, m4, m5, m6, m7⟩ := hkb'
    have hs := h.state i
    have h0 := congrArg Prod.fst hs
    have h1 := congrArg Prod.snd hs
    dsimp only at h0 h1
    simp only [after_cons, after_nil]
    simp (disch := assumption) only [rd_nullary, rd_unary, rd_binary, rd_nullary_ne, rd_unary_ne, rd_binary_ne]
    rw [h.key ka hka, h.key kb hkb, ha, hbv]
    unfold Mixing.inject
    rw [← h0, ← h1]
    rfl

/-- The four operations of the first key addition. -/
abbrev startOps (hb : S0.BroadcastsInDim S (![] : Fin 0 → Fin S.rank)) (ka kb : TRef sig KT) (x0 x1 tA y tB z : TRef sig (VT S)) :
    List (HloOp τ sig (Elt Ideal)) :=
  [TRef.unary ka tA (broadcastInDim S ![] hb), TRef.binary x0 tA y addi, TRef.unary kb tB (broadcastInDim S ![] hb), TRef.binary x1 tB z addi]

/-- What the first key addition leaves. -/
theorem Held.start {V U : Valuation τ sig (Elt Ideal)} {K : List (Ref sig .tc)} {x0 x1 : TRef sig (VT S)} {st : S.Idx → W2}
    (h : Held V U K x0 x1 st) (hb : S0.BroadcastsInDim S (![] : Fin 0 → Fin S.rank)) (ka kb : TRef sig KT)
    (tA y tB z : TRef sig (VT S)) (a b : BitVec 32)
    (ha : rd U ka = fun _ => a) (hbv : rd U kb = fun _ => b) (hka : ka.ref ∈ K) (hkb : kb.ref ∈ K)
    (hn : [x1.ref, tA.ref, y.ref, tB.ref, z.ref].Nodup) (hx : x0.ref ≠ tA.ref)
    (hK : ∀ k ∈ K, k ∉ [tA.ref, y.ref, tB.ref, z.ref]) :
    Held (after (startOps hb ka kb x0 x1 tA y tB z) V) U K y z (fun i => Mixing.start a b (st i)) where
  keep k hk := by
    rw [after_of_writes_sub _ V (forall_writes_sub_of_map (W := [tA.ref, y.ref, tB.ref, z.ref]) rfl) (hK k hk)]
    exact h.keep k hk
  state i := by
    have hkb' := hK _ hkb
    simp only [List.nodup_cons, List.mem_cons, List.not_mem_nil, or_false, not_or] at hn hkb'
    obtain ⟨⟨a1, a2, a3, a4⟩, ⟨b1, b2, b3⟩, ⟨c1, c2⟩, d1, -⟩ := hn
    obtain ⟨m1, m2, m3, m4⟩ := hkb'
    have hs := h.state i
    have h0 := congrArg Prod.fst hs
    have h1 := congrArg Prod.snd hs
    dsimp only at h0 h1
    simp only [after_cons, after_nil]
    simp (disch := assumption) only [rd_nullary, rd_unary, rd_binary, rd_nullary_ne, rd_unary_ne, rd_binary_ne]
    rw [h.key ka hka, h.key kb hkb, ha, hbv]
    unfold Mixing.start
    rw [← h0, ← h1]
    rfl

/-- Four rounds with the rotations of one kind. -/
def four (a b c d : BitVec 32 × BitVec 32) (p : W2) : W2 := mix d.1 d.2 (mix c.1 c.2 (mix b.1 b.2 (mix a.1 a.2 p)))

end Cert.Mixing

end
-- ==== Proof.Noise.lean ====
/- The noise at one element: the generator's word, the uniform draw in [0, 1) it makes, and the Gumbel value of that draw, which
   is always a real number. -/
module

public import proofs.«01_k».proof.Proof.Generator
public import Idealize.ShloMosaic.Lib.IdealHost
public import Idealize.ShloMosaic.Lib.SortFacts

@[expose] public section

noncomputable section

namespace Cert.Noise

open Idealize.ShloMosaic Cert.Mixing

/-- The two keys. -/
def κ0 : BitVec 32 := IntOp.shrui .host 42#32 32#32
def κ1 : BitVec 32 := IntOp.andi 42#32 4294967295#32

/-- The word drawn at a counter. -/
def word (c : BitVec 64) : BitVec 32 :=
  IntOp.xori (gen κ0 κ1 ((IntOp.shrui .host c 32#64).setWidth 32, c.setWidth 32)).1
    (gen κ0 κ1 ((IntOp.shrui .host c 32#64).setWidth 32, c.setWidth 32)).2

abbrev lo : EReal := Ideal.ofBits .f32 0x00000000#32
abbrev hi : EReal := Ideal.ofBits .f32 0x3F800000#32
abbrev ε : EReal := Ideal.ofBits .f32 0x1E3CE508#32

/-- The uniform draw a word makes. -/
def unif (w : BitVec 32) : EReal :=
  max lo ((Ideal.ofBits .f32 (IntOp.ori (IntOp.shrui .host w 9#32) 1065353216#32) - hi) * (hi - lo) + lo)

/-- The Gumbel value of a draw. -/
def gumbel (u : EReal) : EReal := -(Ideal.log (-(Ideal.log (u + ε)) + ε))

/-- An element's counter. -/
def counter (b n : ℕ) : BitVec 64 :=
  IntOp.addi (IntOp.muli 32768#64 (BitVec.ofNat 64 b)) (IntOp.muli 1#64 (BitVec.ofNat 64 n))

/-- The noise at an element. -/
def G (b n : ℕ) : EReal := gumbel (unif (word (counter b n)))

theorem ε_eq : ∃ e : ℝ, ε = (e : EReal) ∧ 0 < e ∧ e < 2⁻¹ ^ 30 := by
  refine ⟨((2 ^ 23 + 3990792 : ℕ) : ℝ) * (2 : ℝ) ^ (-90 : ℤ), ?_, ?_, ?_⟩
  · simp [ε, Ideal.ofBits, Ideal.ieee, -EReal.coe_mul]
  · positivity
  · norm_num

/-- The pattern with the exponent of one and a word's upper 23 bits as its fraction is a real in [1, 2). -/
theorem ofBits_unit (w : BitVec 32) :
    ∃ f : ℕ, f < 2 ^ 23 ∧ Ideal.ofBits .f32 (IntOp.ori (IntOp.shrui .host w 9#32) 1065353216#32) = ((1 + (f : ℝ) / 2 ^ 23 : ℝ) : EReal) := by
  have h0 : IntOp.shrui .host w 9#32 = w >>> 9 := by
    unfold IntOp.shrui; rw [if_pos (by decide)]; rfl
  have hf : (w >>> 9).toNat < 2 ^ 23 := by
    rw [BitVec.toNat_ushiftRight, Nat.shiftRight_eq_div_pow]; have := w.isLt; omega
  have hn : (IntOp.ori (IntOp.shrui .host w 9#32) 1065353216#32).toNat = 127 * 2 ^ 23 + (w >>> 9).toNat := by
    rw [h0]; unfold IntOp.ori; rw [BitVec.toNat_or, Nat.or_comm]
    have := Nat.two_pow_add_eq_or_of_lt (i := 23) hf 127
    rw [Nat.mul_comm, this]; rfl
  refine ⟨(w >>> 9).toNat, hf, ?_⟩
  generalize (w >>> 9).toNat = f at hf hn
  generalize IntOp.ori (IntOp.shrui .host w 9#32) 1065353216#32 = b at hn
  have e1 : b.extractLsb' 31 1 = 0#1 := by
    apply BitVec.eq_of_toNat_eq; rw [BitVec.extractLsb'_toNat, hn, Nat.shiftRight_eq_div_pow]; simp; omega
  have e2 : (b.extractLsb' 23 8).toNat = 127 := by
    rw [BitVec.extractLsb'_toNat, hn, Nat.shiftRight_eq_div_pow]; omega
  have e3 : (b.extractLsb' 0 23).toNat = f := by
    rw [BitVec.extractLsb'_toNat, hn, Nat.shiftRight_eq_div_pow]; omega
  show Ideal.ieee 8 23 b = _
  unfold Ideal.ieee
  simp only [Nat.reduceAdd, e1, e2, e3]
  rw [if_neg (by norm_num), if_neg (by norm_num)]
  congr 1
  push_cast
  rw [show (-23 : ℤ) = -((23 : ℕ) : ℤ) from rfl, zpow_neg, zpow_natCast]
  norm_num
  ring

/-- A draw is a real in [0, 1 - 2⁻²³]. -/
theorem unif_real (w : BitVec 32) : ∃ u : ℝ, unif w = (u : EReal) ∧ 0 ≤ u ∧ u ≤ 1 - 2⁻¹ ^ 23 := by
  obtain ⟨f, hf, e⟩ := ofBits_unit w
  have hf' : (f : ℝ) ≤ 2 ^ 23 - 1 := by
    have : f + 1 ≤ 2 ^ 23 := hf
    have : ((f + 1 : ℕ) : ℝ) ≤ ((2 ^ 23 : ℕ) : ℝ) := by exact_mod_cast this
    push_cast at this; linarith
  refine ⟨(f : ℝ) / 2 ^ 23, ?_, by positivity, ?_⟩
  · unfold unif
    rw [e, show lo = 0 from Ideal.ofBits_zero_f32, show hi = 1 from Ideal.ofBits_one_f32, show (1 : EReal) = ((1 : ℝ) : EReal) from rfl, show (0 : EReal) = ((0 : ℝ) : EReal) from rfl,
      ← EReal.coe_sub, ← EReal.coe_sub, ← EReal.coe_mul, ← EReal.coe_add, max_eq_right]
    · congr 1; ring
    · rw [EReal.coe_le_coe_iff]; ring_nf; positivity
  · rw [div_le_iff₀ (by positivity)]; norm_num; norm_num at hf'; exact hf'

theorem log_coe {r : ℝ} (h : 0 < r) : Ideal.log (r : EReal) = ((Real.log r : ℝ) : EReal) := by
  show (if r ≤ 0 then (⊥ : EReal) else _) = _
  rw [if_neg (not_le.mpr h)]

/-- The noise is a real number. -/
theorem G_real (b n : ℕ) : ∃ r : ℝ, G b n = (r : EReal) := by
  obtain ⟨u, hu, h0, h1⟩ := unif_real (word (counter b n))
  obtain ⟨e, he, e0, e1⟩ := ε_eq
  unfold G gumbel
  rw [hu, he, ← EReal.coe_add, log_coe (by linarith), ← EReal.coe_neg, ← EReal.coe_add]
  have hlt : u + e < 1 := by
    have : (2⁻¹ : ℝ) ^ 30 < 2⁻¹ ^ 23 := by norm_num
    linarith
  have hl : Real.log (u + e) < 0 := Real.log_neg (by linarith) hlt
  rw [log_coe (by linarith), ← EReal.coe_neg]
  exact ⟨_, rfl⟩

abbrev V1 : Shape := ⟨1, ![1]⟩
abbrev V2 : Shape := ⟨1, ![2]⟩

/-- A reshaped one-element slice of a two-element vector. -/
theorem key0 {α : Type} (a b : α) (hb : S0.BroadcastsInDim V1 (![] : Fin 0 → Fin V1.rank)) (hc : Shape.Concatenates [V1, V1] V2 0)
    (hs : V2.Slices ![0] V1) (hsc : V1.ShapeCasts S0) :
    shapeCast S0 (extractStridedSlice V1 ![0] (concatenate V2 0 [⟨V1, broadcastInDim V1 ![] hb (fun _ : S0.Idx => a)⟩, ⟨V1, broadcastInDim V1 ![] hb (fun _ : S0.Idx => b)⟩] hc) hs) hsc
      = fun _ => a := by
  funext j
  unfold shapeCast
  have : ∀ k : V1.Idx, k = Shape.Idx.ofFin (⟨0, by decide⟩ : Fin 1) := fun k => by
    rw [Shape.Idx.eq_ofFin k]; exact congrArg Shape.Idx.ofFin (Subsingleton.elim (α := Fin 1) _ _)
  rw [this (Shape.reshapeEquiv hsc j)]
  rfl

theorem key1 {α : Type} (a b : α) (hb : S0.BroadcastsInDim V1 (![] : Fin 0 → Fin V1.rank)) (hc : Shape.Concatenates [V1, V1] V2 0)
    (hs : V2.Slices ![1] V1) (hsc : V1.ShapeCasts S0) :
    shapeCast S0 (extractStridedSlice V1 ![1] (concatenate V2 0 [⟨V1, broadcastInDim V1 ![] hb (fun _ : S0.Idx => a)⟩, ⟨V1, broadcastInDim V1 ![] hb (fun _ : S0.Idx => b)⟩] hc) hs) hsc
      = fun _ => b := by
  funext j
  unfold shapeCast
  have : ∀ k : V1.Idx, k = Shape.Idx.ofFin (⟨0, by decide⟩ : Fin 1) := fun k => by
    rw [Shape.Idx.eq_ofFin k]; exact congrArg Shape.Idx.ofFin (Subsingleton.elim (α := Fin 1) _ _)
  rw [this (Shape.reshapeEquiv hsc j)]
  rfl

/-- The operations that make the Gumbel values, read at an element. -/
theorem gumbel_apply {s : Shape} (hb : S0.BroadcastsInDim s (![] : Fin 0 → Fin s.rank)) (v : FVec Ideal s .f32) (i : s.Idx) :
    Host.negf (F := Ideal) (Host.log (addf (Host.negf (Host.log (addf v (broadcastInDim s ![] hb (constant S0 .f32 0x1E3CE508#32)))))
      (broadcastInDim s ![] hb (constant S0 .f32 0x1E3CE508#32)))) i = gumbel (v i) := by
  unfold Host.negf Host.log addf broadcastInDim constant gumbel
  simp only [Ideal.addf_def, Ideal.hostUnary_log_def]
  rfl

/-- The operations that make the uniform draws of two arrays of words, read at an element. -/
theorem unif_apply {s t : Shape} (hb : S0.BroadcastsInDim s (![] : Fin 0 → Fin s.rank)) (ht : S0.BroadcastsInDim t (![] : Fin 0 → Fin t.rank))
    (d : Fin t.rank → Fin s.rank) (hd : t.BroadcastsInDim s d) (x y : IVec s 32) (i : s.Idx) :
    maximumf (F := Ideal) (broadcastInDim s d hd (broadcastInDim t ![] ht (constant S0 .f32 0x00000000#32)))
      (addf (mulf (subf (bitcastToFloat .f32 (ori (Host.shrui (xori x y) (broadcastInDim s ![] hb (constantI S0 32 9#32)))
            (broadcastInDim s ![] hb (constantI S0 32 1065353216#32)))) (broadcastInDim s ![] hb (constant S0 .f32 0x3F800000#32)))
          (broadcastInDim s d hd (subf (broadcastInDim t ![] ht (constant S0 .f32 0x3F800000#32))
            (broadcastInDim t ![] ht (constant S0 .f32 0x00000000#32)))))
        (broadcastInDim s d hd (broadcastInDim t ![] ht (constant S0 .f32 0x00000000#32)))) i
      = unif (IntOp.xori (x i) (y i)) := by
  unfold maximumf addf mulf subf bitcastToFloat broadcastInDim constant unif
  simp only [Ideal.addf_def, Ideal.mulf_def, Ideal.subf_def, Ideal.maximumf_def]
  rfl

end Cert.Noise

end
-- ==== Proof.HostK.lean ====
/- The kernel's host operations before its region: the noise array they leave is the Gumbel noise at every element. -/
module

public import proofs.«01_k».proof.Proof.Noise
public import proofs.«01_k».proof.Proof.Gen.KernelIdeal.Launch

@[expose] public section

set_option maxRecDepth 16384

noncomputable section

namespace Cert.KernelIdeal.Hand

open Idealize.ShloMosaic Idealize.ShloMosaic.TcCoe Idealize.ShloMosaic.Tactic Idealize.ShloMosaic.StableHlo Cert.KernelIdeal Cert.KernelIdeal.Gen Cert.Mixing Cert.Noise

/-- The generator's words, from the second on, in the order they are written … -/
def wordBufs : List (TRef sig (VT S32x32768)) :=
  [
   .of main_call0_call0_v2, .of main_call0_call0_v3, .of main_call0_call0_v4, .of main_call0_call0_v5, .of main_call0_call0_v6,
   .of main_call0_call0_v7, .of main_call0_call0_v8, .of main_call0_call0_v9, .of main_call0_call0_v10, .of main_call0_call0_v11,
   .of main_call0_call0_v12, .of main_call0_call0_v13, .of main_call0_call0_v14, .of main_call0_call0_v15, .of main_call0_call0_v16,
   .of main_call0_call0_v17, .of main_call0_call0_v18, .of main_call0_call0_v19, .of main_call0_call0_v20, .of main_call0_call0_v21,
   .of main_call0_call0_v22, .of main_call0_call0_v23, .of main_call0_call0_v24, .of main_call0_call0_v25, .of main_call0_call0_v26,
   .of main_call0_call0_v27, .of main_call0_call0_v28, .of main_call0_call0_v29, .of main_call0_call0_v30, .of main_call0_call0_v31,
   .of main_call0_call0_v32, .of main_call0_call0_v33, .of main_call0_call0_v34, .of main_call0_call0_v35, .of main_call0_call0_v36,
   .of main_call0_call0_v37, .of main_call0_call0_v38, .of main_call0_call0_v39, .of main_call0_call0_v40, .of main_call0_call0_v41,
   .of main_call0_call0_v42, .of main_call0_call0_v43, .of main_call0_call0_v44, .of main_call0_call0_v45, .of main_call0_call0_v46,
   .of main_call0_call0_v47, .of main_call0_call0_v48, .of main_call0_call0_v49, .of main_call0_call0_v50, .of main_call0_call0_v51,
   .of main_call0_call0_v52, .of main_call0_call0_v53, .of main_call0_call0_v54, .of main_call0_call0_v55, .of main_call0_call0_v56,
   .of main_call0_call0_v57, .of main_call0_call0_v58, .of main_call0_call0_v59, .of main_call0_call0_v60, .of main_call0_call0_v61,
   .of main_call0_call0_v62, .of main_call0_call0_v63, .of main_call0_call0_v64, .of main_call0_call0_v65, .of main_call0_call0_v66,
   .of main_call0_call0_v67, .of main_call0_call0_v68, .of main_call0_call0_v69, .of main_call0_call0_v70, .of main_call0_call0_v71,
   .of main_call0_call0_v72, .of main_call0_call0_v73, .of main_call0_call0_v74, .of main_call0_call0_v75, .of main_call0_call0_v76,
   .of main_call0_call0_v77, .of main_call0_call0_v78, .of main_call0_call0_v79, .of main_call0_call0_v80, .of main_call0_call0_v81,
   .of main_call0_call0_v82, .of main_call0_call0_v83, .of main_call0_call0_v84, .of main_call0_call0_v85, .of main_call0_call0_v86,
   .of main_call0_call0_v87, .of main_call0_call0_v88, .of main_call0_call0_v89, .of main_call0_call0_v90, .of main_call0_call0_v91,
   .of main_call0_call0_v92, .of main_call0_call0_v93, .of main_call0_call0_v94, .of main_call0_call0_v95, .of main_call0_call0_v96,
   .of main_call0_call0_v97, .of main_call0_call0_v98, .of main_call0_call0_v99, .of main_call0_call0_v100, .of main_call0_call0_v101,
   .of main_call0_call0_v102, .of main_call0_call0_v103, .of main_call0_call0_v104, .of main_call0_call0_v105, .of main_call0_call0_v106,
   .of main_call0_call0_v107, .of main_call0_call0_v108, .of main_call0_call0_v109, .of main_call0_call0_v110, .of main_call0_call0_v111,
   .of main_call0_call0_v112, .of main_call0_call0_v113, .of main_call0_call0_v114, .of main_call0_call0_v115, .of main_call0_call0_v116,
   .of main_call0_call0_v117, .of main_call0_call0_v118, .of main_call0_call0_v119, .of main_call0_call0_v120, .of main_call0_call0_v121,
   .of main_call0_call0_v122, .of main_call0_call0_v123, .of main_call0_call0_v124, .of main_call0_call0_v125, .of main_call0_call0_v126,
   .of main_call0_call0_v127, .of main_call0_call0_v128, .of main_call0_call0_v129, .of main_call0_call0_v130, .of main_call0_call0_v131,
   .of main_call0_call0_v132, .of main_call0_call0_v133, .of main_call0_call0_v134, .of main_call0_call0_v135, .of main_call0_call0_v136,
   .of main_call0_call0_v137, .of main_call0_call0_v138, .of main_call0_call0_v139, .of main_call0_call0_v140, .of main_call0_call0_v141,
   .of main_call0_call0_v142, .of main_call0_call0_v143, .of main_call0_call0_v144, .of main_call0_call0_v145, .of main_call0_call0_v146,
   .of main_call0_call0_v147, .of main_call0_call0_v148, .of main_call0_call0_v149, .of main_call0_call0_v150, .of main_call0_call0_v151,
   .of main_call0_call0_v152, .of main_call0_call0_v153, .of main_call0_call0_v154, .of main_call0_call0_v155, .of main_call0_call0_v156,
   .of main_call0_call0_v157, .of main_call0_call0_v158, .of main_call0_call0_v159, .of main_call0_call0_v160, .of main_call0_call0_v161,
   .of main_call0_call0_v162, .of main_call0_call0_v163, .of main_call0_call0_v164, .of main_call0_call0_v165, .of main_call0_call0_v166,
   .of main_call0_call0_v167, .of main_call0_call0_v168, .of main_call0_call0_v169, .of main_call0_call0_v170, .of main_call0_v19_0,
   .of main_call0_call0_v172, .of main_call0_call0_v173, .of main_call0_call0_v174, .of main_call0_v19_1]

/-- … and its constants. -/
def constBufs : List (TRef sig KT) :=
  [
   .of main_call0_call0_c_0, .of main_call0_call0_c_1, .of main_call0_call0_c_2, .of main_call0_call0_c_3, .of main_call0_call0_c_4,
   .of main_call0_call0_c_5, .of main_call0_call0_c_6, .of main_call0_call0_c_7, .of main_call0_call0_c_8, .of main_call0_call0_c_9,
   .of main_call0_call0_c_10, .of main_call0_call0_c_11, .of main_call0_call0_c_12, .of main_call0_call0_c_13, .of main_call0_call0_c_14,
   .of main_call0_call0_c_15, .of main_call0_call0_c_16, .of main_call0_call0_c_17, .of main_call0_call0_c_18, .of main_call0_call0_c_19,
   .of main_call0_call0_c_20, .of main_call0_call0_c_21, .of main_call0_call0_c_22, .of main_call0_call0_c_23, .of main_call0_call0_c_24,
   .of main_call0_call0_c_25, .of main_call0_call0_c_26, .of main_call0_call0_c_27, .of main_call0_call0_c_28, .of main_call0_call0_c_29,
   .of main_call0_call0_c_30, .of main_call0_call0_c_31, .of main_call0_call0_c_32, .of main_call0_call0_c_33, .of main_call0_call0_c_34,
   .of main_call0_call0_c_35, .of main_call0_call0_c_36, .of main_call0_call0_c_37, .of main_call0_call0_c_38, .of main_call0_call0_c_39,
   .of main_call0_call0_c_40, .of main_call0_call0_c_41, .of main_call0_call0_c_42, .of main_call0_call0_c_43, .of main_call0_call0_c_44]

def kt (n : ℕ) : TRef sig (VT S32x32768) := wordBufs.getD (n - 2) (.of main_call0_v18)
def kc (n : ℕ) : TRef sig KT := constBufs.getD n (.of main_call0_v5)

/-- The draw up to the generator. -/
def kPre {F : FTy → Type} [FloatOps F] : List (HloOp τ sig (Elt F)) :=
  [StableHlo.TRef.unary (.of main_cst : StableHlo.TRef sig ⟨S_, .f32⟩) (.of main_call0_v0 : StableHlo.TRef sig ⟨S_, .f32⟩) id,
   StableHlo.TRef.unary (.of main_cst_2 : StableHlo.TRef sig ⟨S_, .f32⟩) (.of main_call0_v1 : StableHlo.TRef sig ⟨S_, .f32⟩) id,
   StableHlo.TRef.unary (.of main_call0_v0 : StableHlo.TRef sig ⟨S_, .f32⟩) (.of main_call0_v2 : StableHlo.TRef sig ⟨S1x1, .f32⟩) (broadcastInDim S1x1 ![] bcast_S_S1x1),
   StableHlo.TRef.unary (.of main_call0_v1 : StableHlo.TRef sig ⟨S_, .f32⟩) (.of main_call0_v3 : StableHlo.TRef sig ⟨S1x1, .f32⟩) (broadcastInDim S1x1 ![] bcast_S_S1x1),
   StableHlo.TRef.unary (.of main_v6 : StableHlo.TRef sig ⟨S2, .i32⟩) (.of main_call0_v4 : StableHlo.TRef sig ⟨S1, .i32⟩) (extractStridedSlice S1 ![0] · slices_S2_S1_0),
   StableHlo.TRef.reshape (.of main_call0_v4 : StableHlo.TRef sig ⟨S1, .i32⟩) (.of main_call0_v5 : StableHlo.TRef sig ⟨S_, .i32⟩) (rfl : (.i32 : EltTy) = .i32) shapeCasts_S1_S_,
   StableHlo.TRef.unary (.of main_v6 : StableHlo.TRef sig ⟨S2, .i32⟩) (.of main_call0_v6 : StableHlo.TRef sig ⟨S1, .i32⟩) (extractStridedSlice S1 ![1] · slices_S2_S1_1),
   StableHlo.TRef.reshape (.of main_call0_v6 : StableHlo.TRef sig ⟨S1, .i32⟩) (.of main_call0_v7 : StableHlo.TRef sig ⟨S_, .i32⟩) (rfl : (.i32 : EltTy) = .i32) shapeCasts_S1_S_,
   StableHlo.TRef.nullary (.of main_call0_v8 : StableHlo.TRef sig ⟨S32x32768, .i64⟩) (iotaInDim S32x32768 64 0),
   StableHlo.TRef.nullary (.of main_call0_v9 : StableHlo.TRef sig ⟨S32x32768, .i64⟩) (iotaInDim S32x32768 64 1),
   StableHlo.TRef.nullary (.of main_call0_c : StableHlo.TRef sig ⟨S_, .i64⟩) (constantI S_ 64 32768#64),
   StableHlo.TRef.unary (.of main_call0_c : StableHlo.TRef sig ⟨S_, .i64⟩) (.of main_call0_v10 : StableHlo.TRef sig ⟨S32x32768, .i64⟩) (broadcastInDim S32x32768 ![] bcast_S_S32x32768),
   StableHlo.TRef.binary (.of main_call0_v10 : StableHlo.TRef sig ⟨S32x32768, .i64⟩) (.of main_call0_v8 : StableHlo.TRef sig ⟨S32x32768, .i64⟩) (.of main_call0_v11 : StableHlo.TRef sig ⟨S32x32768, .i64⟩) muli,
   StableHlo.TRef.nullary (.of main_call0_c_0 : StableHlo.TRef sig ⟨S_, .i64⟩) (constantI S_ 64 1#64),
   StableHlo.TRef.unary (.of main_call0_c_0 : StableHlo.TRef sig ⟨S_, .i64⟩) (.of main_call0_v12 : StableHlo.TRef sig ⟨S32x32768, .i64⟩) (broadcastInDim S32x32768 ![] bcast_S_S32x32768),
   StableHlo.TRef.binary (.of main_call0_v12 : StableHlo.TRef sig ⟨S32x32768, .i64⟩) (.of main_call0_v9 : StableHlo.TRef sig ⟨S32x32768, .i64⟩) (.of main_call0_v13 : StableHlo.TRef sig ⟨S32x32768, .i64⟩) muli,
   StableHlo.TRef.binary (.of main_call0_v11 : StableHlo.TRef sig ⟨S32x32768, .i64⟩) (.of main_call0_v13 : StableHlo.TRef sig ⟨S32x32768, .i64⟩) (.of main_call0_v14 : StableHlo.TRef sig ⟨S32x32768, .i64⟩) addi,
   StableHlo.TRef.nullary (.of main_call0_c_1 : StableHlo.TRef sig ⟨S_, .i64⟩) (constantI S_ 64 32#64),
   StableHlo.TRef.unary (.of main_call0_c_1 : StableHlo.TRef sig ⟨S_, .i64⟩) (.of main_call0_v15 : StableHlo.TRef sig ⟨S32x32768, .i64⟩) (broadcastInDim S32x32768 ![] bcast_S_S32x32768),
   StableHlo.TRef.binary (.of main_call0_v14 : StableHlo.TRef sig ⟨S32x32768, .i64⟩) (.of main_call0_v15 : StableHlo.TRef sig ⟨S32x32768, .i64⟩) (.of main_call0_v16 : StableHlo.TRef sig ⟨S32x32768, .i64⟩) Host.shrui,
   StableHlo.TRef.unary (.of main_call0_v14 : StableHlo.TRef sig ⟨S32x32768, .i64⟩) (.of main_call0_v17 : StableHlo.TRef sig ⟨S32x32768, .i32⟩) (trunci 32 · natLt_32_64),
   StableHlo.TRef.unary (.of main_call0_v16 : StableHlo.TRef sig ⟨S32x32768, .i64⟩) (.of main_call0_v18 : StableHlo.TRef sig ⟨S32x32768, .i32⟩) (trunci 32 · natLt_32_64)]

/-- The generator's third key. -/
def kHead {F : FTy → Type} [FloatOps F] : List (HloOp τ sig (Elt F)) :=
  [StableHlo.TRef.binary (.of main_call0_v5 : StableHlo.TRef sig ⟨S_, .i32⟩) (.of main_call0_v7 : StableHlo.TRef sig ⟨S_, .i32⟩) (.of main_call0_call0_v0 : StableHlo.TRef sig ⟨S_, .i32⟩) xori,
   StableHlo.TRef.nullary (.of main_call0_call0_c : StableHlo.TRef sig ⟨S_, .i32⟩) (constantI S_ 32 466688986#32),
   StableHlo.TRef.binary (.of main_call0_call0_v0 : StableHlo.TRef sig ⟨S_, .i32⟩) (.of main_call0_call0_c : StableHlo.TRef sig ⟨S_, .i32⟩) (.of main_call0_call0_v1 : StableHlo.TRef sig ⟨S_, .i32⟩) xori]

/-- The draw after the generator. -/
def kPost {F : FTy → Type} [FloatOps F] : List (HloOp τ sig (Elt F)) :=
  [StableHlo.TRef.binary main_call0_call0.v171 main_call0_call0.v175 (.of main_call0_v20 : StableHlo.TRef sig ⟨S32x32768, .i32⟩) xori,
   StableHlo.TRef.nullary (.of main_call0_c_2 : StableHlo.TRef sig ⟨S_, .i32⟩) (constantI S_ 32 9#32),
   StableHlo.TRef.unary (.of main_call0_c_2 : StableHlo.TRef sig ⟨S_, .i32⟩) (.of main_call0_v21 : StableHlo.TRef sig ⟨S32x32768, .i32⟩) (broadcastInDim S32x32768 ![] bcast_S_S32x32768),
   StableHlo.TRef.binary (.of main_call0_v20 : StableHlo.TRef sig ⟨S32x32768, .i32⟩) (.of main_call0_v21 : StableHlo.TRef sig ⟨S32x32768, .i32⟩) (.of main_call0_v22 : StableHlo.TRef sig ⟨S32x32768, .i32⟩) Host.shrui,
   StableHlo.TRef.nullary (.of main_call0_c_3 : StableHlo.TRef sig ⟨S_, .i32⟩) (constantI S_ 32 1065353216#32),
   StableHlo.TRef.unary (.of main_call0_c_3 : StableHlo.TRef sig ⟨S_, .i32⟩) (.of main_call0_v23 : StableHlo.TRef sig ⟨S32x32768, .i32⟩) (broadcastInDim S32x32768 ![] bcast_S_S32x32768),
   StableHlo.TRef.binary (.of main_call0_v22 : StableHlo.TRef sig ⟨S32x32768, .i32⟩) (.of main_call0_v23 : StableHlo.TRef sig ⟨S32x32768, .i32⟩) (.of main_call0_v24 : StableHlo.TRef sig ⟨S32x32768, .i32⟩) ori,
   StableHlo.TRef.unary (.of main_call0_v24 : StableHlo.TRef sig ⟨S32x32768, .i32⟩) (.of main_call0_v25 : StableHlo.TRef sig ⟨S32x32768, .f32⟩) (bitcastToFloat .f32),
   StableHlo.TRef.nullary (.of main_call0_cst : StableHlo.TRef sig ⟨S_, .f32⟩) (constant S_ .f32 0x3F800000#32),
   StableHlo.TRef.unary (.of main_call0_cst : StableHlo.TRef sig ⟨S_, .f32⟩) (.of main_call0_v26 : StableHlo.TRef sig ⟨S32x32768, .f32⟩) (broadcastInDim S32x32768 ![] bcast_S_S32x32768),
   StableHlo.TRef.binary (.of main_call0_v25 : StableHlo.TRef sig ⟨S32x32768, .f32⟩) (.of main_call0_v26 : StableHlo.TRef sig ⟨S32x32768, .f32⟩) (.of main_call0_v27 : StableHlo.TRef sig ⟨S32x32768, .f32⟩) subf,
   StableHlo.TRef.binary (.of main_call0_v3 : StableHlo.TRef sig ⟨S1x1, .f32⟩) (.of main_call0_v2 : StableHlo.TRef sig ⟨S1x1, .f32⟩) (.of main_call0_v28 : StableHlo.TRef sig ⟨S1x1, .f32⟩) subf,
   StableHlo.TRef.unary (.of main_call0_v28 : StableHlo.TRef sig ⟨S1x1, .f32⟩) (.of main_call0_v29 : StableHlo.TRef sig ⟨S32x32768, .f32⟩) (broadcastInDim S32x32768 ![0, 1] bcast_S1x1_S32x32768_0_1),
   StableHlo.TRef.binary (.of main_call0_v27 : StableHlo.TRef sig ⟨S32x32768, .f32⟩) (.of main_call0_v29 : StableHlo.TRef sig ⟨S32x32768, .f32⟩) (.of main_call0_v30 : StableHlo.TRef sig ⟨S32x32768, .f32⟩) mulf,
   StableHlo.TRef.unary (.of main_call0_v2 : StableHlo.TRef sig ⟨S1x1, .f32⟩) (.of main_call0_v31 : StableHlo.TRef sig ⟨S32x32768, .f32⟩) (broadcastInDim S32x32768 ![0, 1] bcast_S1x1_S32x32768_0_1),
   StableHlo.TRef.binary (.of main_call0_v30 : StableHlo.TRef sig ⟨S32x32768, .f32⟩) (.of main_call0_v31 : StableHlo.TRef sig ⟨S32x32768, .f32⟩) (.of main_call0_v32 : StableHlo.TRef sig ⟨S32x32768, .f32⟩) addf,
   StableHlo.TRef.unary (.of main_call0_v2 : StableHlo.TRef sig ⟨S1x1, .f32⟩) (.of main_call0_v33 : StableHlo.TRef sig ⟨S32x32768, .f32⟩) (broadcastInDim S32x32768 ![0, 1] bcast_S1x1_S32x32768_0_1),
   StableHlo.TRef.binary (.of main_call0_v33 : StableHlo.TRef sig ⟨S32x32768, .f32⟩) (.of main_call0_v32 : StableHlo.TRef sig ⟨S32x32768, .f32⟩) (.of main_v7 : StableHlo.TRef sig ⟨S32x32768, .f32⟩) maximumf]

abbrev kGen : List (HloOp τ sig (Elt Ideal)) :=
  genOps bcast_S_S32x32768 kt kc (.of main_call0_v5) (.of main_call0_v7) (.of main_call0_call0_v1) (.of main_call0_v18) (.of main_call0_v17)

theorem draw_eq : (hostOps0_1 (F := Ideal)) = kPre ++ (kHead ++ (kGen ++ kPost)) := by
  rfl

theorem gen_nodup : ((.of main_call0_v18 : TRef sig (VT S32x32768)).ref :: (.of main_call0_v17 : TRef sig (VT S32x32768)).ref :: genRefs kt kc).Nodup := by
  decide +kernel

abbrev keptRefs : List (Ref sig .tc) := [main_call0_v5, main_call0_v7, main_call0_call0_v1, main_call0_v2, main_call0_v3]

theorem gen_kept : ∀ k ∈ keptRefs, k ∉ genRefs kt kc := by
  decide +kernel

end Cert.KernelIdeal.Hand
-- ==== Proof.HostKRead.lean ====
/- What the kernel's host operations leave in the noise array, element by element. -/
module

public import proofs.«01_k».proof.Proof.HostK
public import proofs.«01_k».proof.Proof.Gen.KernelIdeal.Frame.Runs
public import Idealize.ShloMosaic.Lib.Pointwise

@[expose] public section

set_option maxRecDepth 16384

noncomputable section

namespace Cert.KernelIdeal.Hand

open Idealize.ShloMosaic hiding ix1 ix2 ix3
open Idealize.ShloMosaic.ValueIdx Idealize.ShloMosaic.TcCoe Idealize.ShloMosaic.StableHlo Cert.KernelIdeal Cert.KernelIdeal.Gen Cert.Mixing Cert.Noise

variable (U : Valuation τ sig (Elt Ideal))

theorem first_key : after (hostOps0 (F := Ideal)) U (Proc.devRef .tc main_v6)
    = concatenate S2 0 [⟨S1, broadcastInDim S1 ![] bcast_S_S1 (Host.shrui (constantI S_ 32 42#32) (constantI S_ 32 32#32))⟩,
        ⟨S1, broadcastInDim S1 ![] bcast_S_S1 (andi (constantI S_ 32 42#32) (constantI S_ 32 4294967295#32))⟩] concatenates_S1_S1_S2_d0 := by
  unfold hostOps0
  after_results
  rfl

theorem first_lo : after (hostOps0 (F := Ideal)) U (Proc.devRef .tc main_cst) = constant (F := Ideal) S_ .f32 0x00000000#32 := by
  unfold hostOps0
  after_results

theorem first_hi : after (hostOps0 (F := Ideal)) U (Proc.devRef .tc main_cst_2) = constant (F := Ideal) S_ .f32 0x3F800000#32 := by
  unfold hostOps0
  after_results

theorem pre_k0 : rd (after (kPre (F := Ideal)) U) (.of main_call0_v5 : TRef sig KT)
    = shapeCast S_ (extractStridedSlice S1 ![0] (rd U (.of main_v6 : TRef sig ⟨S2, .i32⟩)) slices_S2_S1_0) shapeCasts_S1_S_ := by
  unfold rd kPre
  after_results_simp
  rfl

theorem pre_k1 : rd (after (kPre (F := Ideal)) U) (.of main_call0_v7 : TRef sig KT)
    = shapeCast S_ (extractStridedSlice S1 ![1] (rd U (.of main_v6 : TRef sig ⟨S2, .i32⟩)) slices_S2_S1_1) shapeCasts_S1_S_ := by
  unfold rd kPre
  after_results_simp
  rfl

theorem pre_lo : rd (after (kPre (F := Ideal)) U) (.of main_call0_v2 : TRef sig ⟨S1x1, .f32⟩)
    = broadcastInDim S1x1 ![] bcast_S_S1x1 (rd U (.of main_cst : TRef sig ⟨S_, .f32⟩)) := by
  unfold rd kPre
  after_results_simp
  rfl

theorem pre_hi : rd (after (kPre (F := Ideal)) U) (.of main_call0_v3 : TRef sig ⟨S1x1, .f32⟩)
    = broadcastInDim S1x1 ![] bcast_S_S1x1 (rd U (.of main_cst_2 : TRef sig ⟨S_, .f32⟩)) := by
  unfold rd kPre
  after_results_simp
  rfl

/-- The counters. -/
abbrev counters : IVec S32x32768 64 :=
  addi (muli (broadcastInDim S32x32768 ![] bcast_S_S32x32768 (constantI S_ 64 32768#64)) (iotaInDim S32x32768 64 0))
    (muli (broadcastInDim S32x32768 ![] bcast_S_S32x32768 (constantI S_ 64 1#64)) (iotaInDim S32x32768 64 1))

theorem pre_high : rd (after (kPre (F := Ideal)) U) (.of main_call0_v18 : TRef sig (VT S32x32768))
    = trunci 32 (Host.shrui counters (broadcastInDim S32x32768 ![] bcast_S_S32x32768 (constantI S_ 64 32#64))) natLt_32_64 := by
  unfold rd kPre
  after_results_simp
  rfl

theorem pre_low : rd (after (kPre (F := Ideal)) U) (.of main_call0_v17 : TRef sig (VT S32x32768)) = trunci 32 counters natLt_32_64 := by
  unfold rd kPre
  after_results_simp
  rfl

theorem head_third : rd (after (kHead (F := Ideal)) U) (.of main_call0_call0_v1 : TRef sig KT)
    = xori (xori (rd U (.of main_call0_v5 : TRef sig KT)) (rd U (.of main_call0_v7 : TRef sig KT))) (constantI S_ 32 466688986#32) := by
  unfold rd kHead
  after_results_simp
  rfl

theorem head_kept (r : Ref sig .tc) (h : r ∉ [main_call0_call0_v0, main_call0_call0_c, main_call0_call0_v1]) :
    after (kHead (F := Ideal)) U (Proc.devRef .tc r) = U (Proc.devRef .tc r) :=
  after_of_writes_sub _ U (forall_writes_sub_of_map rfl) h

theorem post_draw : rd (after (kPost (F := Ideal)) U) (.of main_v7 : TRef sig ⟨S32x32768, .f32⟩)
    = maximumf (F := Ideal) (broadcastInDim S32x32768 ![0, 1] bcast_S1x1_S32x32768_0_1 (rd U (.of main_call0_v2 : TRef sig ⟨S1x1, .f32⟩)))
      (addf (mulf (subf (bitcastToFloat .f32 (ori (Host.shrui (xori (rd U (kt 171)) (rd U (kt 175))) (broadcastInDim S32x32768 ![] bcast_S_S32x32768 (constantI S_ 32 9#32)))
            (broadcastInDim S32x32768 ![] bcast_S_S32x32768 (constantI S_ 32 1065353216#32)))) (broadcastInDim S32x32768 ![] bcast_S_S32x32768 (constant S_ .f32 0x3F800000#32)))
          (broadcastInDim S32x32768 ![0, 1] bcast_S1x1_S32x32768_0_1 (subf (rd U (.of main_call0_v3 : TRef sig ⟨S1x1, .f32⟩)) (rd U (.of main_call0_v2 : TRef sig ⟨S1x1, .f32⟩)))))
        (broadcastInDim S32x32768 ![0, 1] bcast_S1x1_S32x32768_0_1 (rd U (.of main_call0_v2 : TRef sig ⟨S1x1, .f32⟩)))) := by
  unfold rd kPost
  after_results_simp
  rfl

theorem last_noise : after (hostOps0_2 (F := Ideal)) U (Proc.devRef .tc main_v15)
    = Host.negf (F := Ideal) (Host.log (addf (Host.negf (Host.log (addf (rd U (.of main_v7 : TRef sig ⟨S32x32768, .f32⟩)) (broadcastInDim S32x32768 ![] bcast_S_S32x32768 (constant S_ .f32 0x1E3CE508#32)))))
      (broadcastInDim S32x32768 ![] bcast_S_S32x32768 (constant S_ .f32 0x1E3CE508#32)))) := by
  unfold rd hostOps0_2
  after_results_simp
  rfl

end Cert.KernelIdeal.Hand
-- ==== Proof.Order.lean ====
/- The largest entries of one row, two ways. A stable sort of the row by "greater" puts the row's
positions in an order (`rank`). Taking the position of the largest entry, hiding it under the bottom
value, and repeating, finds the same positions in the same order, as long as the first entries of the
sorted row are strictly decreasing (`Strict`). -/
module

public import Idealize.ShloMosaic.Lib.IdealHost
public import Idealize.ShloMosaic.Lib.SortFacts
public import Idealize.ShloMosaic.Lib.ValueIdxCore

@[expose] public section

noncomputable section

namespace Cert.Order

open Idealize.ShloMosaic Idealize.ShloMosaic.ValueIdx

variable {N : ℕ} (x : Fin N → EReal)

/-- The comparator of the sort at one row: the entry at `p` is greater than the entry at `q`. -/
def ahead (p q : Fin N) : Bool := Ideal.cmpTotal .gt (x p) (x q) == 1#1

theorem ahead_iff (p q : Fin N) : ahead x p q = true ↔ x q < x p := by
  unfold ahead Ideal.cmpTotal Ideal.cmp
  by_cases h : x q < x p <;> simp [h, CmpDirection.ordered]

theorem ahead_false (p q : Fin N) : ahead x p q = false ↔ x p ≤ x q := by
  rw [← Bool.not_eq_true, ahead_iff, not_lt]

/-- The position of the row's `k`-th largest entry, as the stable sort finds it. -/
def rank (k : Fin N) : Fin N := sortedFrom (ahead x) k

theorem rank_injective : Function.Injective (rank x) := sortedFrom_injective (ahead x)

theorem rank_surjective : Function.Surjective (rank x) := sortedFrom_surjective (ahead x)

/-- Along the sorted order the entries do not increase. -/
theorem rank_le {i j : Fin N} (h : i < j) : x (rank x j) ≤ x (rank x i) := by
  have := sortedFrom_noInversion (ahead x) (ahead x)
    (fun a b hab => (ahead_false x b a).2 ((ahead_iff x a b).1 hab).le) (fun _ _ h => h)
    (fun a b c hab hbc => (ahead_false x a c).2
      (((ahead_false x a b).1 hab).trans ((ahead_false x b c).1 hbc))) i j h
  exact (ahead_false x _ _).1 this

/-- The first `K + 1` entries of the sorted row are strictly decreasing. -/
def Strict (K : ℕ) : Prop :=
  ∀ i j : Fin N, i.val < K → j.val = i.val + 1 → x (rank x j) < x (rank x i)

/-- The row with its `k` largest entries hidden. -/
def hidden (k : ℕ) (p : Fin N) : EReal :=
  open Classical in if ∃ l : Fin N, l.val < k ∧ rank x l = p then ⊥ else x p

theorem hidden_zero : hidden x 0 = x := by
  funext p; unfold hidden; rw [if_neg]; rintro ⟨l, hl, _⟩; omega

theorem hidden_succ (k : Fin N) (p : Fin N) :
    hidden x (k.val + 1) p = if p = rank x k then ⊥ else hidden x k.val p := by
  classical
  unfold hidden
  by_cases hp : p = rank x k
  · rw [if_pos hp, if_pos]; exact ⟨k, Nat.lt_succ_self _, hp.symm⟩
  · rw [if_neg hp]
    have : (∃ l : Fin N, l.val < k.val + 1 ∧ rank x l = p) ↔ ∃ l : Fin N, l.val < k.val ∧ rank x l = p := by
      constructor
      · rintro ⟨l, hl, rfl⟩
        refine ⟨l, lt_of_le_of_ne (Nat.lt_succ_iff.1 hl) fun h => hp ?_, rfl⟩
        rw [Fin.ext h]
      · rintro ⟨l, hl, rfl⟩
        exact ⟨l, hl.trans (Nat.lt_succ_self _), rfl⟩
    by_cases hq : ∃ l : Fin N, l.val < k.val ∧ rank x l = p
    · rw [if_pos hq, if_pos (this.2 hq)]
    · rw [if_neg hq, if_neg (fun h => hq (this.1 h))]

theorem hidden_rank (k : Fin N) : hidden x k.val (rank x k) = x (rank x k) := by
  unfold hidden
  rw [if_neg]
  rintro ⟨l, hl, he⟩
  exact absurd (congrArg Fin.val (rank_injective x he)) (Nat.ne_of_lt hl)

/-- With its `k` largest entries hidden, the row has one largest entry, the `k`-th of the sorted order. -/
theorem hidden_lt {K : ℕ} (hs : Strict x K) (hK : K < N) (k : Fin N) (hk : k.val < K) (p : Fin N)
    (hp : p ≠ rank x k) : hidden x k.val p < hidden x k.val (rank x k) := by
  rw [hidden_rank]
  have hn : k.val + 1 < N := by omega
  have hstep := hs k ⟨k.val + 1, hn⟩ hk rfl
  unfold hidden
  by_cases hq : ∃ l : Fin N, l.val < k.val ∧ rank x l = p
  · rw [if_pos hq]; exact lt_of_le_of_lt bot_le hstep
  · rw [if_neg hq]
    obtain ⟨l, rfl⟩ := rank_surjective x p
    have h1 : ¬ l.val < k.val := fun h => hq ⟨l, h, rfl⟩
    have h2 : l.val ≠ k.val := fun h => hp (by rw [Fin.ext h])
    refine lt_of_le_of_lt ?_ hstep
    rcases Nat.lt_or_ge (k.val + 1) l.val with h3 | h3
    · exact rank_le x (show (⟨k.val + 1, hn⟩ : Fin N) < l from h3)
    · have : l = ⟨k.val + 1, hn⟩ := Fin.ext (by simp only; omega)
      rw [this]

/-- The entries of the strictly decreasing part stay above the bottom value. -/
theorem bot_lt_rank {K : ℕ} (hs : Strict x K) (hK : K < N) (k : Fin N) (hk : k.val < K) : ⊥ < x (rank x k) :=
  lt_of_le_of_lt bot_le (hs k ⟨k.val + 1, by omega⟩ hk rfl)

/-! ## The two operations, read at a row -/

/-- The position of the largest entry of a row that has one largest entry. -/
theorem reduceIndex_row {M : ℕ} (h : (⟨2, ![M, N]⟩ : Shape).Reduces [1] ⟨1, ![M]⟩)
    (y : (⟨2, ![M, N]⟩ : Shape).Idx → EReal) (b : Fin M) (m : Fin N)
    (hm : ∀ n, n ≠ m → y (ix2 b n) < y (ix2 b m)) :
    reduceIndex (F := Ideal) .argMax 1 ⟨1, ![M]⟩ y h (ix1 b) = BitVec.ofNat 32 m.val := by
  show Ideal.reduceIndex .argMax 1 h y (ix1 b) = BitVec.ofNat 32 m.val
  have hd : ∀ i : (⟨2, ![M, N]⟩ : Shape).Idx, h.drop i = ix1 b ↔ i 0 = b := by
    intro i
    constructor
    · intro e
      exact Fin.ext ((h.drop_apply_val_of_eq i 0 0 Nat.zero_lt_one rfl).symm.trans (congrArg (fun z : (⟨1, ![M]⟩ : Shape).Idx => (z 0).val) e))
    · intro e
      rw [eq_ix1 (h.drop i)]
      exact congrArg ix1 (Fin.ext ((h.drop_apply_val_of_eq i 0 0 Nat.zero_lt_one rfl).trans (congrArg Fin.val e)))
  unfold Ideal.reduceIndex
  dsimp only
  rw [show (Finset.filter _ (Finset.filter (fun i : (⟨2, ![M, N]⟩ : Shape).Idx => h.drop i = ix1 b) Finset.univ))
      = {ix2 b m} from ?_]
  · simp only [Finset.image_singleton, Finset.min_singleton]
    rfl
  · ext i
    simp only [Finset.mem_filter, Finset.mem_univ, true_and, hd, Finset.mem_singleton, if_true, not_lt]
    constructor
    · rintro ⟨hi, hmax⟩
      by_contra hne
      have h1 : i = ix2 b (i 1) := by rw [← hi]; exact eq_ix2 i
      have h2 : i 1 ≠ m := fun e => hne (h1.trans (congrArg (ix2 b) e))
      have h3 := hmax (ix2 b m) rfl
      rw [h1] at h3
      exact absurd (hm _ h2) (not_lt.2 h3)
    · rintro rfl
      refine ⟨rfl, fun i' hi' => ?_⟩
      have h1 : i' = ix2 b (i' 1) := by rw [← hi']; exact eq_ix2 i'
      rw [h1]
      by_cases h2 : i' 1 = m
      · exact le_of_eq (congrArg (fun q => y (ix2 b q)) h2)
      · exact (hm _ h2).le

/-- A sort of two arrays together, along an axis that is there. -/
theorem sort2_pos {s : Shape} {d : ℕ} {α β : Type} (hd : d < s.rank) (cmp : α × β → α × β → BitVec 1)
    (y : s.Idx → α) (z : s.Idx → β) :
    Host.sort2 s d cmp y z
      = (fun j => y (j.along ⟨d, hd⟩ (sortedFrom (fun k k' => cmp (y (j.along ⟨d, hd⟩ k), z (j.along ⟨d, hd⟩ k))
            (y (j.along ⟨d, hd⟩ k'), z (j.along ⟨d, hd⟩ k')) == 1#1) (j ⟨d, hd⟩))),
        fun j => z (j.along ⟨d, hd⟩ (sortedFrom (fun k k' => cmp (y (j.along ⟨d, hd⟩ k), z (j.along ⟨d, hd⟩ k))
            (y (j.along ⟨d, hd⟩ k'), z (j.along ⟨d, hd⟩ k')) == 1#1) (j ⟨d, hd⟩)))) := by
  unfold Host.sort2
  exact dif_pos hd

/-- The values of a top-k along the last of two axes: the row at its sorted positions. -/
theorem topK_row2 {M K : ℕ} (hKN : K ≤ N) (y : (⟨2, ![M, N]⟩ : Shape).Idx → EReal)
    (h : (⟨2, ![M, N]⟩ : Shape).Slices (fun _ => 0) ⟨2, ![M, K]⟩) (b : Fin M) (k : Fin K) :
    (Host.topK ⟨2, ![M, K]⟩ 1 (FloatOps.cmpfTotal (F := Ideal) (φ := .f32) .gt) y h).1 (ix2 b k)
      = y (ix2 b (rank (fun n => y (ix2 b n)) (k.castLE hKN))) := by
  unfold Host.topK
  dsimp only [Ideal.cmpfTotal_def]
  rw [sort2_pos (show 1 < (⟨2, ![M, N]⟩ : Shape).rank from Nat.one_lt_two)]
  have hal : ∀ (j : (⟨2, ![M, N]⟩ : Shape).Idx) (n : Fin N), j 0 = b → j.along 1 n = ix2 b n := by
    intro j n hj
    funext a
    match a with
    | ⟨0, _⟩ => exact hj
    | ⟨1, _⟩ => rfl
  dsimp only [extractStridedSlice]
  have key : ∀ (j : (⟨2, ![M, N]⟩ : Shape).Idx), j 0 = b → j 1 = k.castLE hKN →
      y (j.along 1 (sortedFrom (fun p q => Ideal.cmpTotal .gt (y (j.along 1 p)) (y (j.along 1 q)) == 1#1) (j 1)))
        = y (ix2 b (rank (fun n => y (ix2 b n)) (k.castLE hKN))) := by
    intro j h0 h1
    refine (congrArg y (hal j _ h0)).trans (congrArg (fun q => y (ix2 b q)) ?_)
    rw [h1]
    unfold rank ahead
    congr 1
    funext p q
    rw [hal j p h0, hal j q h0]
  refine key _ ?_ ?_
  · exact Fin.ext (Nat.zero_add _)
  · exact Fin.ext (Nat.zero_add _)

/-- The positions of a top-k along the last of three axes, the middle axis of one element. -/
theorem topK_row3 {M K : ℕ} (hKN : K ≤ N) (y : (⟨3, ![M, 1, N]⟩ : Shape).Idx → EReal)
    (h : (⟨3, ![M, 1, N]⟩ : Shape).Slices (fun _ => 0) ⟨3, ![M, 1, K]⟩) (b : Fin M) (k : Fin K) :
    (Host.topK ⟨3, ![M, 1, K]⟩ 2 (FloatOps.cmpfTotal (F := Ideal) (φ := .f32) .gt) y h).2 (ix3 b 0 k)
      = BitVec.ofNat 32 (rank (fun n => y (ix3 b 0 n)) (k.castLE hKN)).val := by
  unfold Host.topK
  dsimp only [Ideal.cmpfTotal_def]
  rw [sort2_pos (show 2 < (⟨3, ![M, 1, N]⟩ : Shape).rank from Nat.lt_succ_self 2)]
  have hal : ∀ (j : (⟨3, ![M, 1, N]⟩ : Shape).Idx) (n : Fin N), j 0 = b → j.along 2 n = ix3 b 0 n := by
    intro j n hj
    funext a
    match a with
    | ⟨0, _⟩ => exact hj
    | ⟨1, _⟩ => exact Subsingleton.elim (α := Fin 1) _ _
    | ⟨2, _⟩ => rfl
  dsimp only [extractStridedSlice]
  have key : ∀ (j : (⟨3, ![M, 1, N]⟩ : Shape).Idx), j 0 = b → j 2 = k.castLE hKN →
      (sortedFrom (fun p q => Ideal.cmpTotal .gt (y (j.along 2 p)) (y (j.along 2 q)) == 1#1) (j 2))
        = (rank (fun n => y (ix3 b 0 n)) (k.castLE hKN)) := by
    intro j h0 h1
    rw [h1]
    unfold rank ahead
    congr 1
    funext p q
    rw [hal j p h0, hal j q h0]
  have h2 : ∀ (i : (⟨3, ![M, 1, N]⟩ : Shape).Idx) (n : Fin N), i 2 = n →
      (if hd : 2 < (⟨3, ![M, 1, N]⟩ : Shape).rank then iotaInDim (⟨3, ![M, 1, N]⟩ : Shape) 32 ⟨2, hd⟩ i else 0#32)
        = BitVec.ofNat 32 n.val := by
    intro i n hn
    rw [dif_pos (show 2 < (⟨3, ![M, 1, N]⟩ : Shape).rank from Nat.lt_succ_self 2), ← hn]
    rfl
  refine h2 _ _ ?_
  refine Eq.trans (Function.update_self _ _ _) (key _ ?_ ?_)
  · exact Fin.ext (Nat.zero_add _)
  · exact Fin.ext (Nat.zero_add _)

end Cert.Order
-- ==== Proof.Rounds.lean ====
/- The kernel's sixteen rounds: in each the position of a row's largest entry is taken and that entry is hidden. The table of
   the positions holds, row by row, the positions of the row's sixteen largest entries in their sorted order. -/
module

public import proofs.«01_k».proof.Proof.Order
public import proofs.«01_k».proof.Proof.Gen.KernelIdeal.Skeleton
public import Idealize.ShloMosaic.Lib.Pointwise
public import Idealize.ShloMosaic.Lib.Pipeline.Value

@[expose] public section

noncomputable section

namespace Cert.Rounds

open Idealize.ShloMosaic hiding ix1 ix2 ix3
open Idealize.ShloMosaic.ValueIdx Cert.KernelIdeal Cert.KernelIdeal.Gen Cert.Order

/-- The positions of the rows' largest entries, as a column. -/
def pick (y : FVec Ideal S32x32768 .f32) : IVec S32x1 32 :=
  shapeCast S32x1 (reduceIndex .argMax 1 S32 y reduces_S32x32768_S32) shapeCasts_S32_S32x1

/-- The rows with those entries hidden. -/
def hide (y : FVec Ideal S32x32768 .f32) : FVec Ideal S32x32768 .f32 :=
  select (cmpi .eq (iota .tc S32x32768 32 [1] iota_S32x32768_d1_w32) (broadcastTo S32x32768 (pick y) broadcasts_S32x1_S32x32768))
    (broadcast S32x32768 (Scalar.ofBits (F := Ideal) .f32 0xFF800000#32)) y

/-- What is left of the rows after `k` rounds. -/
def left (x : FVec Ideal S32x32768 .f32) : ℕ → FVec Ideal S32x32768 .f32
  | 0 => x
  | k + 1 => hide (left x k)

theorem column_apply {α : Type} (v : S32.Idx → α) (h : S32.ShapeCasts S32x1) (b : Fin 32) :
    shapeCast S32x1 v h (ix2 b 0) = v (ix1 b) := by
  refine shapeCast_apply v h _ _ ?_
  rw [Shape.rowMajor_val_one, Shape.rowMajor_val_two]
  show b.val = b.val * 1 + 0
  omega

theorem pick_row (y : FVec Ideal S32x32768 .f32) (b : Fin 32) (m : Fin 32768)
    (hm : ∀ n, n ≠ m → y (ix2 b n) < y (ix2 b m)) : pick y (ix2 b 0) = BitVec.ofNat 32 m.val := by
  unfold pick
  rw [column_apply]
  exact reduceIndex_row _ y b m hm

theorem ofNat_inj {m n : Fin 32768} : BitVec.ofNat 32 n.val = BitVec.ofNat 32 m.val ↔ n = m := by
  constructor
  · intro h
    have := congrArg BitVec.toNat h
    rw [BitVec.toNat_ofNat, BitVec.toNat_ofNat, Nat.mod_eq_of_lt (by have := n.isLt; omega),
      Nat.mod_eq_of_lt (by have := m.isLt; omega)] at this
    exact Fin.ext this
  · rintro rfl; rfl

theorem ofBits_bot : Ideal.ofBits .f32 0xFF800000#32 = ⊥ := by
  simp [Ideal.ofBits, Ideal.ieee]

theorem eq_bit {w : ℕ} (a b : BitVec w) : IntOp.cmpi .eq a b = if a = b then 1#1 else 0#1 := by
  show BitVec.ofBool (a == b) = _
  by_cases h : a = b
  · rw [if_pos h, beq_iff_eq.2 h]; rfl
  · rw [if_neg h, beq_eq_false_iff_ne.2 h]; rfl

theorem iota_row {M N : ℕ} (h : (⟨2, ![M, N]⟩ : Shape).Iotas .tc 32 [1]) (b : Fin M) (n : Fin N) :
    iota .tc ⟨2, ![M, N]⟩ 32 [1] h (ix2 b n) = BitVec.ofNat 32 n.val := by
  show BitVec.ofNat 32 (0 * N + n.val) = _
  rw [Nat.zero_mul, Nat.zero_add]

theorem spread_row {α : Type} {M N : ℕ} (hM : M ≠ 1) (v : (⟨2, ![M, 1]⟩ : Shape).Idx → α) (h : (⟨2, ![M, 1]⟩ : Shape).Broadcasts ⟨2, ![M, N]⟩)
    (b : Fin M) (n : Fin N) : broadcastTo ⟨2, ![M, N]⟩ v h (ix2 b n) = v (ix2 b 0) := by
  refine broadcastTo_apply v h _ _ fun a => ?_
  match a with
  | ⟨0, _⟩ => exact (if_neg hM).symm
  | ⟨1, _⟩ => rfl

theorem hide_row (y : FVec Ideal S32x32768 .f32) (b : Fin 32) (m : Fin 32768) (hm : pick y (ix2 b 0) = BitVec.ofNat 32 m.val)
    (n : Fin 32768) : hide y (ix2 b n) = if n = m then ⊥ else y (ix2 b n) := by
  unfold hide select cmpi
  dsimp only
  have e1 : iota .tc S32x32768 32 [1] iota_S32x32768_d1_w32 (ix2 b n) = BitVec.ofNat 32 n.val := iota_row _ b n
  have e2 : broadcastTo S32x32768 (pick y) broadcasts_S32x1_S32x32768 (ix2 b n) = BitVec.ofNat 32 m.val :=
    (spread_row (by decide) (pick y) _ b n).trans hm
  rw [e1, e2, eq_bit]
  unfold Scalar.select broadcast
  by_cases h : n = m
  · rw [if_pos (ofNat_inj.2 h), if_pos h]
    exact ofBits_bot
  · rw [if_neg (fun e => h (ofNat_inj.1 e)), if_neg (by decide), if_neg h]

section
variable (x : FVec Ideal S32x32768 .f32) (row : Fin 32 → Fin 32768 → EReal) (hrow : ∀ b n, x (ix2 b n) = row b n)
  (hs : ∀ b, Strict (row b) 16)
include hrow hs

/-- After `k` rounds a row has its `k` largest entries hidden, and the next round takes the next of its sorted positions. -/
theorem left_row (k : ℕ) (hk : k ≤ 16) (b : Fin 32) (n : Fin 32768) : left x k (ix2 b n) = hidden (row b) k n := by
  induction k generalizing n with
  | zero => rw [hidden_zero]; exact hrow b n
  | succ k ih =>
    have hk' : k < 32768 := by omega
    have hpick : pick (left x k) (ix2 b 0) = BitVec.ofNat 32 (rank (row b) ⟨k, hk'⟩).val := by
      refine pick_row _ b _ fun n hn => ?_
      rw [ih (by omega), ih (by omega)]
      exact hidden_lt (row b) (hs b) (by decide) ⟨k, hk'⟩ (by show k < 16; omega) n hn
    have h := hide_row (left x k) b _ hpick n
    rw [ih (by omega)] at h
    exact h.trans (hidden_succ (row b) ⟨k, hk'⟩ n).symm

theorem pick_left (k : ℕ) (hk : k < 16) (b : Fin 32) :
    pick (left x k) (ix2 b 0) = BitVec.ofNat 32 (rank (row b) ⟨k, by omega⟩).val := by
  refine pick_row _ b _ fun n hn => ?_
  rw [left_row x row hrow hs k (by omega), left_row x row hrow hs k (by omega)]
  exact hidden_lt (row b) (hs b) (by decide) ⟨k, by omega⟩ hk n hn

end

/-- The table of the positions the sixteen rounds take. -/
def table (x : FVec Ideal S32x32768 .f32) : IVec S32x16 32 :=
  concatenate S32x16 1 (List.ofFn fun k : Fin 16 => (⟨S32x1, pick (left x k.val)⟩ : (s : Shape) × (s.Idx → BitVec 32)))
    concatenates_S32x1_S32x1_S32x1_S32x1_S32x1_S32x1_S32x1_S32x1_S32x1_S32x1_S32x1_S32x1_S32x1_S32x1_S32x1_S32x1_S32x16_d1

theorem table_apply (x : FVec Ideal S32x32768 .f32) (b : Fin 32) (k : Fin 16) : table x (ix2 b k) = pick (left x k.val) (ix2 b 0) := by
  unfold table
  refine concatenate_ofFn_unit_apply (t := S32x16) (s₁ := S32x1) (1 : Fin 2) (fun k : Fin 16 => pick (left x k.val)) _ rfl rfl (ix2 b k : S32x16.Idx) k rfl (ix2 b 0) ?_
  intro a ha
  match a with
  | ⟨0, _⟩ => rfl
  | ⟨1, _⟩ => exact absurd rfl ha

/-- One row of a one-hot block. -/
theorem oneHot_apply (v : Vec Ideal S1x16 .i32) (k : Fin 16) (m n : Fin 32768) (h : v (ix2 0 k) = BitVec.ofNat 32 m.val) :
    k0_pay2 (F := Ideal) v (ix2 k n) = if n = m then 1 else 0 := by
  unfold k0_pay2
  dsimp only
  have e1 : iota .tc S16x32768 32 [1] iota_S16x32768_d1_w32 (ix2 k n) = BitVec.ofNat 32 n.val := iota_row _ k n
  have e2 : broadcastTo S16x32768 (shapeCast S16x1 v shapeCasts_S1x16_S16x1) broadcasts_S16x1_S16x32768 (ix2 k n) = BitVec.ofNat 32 m.val := by
    refine (spread_row (by decide) _ _ k n).trans (Eq.trans ?_ h)
    refine shapeCast_apply v _ _ _ ?_
    rw [Shape.rowMajor_val_two, Shape.rowMajor_val_two]
    show 0 * 16 + k.val = k.val * 1 + 0
    omega
  unfold sitofp extui cmpi
  rw [e1, e2, eq_bit]
  by_cases h : n = m
  · rw [if_pos (ofNat_inj.2 h), if_pos h]
    show ((((1#1 : BitVec 1).setWidth 32).toInt : ℝ) : EReal) = 1
    rw [show ((1#1 : BitVec 1).setWidth 32).toInt = 1 from by decide]
    norm_num
  · rw [if_neg (fun e => h (ofNat_inj.1 e)), if_neg h]
    show ((((0#1 : BitVec 1).setWidth 32).toInt : ℝ) : EReal) = 0
    rw [show ((0#1 : BitVec 1).setWidth 32).toInt = 0 from by decide]
    norm_num

/-- What the kernel's body stores in its table at the first grid point. -/
theorem payload_table (v12 : Vec Ideal S1x32768 .f32) (v13 : Vec Ideal S32x32768 .f32) :
    k0_pay19 (F := Ideal) (iota .tc S32x32768 32 [1] iota_S32x32768_d1_w32) (k0_pay4 v12 v13) (k0_pay6 v12 v13) (k0_pay8 v12 v13)
      (k0_pay10 v12 v13) (k0_pay12 v12 v13) (k0_pay14 v12 v13) (k0_pay16 v12 v13) (k0_pay17 v12 v13) (k0_pay18 v12 v13)
      = table (k0_pay3 v12 v13) := by
  have h5 : k0_pay5 (F := Ideal) v12 v13 = left (k0_pay3 v12 v13) 1 := rfl
  have h7 : k0_pay7 (F := Ideal) v12 v13 = left (k0_pay3 v12 v13) 2 := congrArg hide h5
  have h9 : k0_pay9 (F := Ideal) v12 v13 = left (k0_pay3 v12 v13) 3 := congrArg hide h7
  have h11 : k0_pay11 (F := Ideal) v12 v13 = left (k0_pay3 v12 v13) 4 := congrArg hide h9
  have h13 : k0_pay13 (F := Ideal) v12 v13 = left (k0_pay3 v12 v13) 5 := congrArg hide h11
  have h15 : k0_pay15 (F := Ideal) v12 v13 = left (k0_pay3 v12 v13) 6 := congrArg hide h13
  have h17 : k0_pay17 (F := Ideal) v12 v13 = left (k0_pay3 v12 v13) 7 := congrArg hide h15
  have h4 : k0_pay4 (F := Ideal) v12 v13 = pick (left (k0_pay3 v12 v13) 0) := rfl
  have h6 : k0_pay6 (F := Ideal) v12 v13 = pick (left (k0_pay3 v12 v13) 1) := congrArg pick h5
  have h8 : k0_pay8 (F := Ideal) v12 v13 = pick (left (k0_pay3 v12 v13) 2) := congrArg pick h7
  have h10 : k0_pay10 (F := Ideal) v12 v13 = pick (left (k0_pay3 v12 v13) 3) := congrArg pick h9
  have h12 : k0_pay12 (F := Ideal) v12 v13 = pick (left (k0_pay3 v12 v13) 4) := congrArg pick h11
  have h14 : k0_pay14 (F := Ideal) v12 v13 = pick (left (k0_pay3 v12 v13) 5) := congrArg pick h13
  have h16 : k0_pay16 (F := Ideal) v12 v13 = pick (left (k0_pay3 v12 v13) 6) := congrArg pick h15
  have h18 : k0_pay18 (F := Ideal) v12 v13 = reduceIndex .argMax 1 S32 (left (k0_pay3 v12 v13) 7) reduces_S32x32768_S32 :=
    congrArg (fun y => reduceIndex (F := Ideal) .argMax 1 S32 y reduces_S32x32768_S32) h17
  rw [h4, h6, h8, h10, h12, h14, h16, h17, h18]
  unfold k0_pay19 table
  rfl

end Cert.Rounds
-- ==== Proof.Body.lean ====
/- What one grid point of the kernel leaves in its table and in its output block. -/
module

public import proofs.«01_k».proof.Proof.Rounds
public import proofs.«01_k».proof.Proof.Gen.KernelIdeal.Value
public import Idealize.ShloMosaic.Lib.Pipeline.ValueKit.Basic
public import Idealize.ShloMosaic.Lib.Pipeline.ReadBack

@[expose] public section

set_option maxRecDepth 16384

noncomputable section

namespace Cert.KernelIdeal.Hand

open Idealize.ShloMosaic hiding ix1 ix2 ix3
open Idealize.ShloMosaic.ValueIdx Idealize.ShloMosaic.TcCoe Idealize.ShloMosaic.Tactic Cert.KernelIdeal Cert.KernelIdeal.Gen Cert.KernelIdeal.Value Cert.Rounds
open Idealize.ShloMosaic.Pipeline (Dat Window)

/-- The row of the table that grid point `t` loads. -/
def rowOf (w : Vec Ideal S32x16 .i32) (t : Fin cfg0.N) : Vec Ideal S1x16 .i32 :=
  View.ld (Val := Elt Ideal) (e' := .i32) w (Rect.unit (s := S32x16) (k0_off1 (grid0.coords t)) S1x16.size (k0_off1_inb (grid0.coords t)))

theorem pay1_self (v : IVec S32x16 32) : k0_pay1 v = v := by
  unfold k0_pay1
  exact shapeCast_self v _

/-- The table after the first grid point. -/
theorem sout_A (c : Dev nD) (t : Fin cfg0.N) (hc0 : cond0_0 (grid0.coords t)) (x0 : Vec Ideal S1x32768 .f32) (x1 : Vec Ideal S32x32768 .f32) :
    sout0_A_0 (F := Ideal) c (grid0.coords t) (ms0_0 t) (hs0_0 t) (ms0_1 t) (hs0_1 t) (ms0_2 t) (hs0_2 t) scM0_0 (Memref.isWhole_whole _) hc0 x0 x1
      = table (k0_pay3 x0 x1) := by
  unfold sout0_A_0
  rw [View.read_writes_eq_canon _ _ _ (scover0_A_0 c (grid0.coords t) (ms0_0 t) (hs0_0 t) (ms0_1 t) (hs0_1 t) (ms0_2 t) (hs0_2 t) scM0_0 (Memref.isWhole_whole _) hc0 x0 x1)]
  unfold kernelRun0_A
  dsimp only
  sl_unfold_words
  simp only [View.readAt_eq_ld, (hs0_0 t).read_unread, (hs0_1 t).read_unread]
  rw [View.ld_unit_lit _ x0 (by decide), View.ld_unit_lit _ x1 (by decide), payload_table, pay1_self]
  exact View.canon_cons_unit_lit _ _ [] (by decide)

theorem out_A (c : Dev nD) (t : Fin cfg0.N) (hc0 : cond0_0 (grid0.coords t)) (x0 : Vec Ideal S1x32768 .f32) (x1 : Vec Ideal S32x32768 .f32) :
    out0_A_2 (F := Ideal) c (grid0.coords t) (ms0_0 t) (hs0_0 t) (ms0_1 t) (hs0_1 t) (ms0_2 t) (hs0_2 t) scM0_0 (Memref.isWhole_whole _) hc0 x0 x1
      = k0_pay2 (F := Ideal) (rowOf (table (k0_pay3 x0 x1)) t) := by
  unfold out0_A_2
  rw [View.read_writes_eq_canon _ _ _ (cover0_A_2 c (grid0.coords t) (ms0_0 t) (hs0_0 t) (ms0_1 t) (hs0_1 t) (ms0_2 t) (hs0_2 t) scM0_0 (Memref.isWhole_whole _) hc0 x0 x1)]
  unfold kernelRun0_A
  dsimp only
  sl_unfold_words
  simp only [View.readAt_eq_ld, (hs0_0 t).read_unread, (hs0_1 t).read_unread]
  rw [View.canon_cons_unit_lit _ _ [] (by decide)]
  rw [View.read_writes_junk_eq_canon, View.canon_cons_unit_lit _ _ [] (by decide), View.ld_unit_lit _ x0 (by decide), View.ld_unit_lit _ x1 (by decide), payload_table, pay1_self]
  rfl

theorem out_B (c : Dev nD) (t : Fin cfg0.N) (hc0 : ¬cond0_0 (grid0.coords t)) (x0 : Vec Ideal S1x32768 .f32) (x1 : Vec Ideal S32x32768 .f32)
    (xs : Vec Ideal S32x16 .i32) :
    out0_B_2 (F := Ideal) c (grid0.coords t) (ms0_0 t) (hs0_0 t) (ms0_1 t) (hs0_1 t) (ms0_2 t) (hs0_2 t) scM0_0 (Memref.isWhole_whole _) hc0 x0 x1 xs
      = k0_pay2 (F := Ideal) (rowOf xs t) := by
  unfold out0_B_2
  rw [View.read_writes_eq_canon _ _ _ (cover0_B_2 c (grid0.coords t) (ms0_0 t) (hs0_0 t) (ms0_1 t) (hs0_1 t) (ms0_2 t) (hs0_2 t) scM0_0 (Memref.isWhole_whole _) hc0 x0 x1 xs)]
  unfold kernelRun0_B
  dsimp only
  sl_unfold_words
  simp only [View.readAt_eq_ld, (hs0_0 t).read_unread, (hs0_1 t).read_unread]
  rw [View.canon_cons_unit_lit _ _ [] (by decide), read_unread_whole]
  rfl

end Cert.KernelIdeal.Hand
-- ==== Proof.Grid.lean ====
/- The kernel's result, entry by entry: row `16·b + k` is the one-hot row of the position of the `k`-th largest entry of the
   noisy row `b` (`Order.rank`), as the table of positions is built at the first grid point and kept. -/
module

public import proofs.«01_k».proof.Proof.Body
public import Idealize.ShloMosaic.Lib.Pipeline.ValueKit.Tiles

@[expose] public section

set_option maxRecDepth 16384

noncomputable section

namespace Cert.KernelIdeal.Hand

open Idealize.ShloMosaic hiding ix1 ix2 ix3
open Idealize.ShloMosaic.ValueIdx Idealize.ShloMosaic.TcCoe Cert.KernelIdeal Cert.KernelIdeal.Gen Cert.KernelIdeal.Value Cert.Rounds Cert.Order
open Idealize.ShloMosaic.Pipeline (Dat Window)

theorem N0 : cfg0.N = 32 := N_0

theorem coord_eq : ∀ t : Fin cfg0.N, (grid0.coords t 0).val = t.val :=
  (by decide +kernel : ∀ t : Fin grid0.N, (grid0.coords t 0).val = t.val)

theorem index0 : ∀ (t : Fin cfg0.N) (a : Fin 2), win0_0.index t a = 0 :=
  (by decide +kernel : ∀ (t : Fin grid0.N) (a : Fin 2), win0_0.index t a = 0)

theorem index1 : ∀ (t : Fin cfg0.N) (a : Fin 2), win0_1.index t a = 0 :=
  (by decide +kernel : ∀ (t : Fin grid0.N) (a : Fin 2), win0_1.index t a = 0)

theorem read0 (X : Vec Ideal S1x32768 .f32) (t : Fin cfg0.N) : ((cfg0.win 0).blk t).view.read (Elt Ideal) X = X := by
  funext y
  show X (((cfg0.win 0).blk t).view.emb y) = X y
  refine congrArg X (funext fun a => Fin.ext ?_)
  match a with
  | ⟨0, _⟩ => exact Window.rect_emb_val_of_index_zero win0_0 t (0 : Fin 2) (index0 t 0) y
  | ⟨1, _⟩ => exact Window.rect_emb_val_of_index_zero win0_0 t (1 : Fin 2) (index0 t 1) y

theorem read1 (X : Vec Ideal S32x32768 .f32) (t : Fin cfg0.N) : ((cfg0.win 1).blk t).view.read (Elt Ideal) X = X := by
  funext y
  show X (((cfg0.win 1).blk t).view.emb y) = X y
  refine congrArg X (funext fun a => Fin.ext ?_)
  match a with
  | ⟨0, _⟩ => exact Window.rect_emb_val_of_index_zero win0_1 t (0 : Fin 2) (index1 t 0) y
  | ⟨1, _⟩ => exact Window.rect_emb_val_of_index_zero win0_1 t (1 : Fin 2) (index1 t 1) y

variable (m : (ℓ : Loc nD τ sig) → Buf (Elt Ideal) ℓ) (c : Dev nD)

/-- The logits and the noise the kernel is given. -/
def logits : Vec Ideal S1x32768 .f32 := V m c main_arg0
def noise : Vec Ideal S32x32768 .f32 := V m c main_v15

theorem blk0 (t : Fin cfg0.N) : iblk m c 0 t = logits m c := read0 (logits m c) t

theorem blk1 (t : Fin cfg0.N) : iblk m c 1 t = noise m c := read1 (noise m c) t

/-- The table of positions. -/
def positions : Vec Ideal S32x16 .i32 := table (k0_pay3 (F := Ideal) (logits m c) (noise m c))

/-- The table is kept over the grid. -/
theorem kept (n : ℕ) (hn : n < cfg0.N) : (outsAt0 m c n hn).2 = positions m c := by
  induction n with
  | zero =>
    have e := congrArg Prod.snd (outsAt0_A m c ⟨0, hn⟩ (Nat.zero_mod _))
    refine e.trans ?_
    dsimp only
    rw [sout_A, blk0, blk1]
    rfl
  | succ n ih =>
    have hN := N0
    have h0 : ¬(n + 1) % 32 = 0 := by omega
    have e := congrArg Prod.snd (outsAt0_B m c ⟨n + 1, hn⟩ h0)
    exact e.trans (ih (Nat.lt_of_succ_lt hn))

theorem block (t : Fin cfg0.N) : (outsAt0 m c t.val t.isLt).1 = k0_pay2 (F := Ideal) (rowOf (positions m c) t) := by
  by_cases h0 : t.val % 32 = 0
  · have e := congrArg Prod.fst (outsAt0_A m c t h0)
    refine e.trans ?_
    dsimp only
    rw [out_A, blk0, blk1]
    rfl
  · have e := congrArg Prod.fst (outsAt0_B m c t h0)
    refine e.trans ?_
    dsimp only
    rw [out_B, kept]

theorem rowOf_apply (w : Vec Ideal S32x16 .i32) (t : Fin cfg0.N) (b : Fin 32) (hb : b.val = t.val) (k : Fin 16) :
    rowOf w t (ix2 0 k) = w (ix2 b k) := by
  unfold rowOf
  refine View.ld_unit_apply_of (Val := Elt Ideal) (e := .i32) (S := S32x16) w _ _ _ _ _ fun a => ?_
  have e := k0_off1_eq (grid0.coords t)
  refine Eq.trans ?_ (congrArg (fun z : ℕ => z + ((ix2 0 k : S1x16.Idx) a).val) (congrFun e a).symm)
  match a with
  | ⟨0, _⟩ =>
    show b.val = (grid0.coords t 0).val + 0
    rw [coord_eq, hb]; rfl
  | ⟨1, _⟩ =>
    show k.val = 0 + k.val
    omega

/-- A row of the logits plus the noise. -/
def noisyRow (b : Fin 32) (n : Fin 32768) : EReal := logits m c (ix2 0 n) + noise m c (ix2 b n)

theorem sum_row (x0 : Vec Ideal S1x32768 .f32) (x1 : Vec Ideal S32x32768 .f32) (b : Fin 32) (n : Fin 32768) :
    k0_pay3 (F := Ideal) x0 x1 (ix2 b n) = (x0 (ix2 0 n) + x1 (ix2 b n) : EReal) := by
  unfold k0_pay3
  rw [shapeCast_self]
  refine congrArg (fun z : EReal => z + x1 (ix2 b n)) ?_
  refine broadcastTo_apply _ _ _ _ fun a => ?_
  match a with
  | ⟨0, _⟩ => rfl
  | ⟨1, _⟩ => rfl

/-- The kernel's result. -/
theorem result (hs : ∀ b, Strict (noisyRow m c b) 16) (p : Fin 512) (n : Fin 32768) :
    G2 m c (ix2 p n) = if n = rank (noisyRow m c ⟨p.val / 16, by omega⟩) ⟨p.val % 16, by omega⟩ then (1 : EReal) else 0 := by
  have hN := N0
  have hp : pt2Of (ix2 p n) = p.val / 16 := by
    show 1 * (p.val / 16 - 0) + 1 * (n.val / 32768 - 0) = _
    omega
  have hlt : pt2Of (ix2 p n) < cfg0.N := by rw [hp]; omega
  have hl : loc2Of (ix2 p n) = ix2 (⟨p.val % 16, by omega⟩ : Fin 16) n := by
    funext a
    apply Fin.ext
    match a with
    | ⟨0, _⟩ => rfl
    | ⟨1, _⟩ => show n.val % 32768 = n.val; omega
  unfold G2
  rw [dif_pos hlt, ← outsAt0_sweep m c (pt2Of (ix2 p n)) hlt, hl]
  rw [block m c ⟨pt2Of (ix2 p n), hlt⟩]
  refine oneHot_apply _ _ _ _ ?_
  rw [rowOf_apply _ _ (⟨p.val / 16, by omega⟩ : Fin 32) hp.symm]
  unfold positions
  rw [table_apply]
  exact pick_left (k0_pay3 (F := Ideal) (logits m c) (noise m c)) (noisyRow m c) (fun b n => sum_row _ _ b n) hs (p.val % 16) (by omega) _

end Cert.KernelIdeal.Hand
-- ==== Proof.HostKValue.lean ====
/- The noise array the kernel's region is given. -/
module

public import proofs.«01_k».proof.Proof.HostKRead
public import proofs.«01_k».proof.Proof.Grid

@[expose] public section

set_option maxRecDepth 16384

noncomputable section

namespace Cert.KernelIdeal.Hand

open Idealize.ShloMosaic hiding ix1 ix2 ix3
open Idealize.ShloMosaic.ValueIdx Idealize.ShloMosaic.TcCoe Idealize.ShloMosaic.StableHlo Cert.KernelIdeal Cert.KernelIdeal.Gen Cert.Mixing Cert.Noise

theorem rd_keep {T : BufTy} {V U : Valuation τ sig (Elt Ideal)} (x : TRef sig T)
    (h : V (Proc.devRef .tc x.ref) = U (Proc.devRef .tc x.ref)) : rd V x = rd U x := by
  unfold rd; rw [h]

/-- The draw at an element, from contents that hold the keys' vector and the two bounds. -/
theorem draw_value (U : Valuation τ sig (Elt Ideal))
    (h0 : shapeCast S_ (extractStridedSlice S1 ![0] (rd U (.of main_v6 : TRef sig ⟨S2, .i32⟩)) slices_S2_S1_0) shapeCasts_S1_S_ = fun _ => κ0)
    (h1 : shapeCast S_ (extractStridedSlice S1 ![1] (rd U (.of main_v6 : TRef sig ⟨S2, .i32⟩)) slices_S2_S1_1) shapeCasts_S1_S_ = fun _ => κ1)
    (hl : rd U (.of main_cst : TRef sig ⟨S_, .f32⟩) = constant (F := Ideal) S_ .f32 0x00000000#32)
    (hh : rd U (.of main_cst_2 : TRef sig ⟨S_, .f32⟩) = constant (F := Ideal) S_ .f32 0x3F800000#32) (b : Fin 32) (n : Fin 32768) :
    rd (after (hostOps0_1 (F := Ideal)) U) (.of main_v7 : TRef sig ⟨S32x32768, .f32⟩) (ix2 b n) = unif (word (counter b.val n.val)) := by
  rw [draw_eq, after_append, after_append, after_append]
  have p0 := (pre_k0 U).trans h0
  have p1 := (pre_k1 U).trans h1
  have pl := (pre_lo U).trans (congrArg _ hl)
  have ph := (pre_hi U).trans (congrArg _ hh)
  have p18 := pre_high U
  have p17 := pre_low U
  generalize after (kPre (F := Ideal)) U = W at p0 p1 pl ph p18 p17 ⊢
  have q0 : rd (after (kHead (F := Ideal)) W) (.of main_call0_v5 : TRef sig KT) = fun _ => κ0 :=
    (rd_keep (.of main_call0_v5) (head_kept W main_call0_v5 (by decide))).trans p0
  have q1 : rd (after (kHead (F := Ideal)) W) (.of main_call0_v7 : TRef sig KT) = fun _ => κ1 :=
    (rd_keep (.of main_call0_v7) (head_kept W main_call0_v7 (by decide))).trans p1
  have ql := (rd_keep (.of main_call0_v2 : TRef sig ⟨S1x1, .f32⟩) (head_kept W main_call0_v2 (by decide))).trans pl
  have qh := (rd_keep (.of main_call0_v3 : TRef sig ⟨S1x1, .f32⟩) (head_kept W main_call0_v3 (by decide))).trans ph
  have q18 := (rd_keep (.of main_call0_v18 : TRef sig (VT S32x32768)) (head_kept W main_call0_v18 (by decide))).trans p18
  have q17 := (rd_keep (.of main_call0_v17 : TRef sig (VT S32x32768)) (head_kept W main_call0_v17 (by decide))).trans p17
  have q3 : rd (after (kHead (F := Ideal)) W) (.of main_call0_call0_v1 : TRef sig KT) = fun _ => third κ0 κ1 := by
    rw [head_third, p0, p1]
    rfl
  generalize after (kHead (F := Ideal)) W = X at q0 q1 ql qh q18 q17 q3 ⊢
  have hg := gen_held X keptRefs bcast_S_S32x32768 kt kc (.of main_call0_v5) (.of main_call0_v7) (.of main_call0_call0_v1) (.of main_call0_v18)
    (.of main_call0_v17) κ0 κ1 q0 q1 q3 (.head _) (.tail _ (.head _)) (.tail _ (.tail _ (.head _))) gen_nodup gen_kept
  have hs := hg.state (ix2 b n)
  have rl := (rd_keep (.of main_call0_v2 : TRef sig ⟨S1x1, .f32⟩) (hg.keep main_call0_v2 (.tail _ (.tail _ (.tail _ (.head _)))))).trans ql
  have rh := (rd_keep (.of main_call0_v3 : TRef sig ⟨S1x1, .f32⟩) (hg.keep main_call0_v3 (.tail _ (.tail _ (.tail _ (.tail _ (.head _))))))).trans qh
  clear hg
  generalize after kGen X = Y at hs rl rh ⊢
  have e0 := congrArg Prod.fst hs
  have e1 := congrArg Prod.snd hs
  dsimp only at e0 e1
  rw [post_draw]
  rw [rl, rh]
  refine (unif_apply bcast_S_S32x32768 bcast_S_S1x1 ![0, 1] bcast_S1x1_S32x32768_0_1 (rd Y (kt 171)) (rd Y (kt 175)) (ix2 b n)).trans ?_
  rw [e0, e1]
  rw [q18, q17]
  rfl

/-- The noise the kernel's region is given. -/
theorem noise_value (m : (ℓ : Loc nD τ sig) → Buf (Elt Ideal) ℓ) (c : Dev nD) (b : Fin 32) (n : Fin 32768) :
    noise m c (ix2 b n) = G b.val n.val := by
  have e : noise m c = after (hostOps0_2 (F := Ideal)) (after hostOps0_1 (after hostOps0 fun b => m (c, b))) (Proc.devRef .tc main_v15) := by
    show after (List.flatten [hostOps0, hostOps0_1, hostOps0_2]) _ _ = _
    rw [List.flatten_cons, List.flatten_cons, List.flatten_cons, List.flatten_nil, List.append_nil, after_append, after_append]
  rw [e, last_noise]
  refine (gumbel_apply bcast_S_S32x32768 _ (ix2 b n)).trans ?_
  have hk := first_key fun b => m (c, b)
  have hl := first_lo fun b => m (c, b)
  have hh := first_hi fun b => m (c, b)
  generalize after (hostOps0 (F := Ideal)) (fun b => m (c, b)) = U at hk hl hh ⊢
  have hk' : rd U (.of main_v6 : TRef sig ⟨S2, .i32⟩) = _ := hk
  unfold G
  refine congrArg gumbel (draw_value U ?_ ?_ hl hh b n)
  · rw [hk']; exact key0 κ0 κ1 _ _ _ _
  · rw [hk']; exact key1 κ0 κ1 _ _ _ _

theorem logits_value (m : (ℓ : Loc nD τ sig) → Buf (Elt Ideal) ℓ) (c : Dev nD) : logits m c = m ((c : Thread nD τ).loc main_arg0) :=
  V_main_arg0 m c

end Cert.KernelIdeal.Hand
-- ==== Proof.Soften.lean ====
/- The reference's softened rows. A row of scores none of which is the top value, one of which is a real number, has a
   real largest score and a softmax of real numbers; so the difference it is taken from gets back what was taken, exactly.
   Also the running count down the rows of a one-hot array: real everywhere, and one where a row has its mark for the
   first time. -/
module

public import proofs.«01_k».proof.Proof.Noise
public import Idealize.ShloMosaic.Lib.ValueIdxCore

@[expose] public section

noncomputable section

namespace Cert.Soften

open Idealize.ShloMosaic Idealize.ShloMosaic.ValueIdx

/-- An extended real that is a real number. -/
def IsReal (a : EReal) : Prop := ∃ r : ℝ, a = (r : EReal)

theorem isReal_of_ne {a : EReal} (hb : a ≠ ⊥) (ht : a ≠ ⊤) : IsReal a := ⟨a.toReal, (EReal.coe_toReal ht hb).symm⟩

theorem IsReal.ne_top {a : EReal} (h : IsReal a) : a ≠ ⊤ := by obtain ⟨r, rfl⟩ := h; exact EReal.coe_ne_top r

theorem IsReal.ne_bot {a : EReal} (h : IsReal a) : a ≠ ⊥ := by obtain ⟨r, rfl⟩ := h; exact EReal.coe_ne_bot r

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem isReal_zero : IsReal 0 := ⟨0, rfl⟩

theorem isReal_one : IsReal 1 := ⟨1, rfl⟩

theorem IsReal.sum {ι : Type} (S : Finset ι) (f : ι → EReal) (hf : ∀ i ∈ S, IsReal (f i)) : IsReal (∑ i ∈ S, f i) := by
  classical
  induction S using Finset.induction_on with
  | empty => rw [Finset.sum_empty]; exact isReal_zero
  | insert a S ha ih =>
    rw [Finset.sum_insert ha]
    exact (hf a (Finset.mem_insert_self a S)).add (ih fun i hi => hf i (Finset.mem_insert_of_mem hi))

/-- The exponential of anything but the top value is a real number, not negative, -/
theorem exp_real {a : EReal} (h : a ≠ ⊤) : ∃ r : ℝ, 0 ≤ r ∧ Ideal.exp a = (r : EReal) := by
  induction a with
  | bot => exact ⟨0, le_rfl, rfl⟩
  | coe r => exact ⟨Real.exp r, (Real.exp_pos r).le, rfl⟩
  | top => exact absurd rfl h

/-- and of a real number it is positive. -/
theorem exp_pos {a : EReal} (h : IsReal a) : ∃ r : ℝ, 0 < r ∧ Ideal.exp a = (r : EReal) := by
  obtain ⟨r, rfl⟩ := h
  exact ⟨Real.exp r, Real.exp_pos r, rfl⟩

theorem log_ne_top (r : ℝ) : Ideal.log (r : EReal) ≠ ⊤ := by
  show (if r ≤ 0 then (⊥ : EReal) else _) ≠ _
  split
  · exact bot_ne_top
  · exact EReal.coe_ne_top _

/-! ## One score -/

/-- A score: the logit's exponential times what is left of it, its logarithm, and the noise. -/
def score (l c g : EReal) : EReal := Ideal.log (Ideal.exp l * c) + g

theorem score_ne_top {l c g : EReal} (hl : l ≠ ⊤) (hc : IsReal c) (hg : IsReal g) : score l c g ≠ ⊤ := by
  obtain ⟨e, -, he⟩ := exp_real hl
  obtain ⟨c, rfl⟩ := hc
  obtain ⟨g, rfl⟩ := hg
  unfold score
  rw [he, ← EReal.coe_mul]
  generalize hq : Ideal.log ((e * c : ℝ) : EReal) = q
  have hq' : q ≠ ⊤ := hq ▸ log_ne_top _
  induction q with
  | bot => rw [EReal.bot_add]; exact bot_ne_top
  | coe q => rw [← EReal.coe_add]; exact EReal.coe_ne_top _
  | top => exact absurd rfl hq'

theorem score_real {l g : EReal} {c : ℝ} (hl : IsReal l) (hc : 0 < c) (hg : IsReal g) : IsReal (score l c g) := by
  obtain ⟨e, he, h⟩ := exp_pos hl
  unfold score
  rw [h, ← EReal.coe_mul, Noise.log_coe (mul_pos he hc)]
  exact IsReal.add ⟨_, rfl⟩ hg

theorem div_one (a : EReal) : Ideal.div a 1 = a := by
  unfold Ideal.div
  rw [if_neg one_ne_zero, inv_one, mul_one]

/-! ## A row's largest score -/

theorem foldl_max_ne_top {ι : Type} (f : ι → EReal) (L : List ι) (a : EReal) (ha : a ≠ ⊤) (hf : ∀ i ∈ L, f i ≠ ⊤) :
    L.foldl (fun r n => max r (f n)) a ≠ ⊤ := by
  induction L generalizing a with
  | nil => exact ha
  | cons i L ih =>
    refine ih _ ?_ fun k hk => hf k (List.mem_cons_of_mem _ hk)
    rcases max_choice a (f i) with h | h
    · exact ne_of_eq_of_ne h ha
    · exact ne_of_eq_of_ne h (hf i List.mem_cons_self)

theorem le_foldl_max {ι : Type} (f : ι → EReal) (L : List ι) (a : EReal) :
    a ≤ L.foldl (fun r n => max r (f n)) a ∧ ∀ i ∈ L, f i ≤ L.foldl (fun r n => max r (f n)) a := by
  induction L generalizing a with
  | nil => exact ⟨le_rfl, fun i hi => absurd hi List.not_mem_nil⟩
  | cons k L ih =>
    have h := ih (max a (f k))
    refine ⟨(le_max_left _ _).trans h.1, fun i hi => ?_⟩
    rcases List.mem_cons.1 hi with rfl | hi
    · exact (le_max_right _ _).trans h.1
    · exact h.2 i hi

/-- The host's largest element of a row of scores: a real number where the row's scores are below the top value and one of
    them is real. -/
theorem reduceMax_real {s t : Shape} {axes : List (Fin s.rank)} (x : s.Idx → EReal) (u : Shape) (init : u.Idx → EReal)
    (h : s.ReducesTo axes t) (hu : 0 < u.numel) (hinit : ∀ i, init i = ⊥) (j : t.Idx)
    (hx : ∀ i, x i ≠ ⊤) (p : s.Idx) (hp : h.drop p = j) (hr : IsReal (x p)) :
    IsReal (Host.reduce (fun a b => max a b) x init h hu j) := by
  unfold Host.reduce
  refine isReal_of_ne ?_ ?_
  · have hle := (le_foldl_max (fun n => x (s.rowMajor.symm n))
      ((List.finRange s.numel).filter fun n => h.drop (s.rowMajor.symm n) = j) (init (Shape.Idx.first hu))).2
      (s.rowMajor p) (by simp [hp])
    rw [Equiv.symm_apply_apply] at hle
    intro e
    exact hr.ne_bot (le_bot_iff.1 (e ▸ hle))
  · exact foldl_max_ne_top _ _ _ (by rw [hinit]; exact bot_ne_top) fun n _ => hx _

/-- The host's sum of a row of exponentials: positive. -/
theorem reduceAdd_pos {s t : Shape} {axes : List (Fin s.rank)} (x : s.Idx → EReal) (h : s.ReducesTo axes t) (j : t.Idx)
    (hx : ∀ i, h.drop i = j → ∃ r : ℝ, 0 ≤ r ∧ x i = (r : EReal)) (p : s.Idx) (hp : h.drop p = j) (hr : ∃ r : ℝ, 0 < r ∧ x p = (r : EReal)) :
    ∃ r : ℝ, 0 < r ∧ Ideal.hostReduceAdd h x 0 j = (r : EReal) := by
  unfold Ideal.hostReduceAdd
  have hreal : IsReal (∑ i ∈ Finset.univ.filter (fun i => h.drop i = j), x i) :=
    IsReal.sum _ _ fun i hi => (hx i (Finset.mem_filter.1 hi).2).imp fun r hr => hr.2
  obtain ⟨r, hr'⟩ := hreal
  refine ⟨r, ?_, by rw [zero_add, hr']⟩
  obtain ⟨q, hq, he⟩ := hr
  have hle : x p ≤ ∑ i ∈ Finset.univ.filter (fun i => h.drop i = j), x i :=
    Finset.single_le_sum (f := x) (fun i hi => by
      obtain ⟨r, h0, h1⟩ := hx i (Finset.mem_filter.1 hi).2
      rw [h1]; exact_mod_cast h0) (Finset.mem_filter.2 ⟨Finset.mem_univ p, hp⟩)
  rw [hr', he] at hle
  exact lt_of_lt_of_le hq (by exact_mod_cast hle)

/-- What is taken from a mark and given back leaves the mark. -/
theorem give_back {a z M s : EReal} (ha : IsReal a) (hz : z ≠ ⊤) (hM : IsReal M) {r : ℝ} (hs : s = (r : EReal)) (hr : 0 < r) :
    (a - Ideal.div (Ideal.exp (z - M)) s) + Ideal.div (Ideal.exp (z - M)) s = a := by
  obtain ⟨a, rfl⟩ := ha
  have hzM : z - M ≠ ⊤ := by
    obtain ⟨M, rfl⟩ := hM
    induction z with
    | bot => rw [EReal.bot_sub]; exact bot_ne_top
    | coe z => rw [← EReal.coe_sub]; exact EReal.coe_ne_top _
    | top => exact absurd rfl hz
  obtain ⟨e, -, he⟩ := exp_real hzM
  have hd : Ideal.div (Ideal.exp (z - M)) s = ((e * r⁻¹ : ℝ) : EReal) := by
    unfold Ideal.div
    rw [hs, if_neg (by exact_mod_cast hr.ne'), he, ← EReal.coe_inv, ← EReal.coe_mul]
  rw [hd, ← EReal.coe_sub, ← EReal.coe_add, sub_add_cancel]

/-! ## The running count -/

theorem foldl_add {ι : Type} (f : ι → EReal) (L : List ι) (a : EReal) :
    L.foldl (fun r n => r + f n) a = a + (L.map f).sum := by
  induction L generalizing a with
  | nil => simp
  | cons i L ih => rw [List.foldl_cons, ih, List.map_cons, List.sum_cons, add_assoc]

/-- A window's sum over its positions. -/
theorem window_sum {s t : Shape} (window strides lo hi : Fin s.rank → ℕ) (h : s.ReduceWindows window strides lo hi t)
    (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val ∧
              (j (a.cast h.1.symm)).val * strides a + (w a).val - lo a < s.size a
            then x (fun a => ⟨(j (a.cast h.1.symm)).val * strides a + (w a).val - lo a, (hin a).2⟩) else 0 := by
  unfold Ideal.hostReduceWindowAdd Host.reduceWindow
  dsimp only
  rw [foldl_add, zero_add, ← Fin.sum_univ_def]
  refine (Finset.sum_congr rfl fun n _ => ?_).trans (Equiv.sum_comp (⟨s.rank, window⟩ : Shape).rowMajor.symm (fun w : (⟨s.rank, window⟩ : Shape).Idx =>
    if hin : ∀ a, lo a ≤ (j (a.cast h.1.symm)).val * strides a + (w a).val ∧
              (j (a.cast h.1.symm)).val * strides a + (w a).val - lo a < s.size a
            then x (fun a => ⟨(j (a.cast h.1.symm)).val * strides a + (w a).val - lo a, (hin a).2⟩) else 0))
  congr

theorem window_real {s t : Shape} (window strides lo hi : Fin s.rank → ℕ) (h : s.ReduceWindows window strides lo hi t)
    (x : s.Idx → EReal) (hx : ∀ i, IsReal (x i)) (j : t.Idx) :
    IsReal (Ideal.hostReduceWindowAdd window strides lo hi h x 0 j) := by
  rw [window_sum]
  refine IsReal.sum _ _ fun w _ => ?_
  split
  · exact hx _
  · exact isReal_zero

/-- Down sixteen rows, the running count at a place where a row has a one and the rows before it have zeros is one. -/
theorem window_one {M N : ℕ} (h : (⟨3, ![M, 16, N]⟩ : Shape).ReduceWindows ![1, 16, 1] ![1, 1, 1] ![0, 15, 0] ![0, 0, 0] ⟨3, ![M, 16, N]⟩)
    (x : (⟨3, ![M, 16, N]⟩ : Shape).Idx → EReal) (b : Fin M) (j : Fin 16) (n : Fin N)
    (h1 : x (ix3 b j n) = 1) (h0 : ∀ j' : Fin 16, j'.val < j.val → x (ix3 b j' n) = 0) :
    Ideal.hostReduceWindowAdd ![1, 16, 1] ![1, 1, 1] ![0, 15, 0] ![0, 0, 0] h x 0 (ix3 b j n) = 1 := by
  rw [window_sum]
  rw [Finset.sum_eq_single (ix3 (n0 := 1) (n1 := 16) (n2 := 1) 0 15 0)]
  · rw [dif_pos]
    · refine Eq.trans (congrArg x ?_) h1
      funext a
      match a with
      | ⟨0, _⟩ => exact Fin.ext (by show b.val * 1 + 0 - 0 = b.val; omega)
      | ⟨1, _⟩ => exact Fin.ext (by show j.val * 1 + 15 - 15 = j.val; omega)
      | ⟨2, _⟩ => exact Fin.ext (by show n.val * 1 + 0 - 0 = n.val; omega)
    · intro a
      match a with
      | ⟨0, _⟩ => exact ⟨Nat.zero_le _, (by show b.val * 1 + 0 - 0 < M; have := b.isLt; omega)⟩
      | ⟨1, _⟩ => exact ⟨(by show 15 ≤ j.val * 1 + 15; omega), (by show j.val * 1 + 15 - 15 < 16; have := j.isLt; omega)⟩
      | ⟨2, _⟩ => exact ⟨Nat.zero_le _, (by show n.val * 1 + 0 - 0 < N; have := n.isLt; omega)⟩
  · intro w _ hw
    have hw1 : (w 1).val < 15 := by
      have h16 : (w 1).val < 16 := (w 1).isLt
      by_contra hc
      refine hw ?_
      funext a
      match a with
      | ⟨0, _⟩ => exact Subsingleton.elim (α := Fin 1) _ _
      | ⟨1, _⟩ => exact Fin.ext (by show (w 1).val = 15; omega)
      | ⟨2, _⟩ => exact Subsingleton.elim (α := Fin 1) _ _
    split
    · rename_i hin
      have hlo : 15 ≤ j.val * 1 + (w 1).val := (hin 1).1
      have h0w : (w 0).val = 0 := Nat.lt_one_iff.1 (w 0).isLt
      have h2w : (w 2).val = 0 := Nat.lt_one_iff.1 (w 2).isLt
      have hj := j.isLt
      refine Eq.trans (congrArg x ?_) (h0 ⟨j.val * 1 + (w 1).val - 15, by omega⟩ (by show j.val * 1 + (w 1).val - 15 < j.val; omega))
      funext a
      match a with
      | ⟨0, _⟩ => exact Fin.ext (by show b.val * 1 + (w 0).val - 0 = b.val; omega)
      | ⟨1, _⟩ => rfl
      | ⟨2, _⟩ => exact Fin.ext (by show n.val * 1 + (w 2).val - 0 = n.val; omega)
    · rfl
  · intro hn
    exact absurd (Finset.mem_univ _) hn

end Cert.Soften
-- ==== Proof.RefArrays.lean ====
/- The reference's array operations, read at an element. -/
module

public import proofs.«01_k».proof.Proof.Soften
public import proofs.«01_k».proof.Proof.Rounds
public import Idealize.ShloMosaic.Lib.Pipeline.Value
public import Idealize.ShloMosaic.Lib.Pointwise

@[expose] public section

noncomputable section

namespace Cert.RefArrays

open Idealize.ShloMosaic hiding ix1 ix2 ix3 ix6
open Idealize.ShloMosaic.ValueIdx Cert.Soften Cert.Noise Cert.Mixing

variable {M K N : ℕ}

/-- A row's value along the last axis. -/
theorem spread_row {α : Type} (hM : M ≠ 1) (hK : K ≠ 1) (v : (⟨2, ![M, K]⟩ : Shape).Idx → α)
    (h1 : (⟨2, ![M, K]⟩ : Shape).BroadcastsInDim ⟨3, ![M, K, 1]⟩ ![0, 1]) (h2 : (⟨3, ![M, K, 1]⟩ : Shape).BroadcastsInDim ⟨3, ![M, K, N]⟩ ![0, 1, 2])
    (b : Fin M) (k : Fin K) (n : Fin N) :
    broadcastInDim ⟨3, ![M, K, N]⟩ ![0, 1, 2] h2 (broadcastInDim ⟨3, ![M, K, 1]⟩ ![0, 1] h1 v) (ix3 b k n) = v (ix2 b k) := by
  refine (broadcastInDim_apply _ h2 _ (ix3 b k n) (ix3 b k 0) fun a => ?_).trans (broadcastInDim_apply _ h1 v (ix3 b k 0) (ix2 b k) fun a => ?_)
  · match a with
    | ⟨0, _⟩ => exact (if_neg hM).symm
    | ⟨1, _⟩ => exact (if_neg hK).symm
    | ⟨2, _⟩ => exact (if_pos rfl).symm
  · match a with
    | ⟨0, _⟩ => exact (if_neg hM).symm
    | ⟨1, _⟩ => exact (if_neg hK).symm

/-- The logits on every row. -/
theorem spread_logits {α : Type} (hN : N ≠ 1) (v : (⟨2, ![1, N]⟩ : Shape).Idx → α)
    (h1 : (⟨2, ![1, N]⟩ : Shape).BroadcastsInDim ⟨3, ![1, 1, N]⟩ ![1, 2]) (h2 : (⟨3, ![1, 1, N]⟩ : Shape).BroadcastsInDim ⟨3, ![M, 1, N]⟩ ![0, 1, 2])
    (b : Fin M) (n : Fin N) :
    broadcastInDim ⟨3, ![M, 1, N]⟩ ![0, 1, 2] h2 (broadcastInDim ⟨3, ![1, 1, N]⟩ ![1, 2] h1 v) (ix3 b 0 n) = v (ix2 0 n) := by
  refine (broadcastInDim_apply _ h2 _ (ix3 b 0 n) (ix3 0 0 n) fun a => ?_).trans (broadcastInDim_apply _ h1 v (ix3 0 0 n) (ix2 0 n) fun a => ?_)
  · match a with
    | ⟨0, _⟩ => exact (if_pos rfl).symm
    | ⟨1, _⟩ => exact (if_pos rfl).symm
    | ⟨2, _⟩ => exact (if_neg hN).symm
  · match a with
    | ⟨0, _⟩ => exact (if_pos rfl).symm
    | ⟨1, _⟩ => exact (if_neg hN).symm

/-- The positions along the last axis. -/
theorem spread_iota (hN : N ≠ 1) (h : (⟨3, ![1, 1, N]⟩ : Shape).BroadcastsInDim ⟨3, ![M, K, N]⟩ ![0, 1, 2]) (b : Fin M) (k : Fin K) (n : Fin N) :
    broadcastInDim ⟨3, ![M, K, N]⟩ ![0, 1, 2] h (iotaInDim ⟨3, ![1, 1, N]⟩ 32 2) (ix3 b k n) = BitVec.ofNat 32 n.val := by
  refine (broadcastInDim_apply _ h _ (ix3 b k n) (ix3 0 0 n) fun a => ?_).trans rfl
  match a with
  | ⟨0, _⟩ => exact (if_pos rfl).symm
  | ⟨1, _⟩ => exact (if_pos rfl).symm
  | ⟨2, _⟩ => exact (if_neg hN).symm

theorem rowMajor_six {d : Fin 6 → ℕ} (i : (⟨6, d⟩ : Shape).Idx) :
    ((⟨6, d⟩ : Shape).rowMajor i).val
      = (((((i 0).val * d 1 + (i 1).val) * d 2 + (i 2).val) * d 3 + (i 3).val) * d 4 + (i 4).val) * d 5 + (i 5).val := by
  rw [Shape.rowMajor_val_succ, Shape.rowMajor_val_five]
  simp only [Shape.numel, Fin.prod_univ_succ, Finset.univ_eq_empty, Finset.prod_empty]
  show (i 0).val * (d 1 * (d 2 * (d 3 * (d 4 * (d 5 * 1))))) + (((((i 1).val * d 2 + (i 2).val) * d 3 + (i 3).val) * d 4 + (i 4).val) * d 5 + (i 5).val) = _
  ring

/-- The logits on every row of every batch member. -/
theorem spread_weights {α : Type} (hM : M ≠ 1) (hK : K ≠ 1) (hN : N ≠ 1) (v : (⟨2, ![1, N]⟩ : Shape).Idx → α)
    (h1 : (⟨2, ![1, N]⟩ : Shape).BroadcastsInDim ⟨3, ![1, 1, N]⟩ ![1, 2]) (h2 : (⟨3, ![1, 1, N]⟩ : Shape).ShapeCasts ⟨6, ![1, 1, 1, 1, 1, N]⟩)
    (h3 : (⟨6, ![1, 1, 1, 1, 1, N]⟩ : Shape).BroadcastsInDim ⟨6, ![M, 1, K, 1, 1, N]⟩ ![0, 1, 2, 3, 4, 5])
    (h4 : (⟨6, ![M, 1, K, 1, 1, N]⟩ : Shape).ShapeCasts ⟨3, ![M, K, N]⟩) (b : Fin M) (k : Fin K) (n : Fin N) :
    shapeCast ⟨3, ![M, K, N]⟩ (broadcastInDim ⟨6, ![M, 1, K, 1, 1, N]⟩ ![0, 1, 2, 3, 4, 5] h3
      (shapeCast ⟨6, ![1, 1, 1, 1, 1, N]⟩ (broadcastInDim ⟨3, ![1, 1, N]⟩ ![1, 2] h1 v) h2)) h4 (ix3 b k n) = v (ix2 0 n) := by
  refine (shapeCast_apply _ h4 (ix3 b k n) (ix6 b 0 k 0 0 n) ?_).trans ?_
  · rw [rowMajor_six, Shape.rowMajor_val_three]
    show ((((b.val * 1 + 0) * K + k.val) * 1 + 0) * 1 + 0) * N + n.val = (b.val * K + k.val) * N + n.val
    simp only [Nat.mul_one, Nat.add_zero]
  refine (broadcastInDim_apply _ h3 _ (ix6 b 0 k 0 0 n) (ix6 0 0 0 0 0 n) fun a => ?_).trans ?_
  · match a with
    | ⟨0, _⟩ => exact (if_pos rfl).symm
    | ⟨1, _⟩ => exact (if_pos rfl).symm
    | ⟨2, _⟩ => exact (if_pos rfl).symm
    | ⟨3, _⟩ => exact (if_pos rfl).symm
    | ⟨4, _⟩ => exact (if_pos rfl).symm
    | ⟨5, _⟩ => exact (if_neg hN).symm
  refine (shapeCast_apply _ h2 (ix6 0 0 0 0 0 n) (ix3 0 0 n) ?_).trans ?_
  · rw [rowMajor_six, Shape.rowMajor_val_three]
    show (0 * 1 + 0) * N + n.val = ((((0 * 1 + 0) * 1 + 0) * 1 + 0) * 1 + 0) * N + n.val
    simp only [Nat.mul_one, Nat.add_zero]
  refine broadcastInDim_apply _ h1 v (ix3 0 0 n) (ix2 0 n) fun a => ?_
  match a with
  | ⟨0, _⟩ => exact (if_pos rfl).symm
  | ⟨1, _⟩ => exact (if_neg hN).symm

/-- A batch member's noise on each of its rows. -/
theorem spread_noise {α : Type} (hM : M ≠ 1) (hN : N ≠ 1) (v : (⟨3, ![M, 1, N]⟩ : Shape).Idx → α)
    (h2 : (⟨3, ![M, 1, N]⟩ : Shape).ShapeCasts ⟨6, ![1, M, 1, 1, 1, N]⟩)
    (h3 : (⟨6, ![1, M, 1, 1, 1, N]⟩ : Shape).BroadcastsInDim ⟨6, ![1, M, K, 1, 1, N]⟩ ![0, 1, 2, 3, 4, 5])
    (h4 : (⟨6, ![1, M, K, 1, 1, N]⟩ : Shape).ShapeCasts ⟨3, ![M, K, N]⟩) (b : Fin M) (k : Fin K) (n : Fin N) :
    shapeCast ⟨3, ![M, K, N]⟩ (broadcastInDim ⟨6, ![1, M, K, 1, 1, N]⟩ ![0, 1, 2, 3, 4, 5] h3
      (shapeCast ⟨6, ![1, M, 1, 1, 1, N]⟩ v h2)) h4 (ix3 b k n) = v (ix3 b 0 n) := by
  refine (shapeCast_apply _ h4 (ix3 b k n) (ix6 0 b k 0 0 n) ?_).trans ?_
  · rw [rowMajor_six, Shape.rowMajor_val_three]
    show ((((0 * M + b.val) * K + k.val) * 1 + 0) * 1 + 0) * N + n.val = (b.val * K + k.val) * N + n.val
    simp only [Nat.mul_one, Nat.add_zero, Nat.zero_mul, Nat.zero_add]
  refine (broadcastInDim_apply _ h3 _ (ix6 0 b k 0 0 n) (ix6 0 b 0 0 0 n) fun a => ?_).trans ?_
  · match a with
    | ⟨0, _⟩ => exact (if_pos rfl).symm
    | ⟨1, _⟩ => exact (if_neg hM).symm
    | ⟨2, _⟩ => exact (if_pos rfl).symm
    | ⟨3, _⟩ => exact (if_pos rfl).symm
    | ⟨4, _⟩ => exact (if_pos rfl).symm
    | ⟨5, _⟩ => exact (if_neg hN).symm
  refine shapeCast_apply _ h2 (ix6 0 b 0 0 0 n) (ix3 b 0 n) ?_
  rw [rowMajor_six, Shape.rowMajor_val_three]
  show (b.val * 1 + 0) * N + n.val = ((((0 * M + b.val) * 1 + 0) * 1 + 0) * 1 + 0) * N + n.val
  simp only [Nat.mul_one, Nat.add_zero, Nat.zero_mul, Nat.zero_add]

/-- The middle axis of one element dropped. -/
theorem drop_middle {α : Type} (v : (⟨3, ![M, 1, K]⟩ : Shape).Idx → α) (h : (⟨3, ![M, 1, K]⟩ : Shape).ShapeCasts ⟨2, ![M, K]⟩)
    (b : Fin M) (k : Fin K) : shapeCast ⟨2, ![M, K]⟩ v h (ix2 b k) = v (ix3 b 0 k) := by
  refine shapeCast_apply v h _ _ ?_
  rw [Shape.rowMajor_val_three, Shape.rowMajor_val_two]
  show (b.val * 1 + 0) * K + k.val = b.val * K + k.val
  simp only [Nat.mul_one, Nat.add_zero]

/-- The first two axes made one. -/
theorem flatten {α : Type} {P : ℕ} (v : (⟨3, ![M, K, N]⟩ : Shape).Idx → α) (h : (⟨3, ![M, K, N]⟩ : Shape).ShapeCasts ⟨2, ![P, N]⟩)
    (p : Fin P) (b : Fin M) (k : Fin K) (n : Fin N) (hp : p.val = b.val * K + k.val) :
    shapeCast ⟨2, ![P, N]⟩ v h (ix2 p n) = v (ix3 b k n) := by
  refine shapeCast_apply v h _ _ ?_
  rw [Shape.rowMajor_val_three, Shape.rowMajor_val_two]
  show (b.val * K + k.val) * N + n.val = p.val * N + n.val
  rw [hp]

/-- A mark where two words agree. -/
theorem mark_apply {s : Shape} (x y : IVec s 32) (i : s.Idx) (n m : Fin 32768) (hx : x i = BitVec.ofNat 32 m.val) (hy : y i = BitVec.ofNat 32 n.val) :
    (uitofp (F := Ideal) .f32 (cmpi .eq x y)) i = if n = m then 1 else 0 := by
  show (((IntOp.cmpi .eq (x i) (y i)).toNat : ℝ) : EReal) = _
  rw [hx, hy, Rounds.eq_bit]
  by_cases h : n = m
  · rw [if_pos h, if_pos (by rw [h])]; simp
  · rw [if_neg h, if_neg (fun e => h (Rounds.ofNat_inj.1 e.symm))]; simp

theorem max_temperature : max (1 : EReal) (Ideal.ofBits .f32 0x3A83126F#32) = 1 := by
  refine max_eq_left ?_
  have : Ideal.ofBits .f32 0x3A83126F#32 = (((2 ^ 23 + 201327 : ℕ) : ℝ) * (2 : ℝ) ^ (-33 : ℤ) : ℝ) := by
    simp [Ideal.ofBits, Ideal.ieee, -EReal.coe_mul]
  rw [this]
  exact_mod_cast (by norm_num : (((2 ^ 23 + 201327 : ℕ) : ℝ) * (2 : ℝ) ^ (-33 : ℤ) : ℝ) ≤ 1)

/-! ## The scores -/

section
variable (hb : S0.BroadcastsInDim ⟨3, ![M, K, N]⟩ (![] : Fin 0 → Fin 3))

/-- The scores, from the rows' marks, the logits' exponentials, the noise, the running counts and the temperature. -/
def scores (hot w g c : FVec Ideal ⟨3, ![M, K, N]⟩ .f32) (t : FVec Ideal S0 .f32) : FVec Ideal ⟨3, ![M, K, N]⟩ .f32 :=
  Host.divf (addf (Host.log (mulf w (addf (subf (broadcastInDim ⟨3, ![M, K, N]⟩ ![] hb (constant S0 .f32 0x3F800000#32)) (subf c hot))
    (broadcastInDim ⟨3, ![M, K, N]⟩ ![] hb (constant S0 .f32 0x1E3CE508#32))))) g) (broadcastInDim ⟨3, ![M, K, N]⟩ ![] hb t)

theorem scores_apply (hot w g c : FVec Ideal ⟨3, ![M, K, N]⟩ .f32) (t : FVec Ideal S0 .f32) (ht : ∀ i, t i = 1) (i : (⟨3, ![M, K, N]⟩ : Shape).Idx) (l : EReal)
    (hw : w i = Ideal.exp l) : scores hb hot w g c t i = score l ((1 - (c i - hot i)) + ε) (g i) := by
  have e : scores hb hot w g c t i
      = Ideal.div (Ideal.log (w i * ((Ideal.ofBits .f32 0x3F800000#32 - (c i - hot i)) + ε)) + g i) (broadcastInDim ⟨3, ![M, K, N]⟩ ![] hb t i) := rfl
  have e2 : broadcastInDim ⟨3, ![M, K, N]⟩ ![] hb t i = 1 := ht _
  rw [e, e2, div_one, hw, Ideal.ofBits_one_f32]
  rfl

end

/-! ## The difference given back -/

section
variable (h2 : S0.BroadcastsInDim ⟨2, ![M, K]⟩ (![] : Fin 0 → Fin 2)) (hr : (⟨3, ![M, K, N]⟩ : Shape).ReducesTo [2] ⟨2, ![M, K]⟩) (hu : 0 < S0.numel)
  (hc : (⟨2, ![M, K]⟩ : Shape).BroadcastsInDim ⟨3, ![M, K, 1]⟩ ![0, 1]) (hd : (⟨3, ![M, K, 1]⟩ : Shape).BroadcastsInDim ⟨3, ![M, K, N]⟩ ![0, 1, 2])

/-- The rows' largest scores. -/
def rowMax (z : FVec Ideal ⟨3, ![M, K, N]⟩ .f32) : FVec Ideal ⟨2, ![M, K]⟩ .f32 :=
  maximumf (broadcastInDim ⟨2, ![M, K]⟩ ![] h2 (constant S0 .f32 0xFF800000#32)) (Host.reduce FloatOps.maximumf z (constant S0 .f32 0xFF800000#32) hr hu)

theorem drop_row (b : Fin M) (k : Fin K) (n : Fin N) : hr.drop (ix3 b k n) = ix2 b k := by
  funext a
  match a with
  | ⟨0, _⟩ => exact Fin.ext (Shape.ReducesTo.drop_apply_val_of_eq hr (ix3 b k n) ⟨0, Nat.zero_lt_two⟩ 0 Nat.zero_lt_two rfl)
  | ⟨1, _⟩ => exact Fin.ext (Shape.ReducesTo.drop_apply_val_of_eq hr (ix3 b k n) ⟨1, Nat.one_lt_two⟩ 1 Nat.one_lt_two rfl)

theorem rowMax_real (z : FVec Ideal ⟨3, ![M, K, N]⟩ .f32) (hz : ∀ i, z i ≠ ⊤) (b : Fin M) (k : Fin K) (n : Fin N) (hn : IsReal (z (ix3 b k n))) :
    IsReal (rowMax h2 hr hu z (ix2 b k)) := by
  have e : rowMax h2 hr hu z (ix2 b k)
      = max (Ideal.ofBits .f32 0xFF800000#32) (Host.reduce (fun a b => max a b) z (constant (F := Ideal) S0 .f32 0xFF800000#32) hr hu (ix2 b k)) := rfl
  rw [e, Rounds.ofBits_bot, max_eq_right bot_le]
  exact reduceMax_real z S0 _ hr hu (fun _ => Rounds.ofBits_bot) (ix2 b k) hz (ix3 b k n) (drop_row hr b k n) hn

/-- The exponentials of the scores over their rows' largest. -/
def lifted (z : FVec Ideal ⟨3, ![M, K, N]⟩ .f32) (y : FVec Ideal ⟨2, ![M, K]⟩ .f32) : FVec Ideal ⟨3, ![M, K, N]⟩ .f32 :=
  Host.exp (subf z (broadcastInDim ⟨3, ![M, K, N]⟩ ![0, 1, 2] hd (broadcastInDim ⟨3, ![M, K, 1]⟩ ![0, 1] hc y)))

theorem lifted_apply (hM : M ≠ 1) (hK : K ≠ 1) (z : FVec Ideal ⟨3, ![M, K, N]⟩ .f32) (y : FVec Ideal ⟨2, ![M, K]⟩ .f32) (b : Fin M) (k : Fin K) (n : Fin N) :
    lifted hc hd z y (ix3 b k n) = Ideal.exp (z (ix3 b k n) - y (ix2 b k)) := by
  have e : lifted hc hd z y (ix3 b k n)
      = Ideal.exp (z (ix3 b k n) - broadcastInDim ⟨3, ![M, K, N]⟩ ![0, 1, 2] hd (broadcastInDim ⟨3, ![M, K, 1]⟩ ![0, 1] hc y) (ix3 b k n)) := rfl
  rw [e, spread_row hM hK]

/-- The rows' softmax. -/
def softened (e : FVec Ideal ⟨3, ![M, K, N]⟩ .f32) : FVec Ideal ⟨3, ![M, K, N]⟩ .f32 :=
  Host.divf e (broadcastInDim ⟨3, ![M, K, N]⟩ ![0, 1, 2] hd (broadcastInDim ⟨3, ![M, K, 1]⟩ ![0, 1] hc
    (Host.reduceAdd e (constant S0 .f32 0x00000000#32) hr hu)))

theorem softened_apply (hM : M ≠ 1) (hK : K ≠ 1) (e : FVec Ideal ⟨3, ![M, K, N]⟩ .f32) (b : Fin M) (k : Fin K) (n : Fin N) :
    softened hr hu hc hd e (ix3 b k n) = Ideal.div (e (ix3 b k n)) (Ideal.hostReduceAdd hr e 0 (ix2 b k)) := by
  have h : softened hr hu hc hd e (ix3 b k n)
      = Ideal.div (e (ix3 b k n)) (broadcastInDim ⟨3, ![M, K, N]⟩ ![0, 1, 2] hd (broadcastInDim ⟨3, ![M, K, 1]⟩ ![0, 1] hc
          (Host.reduceAdd e (constant S0 .f32 0x00000000#32) hr hu)) (ix3 b k n)) := rfl
  rw [h, spread_row hM hK]
  have h' : Host.reduceAdd (F := Ideal) e (constant S0 .f32 0x00000000#32) hr hu (ix2 b k) = Ideal.hostReduceAdd hr e (Ideal.ofBits .f32 0x00000000#32) (ix2 b k) := rfl
  rw [h', Ideal.ofBits_zero_f32]

theorem sub_ne_top {t y : EReal} (ht : t ≠ ⊤) (hy : IsReal y) : t - y ≠ ⊤ := by
  obtain ⟨Y, rfl⟩ := hy
  induction t with
  | bot => rw [EReal.bot_sub]; exact bot_ne_top
  | coe r => exact (EReal.coe_sub r Y) ▸ EReal.coe_ne_top _
  | top => exact absurd rfl ht

/-- Where no score is the top value and every row has a real one, what is taken from the marks is given back. -/
theorem given_back (hM : M ≠ 1) (hK : K ≠ 1) (hot z : FVec Ideal ⟨3, ![M, K, N]⟩ .f32) (hot_real : ∀ i, IsReal (hot i)) (hz : ∀ i, z i ≠ ⊤)
    (b : Fin M) (k : Fin K) (p : Fin N) (hp : IsReal (z (ix3 b k p))) (n : Fin N) :
    addf (subf hot (softened hr hu hc hd (lifted hc hd z (rowMax h2 hr hu z)))) (softened hr hu hc hd (lifted hc hd z (rowMax h2 hr hu z))) (ix3 b k n)
      = hot (ix3 b k n) := by
  have hy := rowMax_real h2 hr hu z hz b k p hp
  generalize rowMax h2 hr hu z = y at hy ⊢
  have hl := fun n => lifted_apply hc hd hM hK z y b k n
  generalize lifted hc hd z y = e at hl ⊢
  have hq := softened_apply hr hu hc hd hM hK e b k n
  generalize softened hr hu hc hd e = q at hq ⊢
  have h : addf (subf hot q) q (ix3 b k n) = (hot (ix3 b k n) - q (ix3 b k n)) + q (ix3 b k n) := rfl
  obtain ⟨s, hs, es⟩ := reduceAdd_pos e hr (ix2 b k) (fun i hi => by
    obtain ⟨b', k', n', rfl⟩ : ∃ (b' : Fin M) (k' : Fin K) (n' : Fin N), i = ix3 b' k' n' := ⟨i 0, i 1, i 2, ValueIdx.eq_ix3 i⟩
    rw [drop_row] at hi
    have h0 : b' = b := congrFun hi 0
    have h1 : k' = k := congrFun hi 1
    rw [h0, h1, hl]
    exact exp_real (sub_ne_top (hz _) hy)) (ix3 b k p) (drop_row hr b k p) (by rw [hl]; exact exp_pos (hp.sub hy))
  rw [h, hq, hl]
  exact give_back (hot_real _) (hz _) hy es hs

end

/-! ## The running counts -/

/-- The counts are real numbers, and one where a row has its mark for the first time. -/
theorem counts_real (h : (⟨3, ![M, 16, N]⟩ : Shape).ReduceWindows ![1, 16, 1] ![1, 1, 1] ![0, 15, 0] ![0, 0, 0] ⟨3, ![M, 16, N]⟩) (hu : 0 < S0.numel)
    (h0 : S0.BroadcastsInDim S0 (![] : Fin 0 → Fin 0)) (x : FVec Ideal ⟨3, ![M, 16, N]⟩ .f32) (hx : ∀ i, IsReal (x i)) (i : (⟨3, ![M, 16, N]⟩ : Shape).Idx) :
    IsReal (Host.reduceWindowAdd (F := Ideal) ![1, 16, 1] ![1, 1, 1] ![0, 15, 0] ![0, 0, 0] x (broadcastInDim S0 ![] h0 (constant S0 .f32 0x00000000#32)) h hu i) := by
  have e : Host.reduceWindowAdd (F := Ideal) ![1, 16, 1] ![1, 1, 1] ![0, 15, 0] ![0, 0, 0] x (broadcastInDim S0 ![] h0 (constant S0 .f32 0x00000000#32)) h hu i
      = Ideal.hostReduceWindowAdd ![1, 16, 1] ![1, 1, 1] ![0, 15, 0] ![0, 0, 0] h x (Ideal.ofBits .f32 0x00000000#32) i := rfl
  rw [e, Ideal.ofBits_zero_f32]
  exact window_real _ _ _ _ h x hx i

theorem counts_one (h : (⟨3, ![M, 16, N]⟩ : Shape).ReduceWindows ![1, 16, 1] ![1, 1, 1] ![0, 15, 0] ![0, 0, 0] ⟨3, ![M, 16, N]⟩) (hu : 0 < S0.numel)
    (h0 : S0.BroadcastsInDim S0 (![] : Fin 0 → Fin 0)) (x : FVec Ideal ⟨3, ![M, 16, N]⟩ .f32) (b : Fin M) (j : Fin 16) (n : Fin N)
    (h1 : x (ix3 b j n) = 1) (hlt : ∀ j' : Fin 16, j'.val < j.val → x (ix3 b j' n) = 0) :
    Host.reduceWindowAdd (F := Ideal) ![1, 16, 1] ![1, 1, 1] ![0, 15, 0] ![0, 0, 0] x (broadcastInDim S0 ![] h0 (constant S0 .f32 0x00000000#32)) h hu (ix3 b j n) = 1 := by
  have e : Host.reduceWindowAdd (F := Ideal) ![1, 16, 1] ![1, 1, 1] ![0, 15, 0] ![0, 0, 0] x (broadcastInDim S0 ![] h0 (constant S0 .f32 0x00000000#32)) h hu (ix3 b j n)
      = Ideal.hostReduceWindowAdd ![1, 16, 1] ![1, 1, 1] ![0, 15, 0] ![0, 0, 0] h x (Ideal.ofBits .f32 0x00000000#32) (ix3 b j n) := rfl
  rw [e, Ideal.ofBits_zero_f32]
  exact window_one h x b j n h1 hlt

end Cert.RefArrays
-- ==== Proof.HostR.lean ====
/- The reference's draw: the generator's operations among it, and what they leave at an element. -/
module

public import proofs.«01_k».proof.Proof.Noise
public import proofs.«01_k».proof.Proof.RefOps
public import Idealize.ShloMosaic.Lib.Pointwise

@[expose] public section

set_option maxRecDepth 16384

noncomputable section

namespace Cert.ReferenceIdeal.Hand

open Idealize.ShloMosaic hiding ix1 ix2 ix3
open Idealize.ShloMosaic.ValueIdx Idealize.ShloMosaic.TcCoe Idealize.ShloMosaic.StableHlo Cert.ReferenceIdeal Cert.ReferenceIdeal.Gen Cert.Mixing Cert.Noise

/-- The generator's words, from the second on, in the order they are written … -/
def wordBufs : List (TRef sig (VT S32x1x32768)) :=
  [
   main_call0.call0.v2, main_call0.call0.v3, main_call0.call0.v4, main_call0.call0.v5, main_call0.call0.v6, main_call0.call0.v7,
   main_call0.call0.v8, main_call0.call0.v9, main_call0.call0.v10, main_call0.call0.v11, main_call0.call0.v12, main_call0.call0.v13,
   main_call0.call0.v14, main_call0.call0.v15, main_call0.call0.v16, main_call0.call0.v17, main_call0.call0.v18, main_call0.call0.v19,
   main_call0.call0.v20, main_call0.call0.v21, main_call0.call0.v22, main_call0.call0.v23, main_call0.call0.v24, main_call0.call0.v25,
   main_call0.call0.v26, main_call0.call0.v27, main_call0.call0.v28, main_call0.call0.v29, main_call0.call0.v30, main_call0.call0.v31,
   main_call0.call0.v32, main_call0.call0.v33, main_call0.call0.v34, main_call0.call0.v35, main_call0.call0.v36, main_call0.call0.v37,
   main_call0.call0.v38, main_call0.call0.v39, main_call0.call0.v40, main_call0.call0.v41, main_call0.call0.v42, main_call0.call0.v43,
   main_call0.call0.v44, main_call0.call0.v45, main_call0.call0.v46, main_call0.call0.v47, main_call0.call0.v48, main_call0.call0.v49,
   main_call0.call0.v50, main_call0.call0.v51, main_call0.call0.v52, main_call0.call0.v53, main_call0.call0.v54, main_call0.call0.v55,
   main_call0.call0.v56, main_call0.call0.v57, main_call0.call0.v58, main_call0.call0.v59, main_call0.call0.v60, main_call0.call0.v61,
   main_call0.call0.v62, main_call0.call0.v63, main_call0.call0.v64, main_call0.call0.v65, main_call0.call0.v66, main_call0.call0.v67,
   main_call0.call0.v68, main_call0.call0.v69, main_call0.call0.v70, main_call0.call0.v71, main_call0.call0.v72, main_call0.call0.v73,
   main_call0.call0.v74, main_call0.call0.v75, main_call0.call0.v76, main_call0.call0.v77, main_call0.call0.v78, main_call0.call0.v79,
   main_call0.call0.v80, main_call0.call0.v81, main_call0.call0.v82, main_call0.call0.v83, main_call0.call0.v84, main_call0.call0.v85,
   main_call0.call0.v86, main_call0.call0.v87, main_call0.call0.v88, main_call0.call0.v89, main_call0.call0.v90, main_call0.call0.v91,
   main_call0.call0.v92, main_call0.call0.v93, main_call0.call0.v94, main_call0.call0.v95, main_call0.call0.v96, main_call0.call0.v97,
   main_call0.call0.v98, main_call0.call0.v99, main_call0.call0.v100, main_call0.call0.v101, main_call0.call0.v102, main_call0.call0.v103,
   main_call0.call0.v104, main_call0.call0.v105, main_call0.call0.v106, main_call0.call0.v107, main_call0.call0.v108, main_call0.call0.v109,
   main_call0.call0.v110, main_call0.call0.v111, main_call0.call0.v112, main_call0.call0.v113, main_call0.call0.v114, main_call0.call0.v115,
   main_call0.call0.v116, main_call0.call0.v117, main_call0.call0.v118, main_call0.call0.v119, main_call0.call0.v120, main_call0.call0.v121,
   main_call0.call0.v122, main_call0.call0.v123, main_call0.call0.v124, main_call0.call0.v125, main_call0.call0.v126, main_call0.call0.v127,
   main_call0.call0.v128, main_call0.call0.v129, main_call0.call0.v130, main_call0.call0.v131, main_call0.call0.v132, main_call0.call0.v133,
   main_call0.call0.v134, main_call0.call0.v135, main_call0.call0.v136, main_call0.call0.v137, main_call0.call0.v138, main_call0.call0.v139,
   main_call0.call0.v140, main_call0.call0.v141, main_call0.call0.v142, main_call0.call0.v143, main_call0.call0.v144, main_call0.call0.v145,
   main_call0.call0.v146, main_call0.call0.v147, main_call0.call0.v148, main_call0.call0.v149, main_call0.call0.v150, main_call0.call0.v151,
   main_call0.call0.v152, main_call0.call0.v153, main_call0.call0.v154, main_call0.call0.v155, main_call0.call0.v156, main_call0.call0.v157,
   main_call0.call0.v158, main_call0.call0.v159, main_call0.call0.v160, main_call0.call0.v161, main_call0.call0.v162, main_call0.call0.v163,
   main_call0.call0.v164, main_call0.call0.v165, main_call0.call0.v166, main_call0.call0.v167, main_call0.call0.v168, main_call0.call0.v169,
   main_call0.call0.v170, main_call0.call0.v171, main_call0.call0.v172, main_call0.call0.v173, main_call0.call0.v174, main_call0.call0.v175]

/-- … and its constants. -/
def constBufs : List (TRef sig KT) :=
  [
   main_call0.call0.c_0, main_call0.call0.c_1, main_call0.call0.c_2, main_call0.call0.c_3, main_call0.call0.c_4, main_call0.call0.c_5,
   main_call0.call0.c_6, main_call0.call0.c_7, main_call0.call0.c_8, main_call0.call0.c_9, main_call0.call0.c_10, main_call0.call0.c_11,
   main_call0.call0.c_12, main_call0.call0.c_13, main_call0.call0.c_14, main_call0.call0.c_15, main_call0.call0.c_16, main_call0.call0.c_17,
   main_call0.call0.c_18, main_call0.call0.c_19, main_call0.call0.c_20, main_call0.call0.c_21, main_call0.call0.c_22, main_call0.call0.c_23,
   main_call0.call0.c_24, main_call0.call0.c_25, main_call0.call0.c_26, main_call0.call0.c_27, main_call0.call0.c_28, main_call0.call0.c_29,
   main_call0.call0.c_30, main_call0.call0.c_31, main_call0.call0.c_32, main_call0.call0.c_33, main_call0.call0.c_34, main_call0.call0.c_35,
   main_call0.call0.c_36, main_call0.call0.c_37, main_call0.call0.c_38, main_call0.call0.c_39, main_call0.call0.c_40, main_call0.call0.c_41,
   main_call0.call0.c_42, main_call0.call0.c_43, main_call0.call0.c_44]

def rt (n : ℕ) : TRef sig (VT S32x1x32768) := wordBufs.getD (n - 2) main_call0.v22
def rc (n : ℕ) : TRef sig KT := constBufs.getD n main_call0.v5

abbrev rPre : List (Op Ideal) := uPre (F := Ideal) (.of main_v6) (.of main_cst) (.of main_cst_2) main_call0
abbrev rPost : List (Op Ideal) := uPost (F := Ideal) (.of main_v6) (.of main_cst) (.of main_cst_2) main_call0

/-- The generator's third key. -/
def rHead : List (Op Ideal) :=
  [StableHlo.TRef.binary main_call0.v5 main_call0.v7 main_call0.call0.v0 xori,
   StableHlo.TRef.nullary main_call0.call0.c (constantI S_ 32 466688986#32),
   StableHlo.TRef.binary main_call0.call0.v0 main_call0.call0.c main_call0.call0.v1 xori]

abbrev rGen : List (Op Ideal) :=
  genOps bcast_S_S32x1x32768 rt rc main_call0.v5 main_call0.v7 main_call0.call0.v1 main_call0.v22 main_call0.v21

theorem draw_eq : opsU (F := Ideal) = rPre ++ (rHead ++ (rGen ++ rPost)) := by
  rfl

theorem gen_nodup : (main_call0.v22.ref :: main_call0.v21.ref :: genRefs rt rc).Nodup := by
  decide +kernel

abbrev keptRefs : List (Ref sig .tc) := [main_call0.v5.ref, main_call0.v7.ref, main_call0.call0.v1.ref, main_call0.v2.ref, main_call0.v3.ref]

theorem gen_kept : ∀ k ∈ keptRefs, k ∉ genRefs rt rc := by
  decide +kernel

end Cert.ReferenceIdeal.Hand
-- ==== Proof.HostRRead.lean ====
/- What the reference's draw leaves, operation by operation. -/
module

public import proofs.«01_k».proof.Proof.HostR
public import Idealize.ShloMosaic.Lib.Pointwise

@[expose] public section

set_option maxRecDepth 16384

noncomputable section

namespace Cert.ReferenceIdeal.Hand

open Idealize.ShloMosaic hiding ix1 ix2 ix3
open Idealize.ShloMosaic.ValueIdx Idealize.ShloMosaic.TcCoe Idealize.ShloMosaic.StableHlo Cert.ReferenceIdeal Cert.ReferenceIdeal.Gen Cert.Mixing Cert.Noise

variable (U : Valuation τ sig (Elt Ideal))

theorem first_key : after (opsA (F := Ideal)) U (Proc.devRef .tc main_v6)
    = concatenate S2 0 [⟨S1, broadcastInDim S1 ![] bcast_S_S1 (Host.shrui (constantI S_ 32 42#32) (constantI S_ 32 32#32))⟩,
        ⟨S1, broadcastInDim S1 ![] bcast_S_S1 (andi (constantI S_ 32 42#32) (constantI S_ 32 4294967295#32))⟩] concatenates_S1_S1_S2_d0 := by
  unfold opsA
  after_results
  rfl

theorem first_lo : after (opsA (F := Ideal)) U (Proc.devRef .tc main_cst) = constant (F := Ideal) S_ .f32 0x00000000#32 := by
  unfold opsA
  after_results

theorem first_hi : after (opsA (F := Ideal)) U (Proc.devRef .tc main_cst_2) = constant (F := Ideal) S_ .f32 0x3F800000#32 := by
  unfold opsA
  after_results

theorem pre_k0 : rd (after rPre U) main_call0.v5
    = shapeCast S_ (extractStridedSlice S1 ![0] (rd U (.of main_v6 : TRef sig ⟨S2, .i32⟩)) slices_S2_S1_0) shapeCasts_S1_S_ := by
  unfold rd rPre uPre
  after_results_simp
  rfl

theorem pre_k1 : rd (after rPre U) main_call0.v7
    = shapeCast S_ (extractStridedSlice S1 ![1] (rd U (.of main_v6 : TRef sig ⟨S2, .i32⟩)) slices_S2_S1_1) shapeCasts_S1_S_ := by
  unfold rd rPre uPre
  after_results_simp
  rfl

theorem pre_lo : rd (after rPre U) main_call0.v2
    = broadcastInDim S1x1x1 ![] bcast_S_S1x1x1 (rd U (.of main_cst : TRef sig ⟨S_, .f32⟩)) := by
  unfold rd rPre uPre
  after_results_simp
  rfl

theorem pre_hi : rd (after rPre U) main_call0.v3
    = broadcastInDim S1x1x1 ![] bcast_S_S1x1x1 (rd U (.of main_cst_2 : TRef sig ⟨S_, .f32⟩)) := by
  unfold rd rPre uPre
  after_results_simp
  rfl

/-- The counters. -/
abbrev counters : IVec S32x1x32768 64 :=
  addi (addi (muli (broadcastInDim S32x1x32768 ![] bcast_S_S32x1x32768 (constantI S_ 64 32768#64)) (iotaInDim S32x1x32768 64 0))
      (muli (broadcastInDim S32x1x32768 ![] bcast_S_S32x1x32768 (constantI S_ 64 32768#64)) (iotaInDim S32x1x32768 64 1)))
    (muli (broadcastInDim S32x1x32768 ![] bcast_S_S32x1x32768 (constantI S_ 64 1#64)) (iotaInDim S32x1x32768 64 2))

theorem pre_high : rd (after rPre U) main_call0.v22
    = trunci 32 (Host.shrui counters (broadcastInDim S32x1x32768 ![] bcast_S_S32x1x32768 (constantI S_ 64 32#64))) natLt_32_64 := by
  unfold rd rPre uPre
  after_results_simp
  rfl

theorem pre_low : rd (after rPre U) main_call0.v21 = trunci 32 counters natLt_32_64 := by
  unfold rd rPre uPre
  after_results_simp
  rfl

theorem head_third : rd (after rHead U) main_call0.call0.v1
    = xori (xori (rd U main_call0.v5) (rd U main_call0.v7)) (constantI S_ 32 466688986#32) := by
  unfold rd rHead
  after_results_simp
  rfl

theorem head_kept (r : Ref sig .tc) (h : r ∉ [main_call0.call0.v0.ref, main_call0.call0.c.ref, main_call0.call0.v1.ref]) :
    after rHead U (Proc.devRef .tc r) = U (Proc.devRef .tc r) :=
  after_of_writes_sub _ U (forall_writes_sub_of_map rfl) h

theorem post_draw : rd (after rPost U) main_call0.v38
    = maximumf (F := Ideal) (broadcastInDim S32x1x32768 ![0, 1, 2] bcast_S1x1x1_S32x1x32768_0_1_2 (rd U main_call0.v2))
      (addf (mulf (subf (bitcastToFloat .f32 (ori (Host.shrui (xori (rd U (rt 171)) (rd U (rt 175))) (broadcastInDim S32x1x32768 ![] bcast_S_S32x1x32768 (constantI S_ 32 9#32)))
            (broadcastInDim S32x1x32768 ![] bcast_S_S32x1x32768 (constantI S_ 32 1065353216#32)))) (broadcastInDim S32x1x32768 ![] bcast_S_S32x1x32768 (constant S_ .f32 0x3F800000#32)))
          (broadcastInDim S32x1x32768 ![0, 1, 2] bcast_S1x1x1_S32x1x32768_0_1_2 (subf (rd U main_call0.v3) (rd U main_call0.v2))))
        (broadcastInDim S32x1x32768 ![0, 1, 2] bcast_S1x1x1_S32x1x32768_0_1_2 (rd U main_call0.v2))) := by
  unfold rd rPost uPost
  after_results_simp
  rfl

end Cert.ReferenceIdeal.Hand
-- ==== Proof.HostRValue.lean ====
/- The reference's draw at an element. -/
module

public import proofs.«01_k».proof.Proof.HostRRead

@[expose] public section

set_option maxRecDepth 16384

noncomputable section

namespace Cert.ReferenceIdeal.Hand

open Idealize.ShloMosaic hiding ix1 ix2 ix3
open Idealize.ShloMosaic.ValueIdx Idealize.ShloMosaic.TcCoe Idealize.ShloMosaic.StableHlo Cert.ReferenceIdeal Cert.ReferenceIdeal.Gen Cert.Mixing Cert.Noise

theorem rd_keep {T : BufTy} {V U : Valuation τ sig (Elt Ideal)} (x : TRef sig T)
    (h : V (Proc.devRef .tc x.ref) = U (Proc.devRef .tc x.ref)) : rd V x = rd U x := by
  unfold rd; rw [h]

/-- The draw at an element, from contents that hold the keys' vector and the two bounds. -/
theorem draw_value (U : Valuation τ sig (Elt Ideal))
    (h0 : shapeCast S_ (extractStridedSlice S1 ![0] (rd U (.of main_v6 : TRef sig ⟨S2, .i32⟩)) slices_S2_S1_0) shapeCasts_S1_S_ = fun _ => κ0)
    (h1 : shapeCast S_ (extractStridedSlice S1 ![1] (rd U (.of main_v6 : TRef sig ⟨S2, .i32⟩)) slices_S2_S1_1) shapeCasts_S1_S_ = fun _ => κ1)
    (hl : rd U (.of main_cst : TRef sig ⟨S_, .f32⟩) = constant (F := Ideal) S_ .f32 0x00000000#32)
    (hh : rd U (.of main_cst_2 : TRef sig ⟨S_, .f32⟩) = constant (F := Ideal) S_ .f32 0x3F800000#32) (b : Fin 32) (n : Fin 32768) :
    rd (after (opsU (F := Ideal)) U) main_call0.v38 (ix3 b 0 n) = unif (word (counter b.val n.val)) := by
  rw [draw_eq, after_append, after_append, after_append]
  have p0 := (pre_k0 U).trans h0
  have p1 := (pre_k1 U).trans h1
  have pl := (pre_lo U).trans (congrArg _ hl)
  have ph := (pre_hi U).trans (congrArg _ hh)
  have p18 := pre_high U
  have p17 := pre_low U
  generalize after rPre U = W at p0 p1 pl ph p18 p17 ⊢
  have q0 : rd (after rHead W) main_call0.v5 = fun _ => κ0 :=
    (rd_keep main_call0.v5 (head_kept W main_call0.v5.ref (by decide))).trans p0
  have q1 : rd (after rHead W) main_call0.v7 = fun _ => κ1 :=
    (rd_keep main_call0.v7 (head_kept W main_call0.v7.ref (by decide))).trans p1
  have ql := (rd_keep main_call0.v2 (head_kept W main_call0.v2.ref (by decide))).trans pl
  have qh := (rd_keep main_call0.v3 (head_kept W main_call0.v3.ref (by decide))).trans ph
  have q18 := (rd_keep main_call0.v22 (head_kept W main_call0.v22.ref (by decide))).trans p18
  have q17 := (rd_keep main_call0.v21 (head_kept W main_call0.v21.ref (by decide))).trans p17
  have q3 : rd (after rHead W) main_call0.call0.v1 = fun _ => third κ0 κ1 := by
    rw [head_third, p0, p1]
    rfl
  generalize after rHead W = X at q0 q1 ql qh q18 q17 q3 ⊢
  have hg := gen_held X keptRefs bcast_S_S32x1x32768 rt rc main_call0.v5 main_call0.v7 main_call0.call0.v1 main_call0.v22
    main_call0.v21 κ0 κ1 q0 q1 q3 (.head _) (.tail _ (.head _)) (.tail _ (.tail _ (.head _))) gen_nodup gen_kept
  have hs := hg.state (ix3 b 0 n)
  have rl := (rd_keep main_call0.v2 (hg.keep main_call0.v2.ref (.tail _ (.tail _ (.tail _ (.head _)))))).trans ql
  have rh := (rd_keep main_call0.v3 (hg.keep main_call0.v3.ref (.tail _ (.tail _ (.tail _ (.tail _ (.head _))))))).trans qh
  clear hg
  generalize after rGen X = Y at hs rl rh ⊢
  have e0 := congrArg Prod.fst hs
  have e1 := congrArg Prod.snd hs
  dsimp only at e0 e1
  rw [post_draw]
  rw [rl, rh]
  refine (unif_apply bcast_S_S32x1x32768 bcast_S_S1x1x1 ![0, 1, 2] bcast_S1x1x1_S32x1x32768_0_1_2 (rd Y (rt 171)) (rd Y (rt 175)) (ix3 b 0 n)).trans ?_
  rw [e0, e1]
  rw [q18, q17]
  have ec : counters (ix3 b 0 n) = counter b.val n.val := by
    show IntOp.addi (IntOp.addi (IntOp.muli 32768#64 (BitVec.ofNat 64 b.val)) (IntOp.muli 32768#64 (BitVec.ofNat 64 0)))
      (IntOp.muli 1#64 (BitVec.ofNat 64 n.val)) = _
    unfold counter IntOp.addi IntOp.muli
    simp
  rw [← ec]
  rfl

/-- The draw over the key and the bounds @main sets up. -/
theorem draw_all (U : Valuation τ sig (Elt Ideal)) (b : Fin 32) (n : Fin 32768) :
    rd (after (opsU (F := Ideal)) (after (opsA (F := Ideal)) U)) main_call0.v38 (ix3 b 0 n) = unif (word (counter b.val n.val)) := by
  have hk := first_key U
  have hl := first_lo U
  have hh := first_hi U
  generalize after (opsA (F := Ideal)) U = W at hk hl hh ⊢
  have hk' : rd W (.of main_v6 : TRef sig ⟨S2, .i32⟩) = _ := hk
  refine draw_value W ?_ ?_ hl hh b n
  · rw [hk']; exact key0 κ0 κ1 _ _ _ _
  · rw [hk']; exact key1 κ0 κ1 _ _ _ _

end Cert.ReferenceIdeal.Hand
-- ==== Proof.RefReads.lean ====
/- What the reference's later operations leave, stretch by stretch. -/
module

public import proofs.«01_k».proof.Proof.RefRun
public import proofs.«01_k».proof.Proof.RefArrays
public import proofs.«01_k».proof.Proof.HostRValue

@[expose] public section

set_option maxRecDepth 16384

noncomputable section

namespace Cert.ReferenceIdeal.Hand

open Idealize.ShloMosaic hiding ix1 ix2 ix3
open Idealize.ShloMosaic.ValueIdx Idealize.ShloMosaic.TcCoe Idealize.ShloMosaic.StableHlo Cert.ReferenceIdeal Cert.ReferenceIdeal.Gen Cert.Mixing Cert.Noise Cert.RefArrays

variable (U : Valuation τ sig (Elt Ideal))

abbrev A2 : BufTy := ⟨S1x32768, .f32⟩
abbrev A3 : BufTy := ⟨S32x1x32768, .f32⟩
abbrev R2 : BufTy := ⟨S32x16, .f32⟩
abbrev R3 : BufTy := ⟨S32x16x32768, .f32⟩

/-- The Gumbel noise of a draw. -/
abbrev gumbels (u : FVec Ideal S32x1x32768 .f32) : FVec Ideal S32x1x32768 .f32 :=
  Host.negf (F := Ideal) (Host.log (addf (Host.negf (Host.log (addf u (broadcastInDim S32x1x32768 ![] bcast_S_S32x1x32768 (constant S_ .f32 0x1E3CE508#32)))))
    (broadcastInDim S32x1x32768 ![] bcast_S_S32x1x32768 (constant S_ .f32 0x1E3CE508#32))))

theorem read_v15 : rd (after (opsB (F := Ideal)) U) (.of main_v15 : TRef sig A3) = gumbels (rd U (.of main_v7 : TRef sig A3)) := by
  unfold rd opsB
  after_results_simp
  rfl

theorem read_v19 : rd (after (opsB (F := Ideal)) U) (.of main_v19 : TRef sig ⟨S32x16, .i32⟩)
    = shapeCast S32x16 (Host.topK S32x1x16 2 (FloatOps.cmpfTotal (F := Ideal) (φ := .f32) .gt)
        (addf (broadcastInDim S32x1x32768 ![0, 1, 2] bcast_S1x1x32768_S32x1x32768_0_1_2
            (broadcastInDim S1x1x32768 ![1, 2] bcast_S1x32768_S1x1x32768_1_2 (rd U (.of main_arg0 : TRef sig A2)))) (gumbels (rd U (.of main_v7 : TRef sig A3))))
        sliceFits_S32x1x32768_S32x1x16).2 shapeCasts_S32x1x16_S32x16 := by
  unfold rd opsB
  after_results_simp
  rfl

theorem read_v20 : rd (after (opsH (F := Ideal)) U) (.of main_v20 : TRef sig R3)
    = uitofp (F := Ideal) .f32 (cmpi .eq (broadcastInDim S32x16x32768 ![0, 1, 2] bcast_S32x16x1_S32x16x32768_0_1_2
          (broadcastInDim S32x16x1 ![0, 1] bcast_S32x16_S32x16x1_0_1 (rd U (.of main_v19 : TRef sig ⟨S32x16, .i32⟩))))
        (broadcastInDim S32x16x32768 ![0, 1, 2] bcast_S1x1x32768_S32x16x32768_0_1_2 (iotaInDim S1x1x32768 32 2))) := by
  unfold rd opsH ohAll
  after_results_simp
  rfl

theorem read_v21 : rd (after (opsC (F := Ideal)) U) (.of main_v21 : TRef sig ⟨S_, .f32⟩)
    = maximumf (F := Ideal) (constant S_ .f32 0x3F800000#32) (constant S_ .f32 0x3A83126F#32) := by
  unfold rd opsC
  after_results_simp
  rfl

theorem read_v26 : rd (after (opsC (F := Ideal)) U) (.of main_v26 : TRef sig R3)
    = shapeCast S32x16x32768 (broadcastInDim S32x1x16x1x1x32768 ![0, 1, 2, 3, 4, 5] bcast_S1x1x1x1x1x32768_S32x1x16x1x1x32768_0_1_2_3_4_5
        (shapeCast S1x1x1x1x1x32768 (broadcastInDim S1x1x32768 ![1, 2] bcast_S1x32768_S1x1x32768_1_2 (Host.exp (rd U (.of main_arg0 : TRef sig A2)) : FVec Ideal S1x32768 .f32))
          shapeCasts_S1x1x32768_S1x1x1x1x1x32768)) shapeCasts_S32x1x16x1x1x32768_S32x16x32768 := by
  unfold rd opsC
  after_results_simp
  rfl

theorem read_v27 : rd (after (opsK (F := Ideal)) U) (.of main_v27 : TRef sig R3)
    = Host.reduceWindowAdd (F := Ideal) ![1, 16, 1] ![1, 1, 1] ![0, 15, 0] ![0, 0, 0] (rd U (.of main_v20 : TRef sig R3))
        (broadcastInDim S_ ![] bcast_S_S_ (constant S_ .f32 0x00000000#32)) reduceWindows_S32x16x32768_S32x16x32768_w1s1p0_0_w16s1p15_0_w1s1p0_0 h_S_ := by
  unfold rd opsK csAll
  after_results_simp
  rfl

/-- The scores from the buffers' contents. -/
abbrev scoresOf (hot w c : FVec Ideal S32x16x32768 .f32) (g : FVec Ideal S32x1x32768 .f32) (t : FVec Ideal S_ .f32) : FVec Ideal S32x16x32768 .f32 :=
  scores bcast_S_S32x16x32768 hot w
    (shapeCast S32x16x32768 (broadcastInDim S1x32x16x1x1x32768 ![0, 1, 2, 3, 4, 5] bcast_S1x32x1x1x1x32768_S1x32x16x1x1x32768_0_1_2_3_4_5
      (shapeCast S1x32x1x1x1x32768 g shapeCasts_S32x1x32768_S1x32x1x1x1x32768)) shapeCasts_S1x32x16x1x1x32768_S32x16x32768) c t

theorem read_v41 : rd (after (opsD (F := Ideal)) U) (.of main_v41 : TRef sig R3)
    = scoresOf (rd U (.of main_v20 : TRef sig R3)) (rd U (.of main_v26 : TRef sig R3)) (rd U (.of main_v27 : TRef sig R3))
        (rd U (.of main_v15 : TRef sig A3)) (rd U (.of main_v21 : TRef sig ⟨S_, .f32⟩)) := by
  unfold rd opsD scoresOf scores
  after_results_simp
  rfl

theorem read_v44 : rd (after (opsD (F := Ideal)) U) (.of main_v44 : TRef sig R2)
    = rowMax bcast_S_S32x16 reducesTo_S32x16x32768_S32x16_d2 h_S_
        (scoresOf (rd U (.of main_v20 : TRef sig R3)) (rd U (.of main_v26 : TRef sig R3)) (rd U (.of main_v27 : TRef sig R3))
        (rd U (.of main_v15 : TRef sig A3)) (rd U (.of main_v21 : TRef sig ⟨S_, .f32⟩))) := by
  unfold rd opsD rowMax scoresOf scores
  after_results_simp
  rfl

/-- The softmax from scores and their rows' largest. -/
abbrev softOf (z : FVec Ideal S32x16x32768 .f32) (y : FVec Ideal S32x16 .f32) : FVec Ideal S32x16x32768 .f32 :=
  softened reducesTo_S32x16x32768_S32x16_d2 h_S_ bcast_S32x16_S32x16x1_0_1 bcast_S32x16x1_S32x16x32768_0_1_2
    (lifted bcast_S32x16_S32x16x1_0_1 bcast_S32x16x1_S32x16x32768_0_1_2 z y)

theorem read_v55 : rd (after (opsE (F := Ideal)) U) (.of main_v55 : TRef sig ⟨S512x32768, .f32⟩)
    = shapeCast S512x32768 (addf (subf (rd U (.of main_v20 : TRef sig R3)) (softOf (rd U (.of main_v41 : TRef sig R3)) (rd U (.of main_v44 : TRef sig R2))))
        (softOf (rd U (.of main_v41 : TRef sig R3)) (rd U (.of main_v44 : TRef sig R2)))) shapeCasts_S32x16x32768_S512x32768 := by
  unfold rd opsE softOf softened lifted
  after_results_simp
  rfl

end Cert.ReferenceIdeal.Hand
-- ==== Proof.PreGen.lean ====
/- The precondition's noise generator, element by element. -/
module

public import proofs.«01_k».proof.Proof.Generator
public import proofs.«01_k».proof.Proof.Gen.Pre_top_distinct

@[expose] public section

noncomputable section

namespace Cert.PreGen

open Idealize.ShloMosaic Cert.Pre_top_distinct Cert.Mixing

/-- The two words the precondition's generator makes at an element are the generator's on its two counter words. -/
theorem words (k0 k1 : IVec S_ 32) (a b : BitVec 32) (h0 : k0 = fun _ => a) (h1 : k1 = fun _ => b) (x0 x1 : IVec S32x32768 32) (i : S32x32768.Idx) :
    ((fn_threefry2x32 (F := Ideal) k0 k1 x0 x1).1 i, (fn_threefry2x32 (F := Ideal) k0 k1 x0 x1).2 i) = gen a b (x0 i, x1 i) := by
  subst h0 h1
  suffices h : ∀ p, p = fn_threefry2x32 (F := Ideal) (fun _ => a) (fun _ => b) x0 x1 → (p.1 i, p.2 i) = gen a b (x0 i, x1 i) from h _ rfl
  intro p hp
  unfold fn_threefry2x32 fn_threefry2x32_part1 fn_threefry2x32_part2 fn_threefry2x32_part3 fn_threefry2x32_part4 fn_threefry2x32_part5 fn_threefry2x32_part6 fn_threefry2x32_part7 fn_threefry2x32_part8 fn_threefry2x32_part9 at hp
  extract_lets -merge
    v0 c v1 v2 v3 v4 v5 v6 c_0 v7 v8 c_1 v9 v10 v11 v12 v13 c_2 v14 v15 c_3 v16 v17 v18 v19 v20 c_4 v21 v22 c_5 v23 v24 v25 v26 v27 c_6 v28 v29
    c_7 v30 v31 v32 v33 v34 v35 v36 v37 c_8 v38 v39 v40 c_9 v41 v42 c_10 v43 v44 v45 v46 v47 c_11 v48 v49 c_12 v50 v51 v52 v53 v54 c_13 v55 v56
    c_14 v57 v58 v59 v60 v61 c_15 v62 v63 c_16 v64 v65 v66 v67 v68 v69 v70 v71 c_17 v72 v73 v74 c_18 v75 v76 c_19 v77 v78 v79 v80 v81 c_20 v82
    v83 c_21 v84 v85 v86 v87 v88 c_22 v89 v90 c_23 v91 v92 v93 v94 v95 c_24 v96 v97 c_25 v98 v99 v100 v101 v102 v103 v104 v105 c_26 v106 v107
    v108 c_27 v109 v110 c_28 v111 v112 v113 v114 v115 c_29 v116 v117 c_30 v118 v119 v120 v121 v122 c_31 v123 v124 c_32 v125 v126 v127 v128 v129
    c_33 v130 v131 c_34 v132 v133 v134 v135 v136 v137 v138 v139 c_35 v140 v141 v142 c_36 v143 v144 c_37 v145 v146 v147 v148 v149 c_38 v150 v151
    c_39 v152 v153 v154 v155 v156 c_40 v157 v158 c_41 v159 v160 v161 v162 v163 c_42 v164 v165 c_43 v166 v167 v168 v169 v170 v171 v172 v173 c_44
    v174 v175 at hp
  subst hp
  dsimp only
  have e0 : (v3 i, v5 i) = start a b (x0 i, x1 i) := rfl
  have e1 : (v6 i, v12 i) = mix 13#32 19#32 (v3 i, v5 i) := rfl
  have e2 : (v13 i, v19 i) = mix 15#32 17#32 (v6 i, v12 i) := rfl
  have e3 : (v20 i, v26 i) = mix 26#32 6#32 (v13 i, v19 i) := rfl
  have e4 : (v27 i, v33 i) = mix 6#32 26#32 (v20 i, v26 i) := rfl
  have e5 : (v35 i, v39 i) = inject b (third a b) 1#32 (v27 i, v33 i) := rfl
  have e6 : (v40 i, v46 i) = mix 17#32 15#32 (v35 i, v39 i) := rfl
  have e7 : (v47 i, v53 i) = mix 29#32 3#32 (v40 i, v46 i) := rfl
  have e8 : (v54 i, v60 i) = mix 16#32 16#32 (v47 i, v53 i) := rfl
  have e9 : (v61 i, v67 i) = mix 24#32 8#32 (v54 i, v60 i) := rfl
  have e10 : (v69 i, v73 i) = inject (third a b) a 2#32 (v61 i, v67 i) := rfl
  have e11 : (v74 i, v80 i) = mix 13#32 19#32 (v69 i, v73 i) := rfl
  have e12 : (v81 i, v87 i) = mix 15#32 17#32 (v74 i, v80 i) := rfl
  have e13 : (v88 i, v94 i) = mix 26#32 6#32 (v81 i, v87 i) := rfl
  have e14 : (v95 i, v101 i) = mix 6#32 26#32 (v88 i, v94 i) := rfl
  have e15 : (v103 i, v107 i) = inject a b 3#32 (v95 i, v101 i) := rfl
  have e16 : (v108 i, v114 i) = mix 17#32 15#32 (v103 i, v107 i) := rfl
  have e17 : (v115 i, v121 i) = mix 29#32 3#32 (v108 i, v114 i) := rfl
  have e18 : (v122 i, v128 i) = mix 16#32 16#32 (v115 i, v121 i) := rfl
  have e19 : (v129 i, v135 i) = mix 24#32 8#32 (v122 i, v128 i) := rfl
  have e20 : (v137 i, v141 i) = inject b (third a b) 4#32 (v129 i, v135 i) := rfl
  have e21 : (v142 i, v148 i) = mix 13#32 19#32 (v137 i, v141 i) := rfl
  have e22 : (v149 i, v155 i) = mix 15#32 17#32 (v142 i, v148 i) := rfl
  have e23 : (v156 i, v162 i) = mix 26#32 6#32 (v149 i, v155 i) := rfl
  have e24 : (v163 i, v169 i) = mix 6#32 26#32 (v156 i, v162 i) := rfl
  have e25 : (v171 i, v175 i) = inject (third a b) a 5#32 (v163 i, v169 i) := rfl
  rw [e25, e24, e23, e22, e21, e20, e19, e18, e17, e16, e15, e14, e13, e12, e11, e10, e9, e8, e7, e6, e5, e4, e3, e2, e1, e0]
  rfl

end Cert.PreGen

end
-- ==== Proof.PreRead.lean ====
/- What the precondition says: with the noise it draws added to the logits, each row's seventeen largest entries are
   strictly decreasing; and no logit is the top value. -/
module

public import proofs.«01_k».proof.Proof.PreGen
public import proofs.«01_k».proof.Proof.Noise
public import proofs.«01_k».proof.Proof.Order

@[expose] public section

noncomputable section

namespace Cert.PreRead

open Idealize.ShloMosaic Idealize.ShloMosaic.ValueIdx Cert.Pre_top_distinct Cert.Mixing Cert.Noise

/-- A row of logits with a row's noise added. -/
def noisy (a : S1x32768.Idx → EReal) (b : Fin 32) (n : Fin 32768) : EReal := a (ix2 0 n) + G b.val n.val

theorem andi_one {a b : BitVec 1} (h : IntOp.andi a b = 1#1) : a = 1#1 ∧ b = 1#1 := by
  revert a b; decide

/-- A conjunction over a list is true only if every member is. -/
theorem foldl_andi {ι : Type} (f : ι → BitVec 1) (L : List ι) (a : BitVec 1)
    (h : L.foldl (fun r n => IntOp.andi r (f n)) a = 1#1) : a = 1#1 ∧ ∀ i ∈ L, f i = 1#1 := by
  induction L generalizing a with
  | nil => exact ⟨h, fun i hi => absurd hi List.not_mem_nil⟩
  | cons k L ih =>
    obtain ⟨h1, h2⟩ := ih _ h
    obtain ⟨h3, h4⟩ := andi_one h1
    refine ⟨h3, fun i hi => ?_⟩
    rcases List.mem_cons.1 hi with rfl | hi
    · exact h4
    · exact h2 i hi

/-- A conjunction over a whole array is true only if every element is. -/
theorem reduce_andi {s u : Shape} {axes : List (Fin s.rank)} (f : s.Idx → BitVec 1) (init : u.Idx → BitVec 1)
    (h : s.ReducesTo axes S_) (hu : 0 < u.numel) (j : S_.Idx) (he : Host.reduce IntOp.andi f init h hu j = 1#1) (i : s.Idx) :
    f i = 1#1 := by
  have := (foldl_andi (fun n => f (s.rowMajor.symm n)) _ _ he).2 (s.rowMajor i) (by
    simp only [List.mem_filter, List.mem_finRange, true_and, decide_eq_true_eq]
    exact (eq_ix0 _).trans (eq_ix0 j).symm)
  simpa using this

theorem olt_iff {x y : EReal} : Ideal.cmp .olt x y = 1#1 ↔ x < y := by
  unfold Ideal.cmp
  by_cases h : x < y <;> simp [h]

theorem ofBits_top : Ideal.ofBits .f32 0x7F800000#32 = ⊤ := by
  simp [Ideal.ofBits, Ideal.ieee]

/-- The uniform draw the precondition makes at an element. -/
theorem uniform_eq (key : IVec S2 32) (h0 : shapeCast S_ (extractStridedSlice S1 ![0] key Facts.slices_S2_S1_0) Facts.shapeCasts_S1_S_ = fun _ => κ0)
    (h1 : shapeCast S_ (extractStridedSlice S1 ![1] key Facts.slices_S2_S1_1) Facts.shapeCasts_S1_S_ = fun _ => κ1) (b : Fin 32) (n : Fin 32768) :
    fn_uniform (F := Ideal) key (constant S_ .f32 0x00000000#32) (constant S_ .f32 0x3F800000#32) (ix2 b n)
      = unif (word (counter b.val n.val)) := by
  have hw := PreGen.words _ _ κ0 κ1 h0 h1
  suffices hs : ∀ p, p = fn_uniform (F := Ideal) key (constant S_ .f32 0x00000000#32) (constant S_ .f32 0x3F800000#32) →
      p (ix2 b n) = unif (word (counter b.val n.val)) from hs _ rfl
  intro p hp
  unfold fn_uniform at hp
  extract_lets -merge v0 v1 v2 v3 v4 v5 v6 v7 v8 v9 c v10 v11 c_0 v12 v13 v14 c_1 v15 v16 v17 v18 v19_0 v19_1 at hp
  subst hp
  have hw' := hw v18 v17 (ix2 b n)
  have e0 : v19_0 (ix2 b n) = _ := congrArg Prod.fst hw'
  have e1 : v19_1 (ix2 b n) = _ := congrArg Prod.snd hw'
  have hp : fn_uniform_part1 (F := Ideal) v2 v3 v19_0 v19_1 (ix2 b n) = unif (IntOp.xori (v19_0 (ix2 b n)) (v19_1 (ix2 b n))) := rfl
  rw [hp, e0, e1]
  rfl

/-- The test the precondition makes on the logits and the noise. -/
theorem part_read (a0 : FVec Ideal S1x32768 .f32) (w g : FVec Ideal S32x32768 .f32)
    (hx : ∀ (b : Fin 32) (n : Fin 32768), addf (F := Ideal) (φ := .f32) w g (ix2 b n) = noisy a0 b n)
    (h : fn_part1 (F := Ideal) a0 g w ix0 = 1#1) :
    (∀ b, Order.Strict (noisy a0 b) 16) ∧ ∀ n, a0 (ix2 0 n) ≠ ⊤ := by
  suffices hs : ∀ p, p = fn_part1 (F := Ideal) a0 g w → p ix0 = 1#1 →
      (∀ b, Order.Strict (noisy a0 b) 16) ∧ ∀ n, a0 (ix2 0 n) ≠ ⊤ from hs _ rfl h
  clear h
  intro p h hp
  unfold fn_part1 at h
  extract_lets -merge v17 values indices v18 v19 v20 c_5 v21 cst_6 v22 v23 c_7 v24 v25 at h
  have hv : ∀ (b : Fin 32) (k : Fin 17), values (ix2 b k) = noisy a0 b (Order.rank (noisy a0 b) (k.castLE (by decide))) := by
    intro b k
    have e := Order.topK_row2 (by decide : 17 ≤ 32768) v17 Facts.sliceFits_S32x32768_S32x17 b k
    rw [show (fun n => v17 (ix2 b n)) = noisy a0 b from funext (hx b)] at e
    exact e.trans (hx b _)
  clear_value values
  have e1 : ∀ (b : Fin 32) (k : Fin 16), v18 (ix2 b k) = values (ix2 b ⟨1 + k.val, by omega⟩) := by
    intro b k
    refine congrArg values ?_
    funext d
    match d with
    | ⟨0, _⟩ => exact Fin.ext (Nat.zero_add _)
    | ⟨1, _⟩ => rfl
  have e2 : ∀ (b : Fin 32) (k : Fin 16), v19 (ix2 b k) = values (ix2 b ⟨k.val, by omega⟩) := by
    intro b k
    refine congrArg values ?_
    funext d
    match d with
    | ⟨0, _⟩ => exact Fin.ext (Nat.zero_add _)
    | ⟨1, _⟩ => exact Fin.ext (Nat.zero_add _)
  have hl : v21 ix0 = 1#1 := (andi_one (a := v21 ix0) (b := v24 ix0) (by rw [h] at hp; exact hp)).1
  have hr : v24 ix0 = 1#1 := (andi_one (a := v21 ix0) (b := v24 ix0) (by rw [h] at hp; exact hp)).2
  have h20 : ∀ i, v20 i = 1#1 := reduce_andi v20 c_5 _ _ ix0 hl
  have h23 : ∀ i, v23 i = 1#1 := reduce_andi v23 c_7 _ _ ix0 hr
  refine ⟨fun b i j hi hj => ?_, fun n => ?_⟩
  · have hlt : v18 (ix2 b ⟨i.val, hi⟩) < v19 (ix2 b ⟨i.val, hi⟩) := olt_iff.1 (h20 (ix2 b ⟨i.val, hi⟩))
    rw [e1, e2, hv, hv] at hlt
    have e3 : j = (⟨1 + i.val, by omega⟩ : Fin 17).castLE (by decide) := Fin.ext (by rw [hj]; exact Nat.add_comm _ _)
    rw [e3]
    exact hlt
  · exact ne_of_lt (lt_of_lt_of_eq (olt_iff.1 (h23 (ix2 0 n))) ofBits_top)

/-- The precondition at element level. -/
theorem read (a0 : FVec Ideal S1x32768 .f32) (a1 : FVec Ideal S32x2048 .f32) (h : fn (F := Ideal) a0 a1 = fun _ => 1#1) :
    (∀ b, Order.Strict (noisy a0 b) 16) ∧ ∀ n, a0 (ix2 0 n) ≠ ⊤ := by
  suffices hs : ∀ p, p = fn (F := Ideal) a0 a1 → p ix0 = 1#1 →
      (∀ b, Order.Strict (noisy a0 b) 16) ∧ ∀ n, a0 (ix2 0 n) ≠ ⊤ from hs _ rfl (congrFun h ix0)
  clear h
  intro p h hp
  unfold fn at h
  extract_lets -merge c c_0 v0 v1 v2 c_1 v3 v4 v5 v6 cst cst_2 v7 cst_3 v8 v9 v10 v11 cst_4 v12 v13 v14 v15 v16 at h
  have hu : ∀ (b : Fin 32) (n : Fin 32768), v7 (ix2 b n) = unif (word (counter b.val n.val)) := fun b n =>
    uniform_eq v6 (key0 κ0 κ1 _ _ _ _) (key1 κ0 κ1 _ _ _ _) b n
  clear_value v7
  have hn : ∀ (b : Fin 32) (n : Fin 32768), v15 (ix2 b n) = gumbel (v7 (ix2 b n)) := fun b n =>
    gumbel_apply _ v7 (ix2 b n)
  have hw : ∀ (b : Fin 32) (n : Fin 32768), v16 (ix2 b n) = a0 (ix2 0 n) := by
    intro b n
    refine congrArg a0 ?_
    funext d
    match d with
    | ⟨0, _⟩ => exact Subsingleton.elim (α := Fin 1) _ _
    | ⟨1, _⟩ => rfl
  clear_value v15 v16
  subst h
  refine part_read a0 v16 v15 (fun b n => ?_) hp
  show v16 (ix2 b n) + v15 (ix2 b n) = _
  rw [hw, hn, hu]
  rfl

end Cert.PreRead
-- ==== Proof.RefValue.lean ====
/- The reference's result, entry by entry. -/
module

public import proofs.«01_k».proof.Proof.RefReads
public import proofs.«01_k».proof.Proof.PreRead

@[expose] public section

set_option maxRecDepth 16384

noncomputable section

namespace Cert.ReferenceIdeal.Hand

open Idealize.ShloMosaic hiding ix1 ix2 ix3
open Idealize.ShloMosaic.ValueIdx Idealize.ShloMosaic.TcCoe Idealize.ShloMosaic.StableHlo Cert.ReferenceIdeal Cert.ReferenceIdeal.Gen Cert.Mixing Cert.Noise Cert.RefArrays
open Cert.Soften Cert.PreRead Cert.Order

/-! ## What a stretch leaves as it was -/

section
variable (U : Valuation τ sig (Elt Ideal)) (r : Ref sig .tc)

theorem opsA_keep (h : r ∉ opsA_W) : after (opsA (F := Ideal)) U (Proc.devRef .tc r) = U (Proc.devRef .tc r) :=
  after_of_writes_sub _ U opsA_writes h
theorem opsB_keep (h : r ∉ opsB_W) : after (opsB (F := Ideal)) U (Proc.devRef .tc r) = U (Proc.devRef .tc r) :=
  after_of_writes_sub _ U opsB_writes h
theorem opsH_keep (h : r ∉ ohAll_W (.of main_v19) main_call1) : after (opsH (F := Ideal)) U (Proc.devRef .tc r) = U (Proc.devRef .tc r) :=
  after_of_writes_sub _ U (ohAll_writes ..) h
theorem opsC_keep (h : r ∉ opsC_W) : after (opsC (F := Ideal)) U (Proc.devRef .tc r) = U (Proc.devRef .tc r) :=
  after_of_writes_sub _ U opsC_writes h
theorem opsK_keep (h : r ∉ csAll_W (.of main_v20) main_call2_call0) : after (opsK (F := Ideal)) U (Proc.devRef .tc r) = U (Proc.devRef .tc r) :=
  after_of_writes_sub _ U (csAll_writes ..) h
theorem opsD_keep (h : r ∉ opsD_W) : after (opsD (F := Ideal)) U (Proc.devRef .tc r) = U (Proc.devRef .tc r) :=
  after_of_writes_sub _ U opsD_writes h
end

theorem opsU_arg0 (U : Valuation τ sig (Elt Ideal)) : after (opsU (F := Ideal)) U (Proc.devRef .tc main_arg0) = U (Proc.devRef .tc main_arg0) := by
  unfold opsU uAll tfAll
  rw [after_append, after_append, after_append, after_append, after_append]
  refine (after_of_writes_sub _ _ (uPost_writes ..) (by decide)).trans ?_
  refine (after_of_writes_sub _ _ (tf3_writes ..) (by decide)).trans ?_
  refine (after_of_writes_sub _ _ (tf2_writes ..) (by decide)).trans ?_
  refine (after_of_writes_sub _ _ (tf1_writes ..) (by decide)).trans ?_
  refine (after_of_writes_sub _ _ (tf0_writes ..) (by decide)).trans ?_
  exact after_of_writes_sub _ _ (uPre_writes ..) (by decide)

/-! ## The arrays -/

section
variable (a : FVec Ideal S1x32768 .f32) (u : FVec Ideal S32x1x32768 .f32)
  (hu : ∀ (b : Fin 32) (n : Fin 32768), u (ix3 b 0 n) = unif (word (counter b.val n.val)))

include hu in
theorem gumbels_value (b : Fin 32) (n : Fin 32768) : gumbels u (ix3 b 0 n) = G b.val n.val := by
  refine (gumbel_apply bcast_S_S32x1x32768 u (ix3 b 0 n)).trans ?_
  rw [hu]
  rfl

/-- The picked positions. -/
theorem picked_value (g : FVec Ideal S32x1x32768 .f32) (hg : ∀ (b : Fin 32) (n : Fin 32768), g (ix3 b 0 n) = G b.val n.val) (b : Fin 32) (k : Fin 16) :
    shapeCast S32x16 (Host.topK S32x1x16 2 (FloatOps.cmpfTotal (F := Ideal) (φ := .f32) .gt)
        (addf (broadcastInDim S32x1x32768 ![0, 1, 2] bcast_S1x1x32768_S32x1x32768_0_1_2
            (broadcastInDim S1x1x32768 ![1, 2] bcast_S1x32768_S1x1x32768_1_2 a)) g)
        sliceFits_S32x1x32768_S32x1x16).2 shapeCasts_S32x1x16_S32x16 (ix2 b k) = BitVec.ofNat 32 (rank (noisy a b) (k.castLE (by decide))).val := by
  refine (drop_middle _ shapeCasts_S32x1x16_S32x16 b k).trans ?_
  refine (topK_row3 (by decide) _ sliceFits_S32x1x32768_S32x1x16 b k).trans ?_
  refine congrArg (fun x => BitVec.ofNat 32 (rank x (k.castLE (by decide))).val) (funext fun n => ?_)
  refine (congrArg₂ (fun x y : EReal => x + y) (spread_logits (by decide) a _ _ b n) (hg b n)).trans ?_
  rfl

/-- The marks. -/
theorem marks_value (v : IVec S32x16 32) (w : Fin 32 → Fin 16 → Fin 32768) (hv : ∀ b k, v (ix2 b k) = BitVec.ofNat 32 (w b k).val) (b : Fin 32) (k : Fin 16) (n : Fin 32768) :
    uitofp (F := Ideal) .f32 (cmpi .eq (broadcastInDim S32x16x32768 ![0, 1, 2] bcast_S32x16x1_S32x16x32768_0_1_2
          (broadcastInDim S32x16x1 ![0, 1] bcast_S32x16_S32x16x1_0_1 v))
        (broadcastInDim S32x16x32768 ![0, 1, 2] bcast_S1x1x32768_S32x16x32768_0_1_2 (iotaInDim S1x1x32768 32 2))) (ix3 b k n)
      = if n = w b k then 1 else 0 :=
  mark_apply _ _ _ n (w b k) ((spread_row (by decide) (by decide) v _ _ b k n).trans (hv b k)) (spread_iota (by decide) _ b k n)

/-- The result of the later operations from the marks. -/
theorem result_value (hot w c : FVec Ideal S32x16x32768 .f32) (g : FVec Ideal S32x1x32768 .f32) (t : FVec Ideal S_ .f32) (ht : ∀ i, t i = 1)
    (rk : Fin 32 → Fin 16 → Fin 32768) (hot_value : ∀ b k n, hot (ix3 b k n) = if n = rk b k then 1 else 0)
    (hw : ∀ b k n, w (ix3 b k n) = Ideal.exp (a (ix2 0 n))) (hg : ∀ (b : Fin 32) (n : Fin 32768), g (ix3 b 0 n) = G b.val n.val)
    (ha : ∀ n, a (ix2 0 n) ≠ ⊤) (hr : ∀ b k, a (ix2 0 (rk b k)) ≠ ⊥) (hc : ∀ i, IsReal (c i)) (hc1 : ∀ b k, c (ix3 b k (rk b k)) = 1)
    (z : FVec Ideal S32x16x32768 .f32) (hz : z = scoresOf hot w c g t) (b : Fin 32) (k : Fin 16) (n : Fin 32768) :
    addf (subf hot (softOf z (rowMax bcast_S_S32x16 reducesTo_S32x16x32768_S32x16_d2 h_S_ z)))
      (softOf z (rowMax bcast_S_S32x16 reducesTo_S32x16x32768_S32x16_d2 h_S_ z)) (ix3 b k n) = if n = rk b k then 1 else 0 := by
  have hot_real : ∀ i, IsReal (hot i) := fun i => by
    obtain ⟨b', k', n', rfl⟩ : ∃ (b' : Fin 32) (k' : Fin 16) (n' : Fin 32768), i = ix3 b' k' n' := ⟨i 0, i 1, i 2, ValueIdx.eq_ix3 i⟩
    rw [hot_value]
    split
    · exact isReal_one
    · exact isReal_zero
  have z_value : ∀ b k n, z (ix3 b k n) = score (a (ix2 0 n)) ((1 - (c (ix3 b k n) - hot (ix3 b k n))) + ε) (G b.val n.val) := fun b k n => by
    rw [hz]
    refine (scores_apply bcast_S_S32x16x32768 hot w _ c t ht (ix3 b k n) _ (hw b k n)).trans ?_
    exact congrArg (score _ _) ((spread_noise (by decide) (by decide) g _ _ _ b k n).trans (hg b n))
  obtain ⟨e, he, e0, -⟩ := ε_eq
  have z_top : ∀ i, z i ≠ ⊤ := fun i => by
    obtain ⟨b', k', n', rfl⟩ : ∃ (b' : Fin 32) (k' : Fin 16) (n' : Fin 32768), i = ix3 b' k' n' := ⟨i 0, i 1, i 2, ValueIdx.eq_ix3 i⟩
    rw [z_value]
    exact score_ne_top (ha _) ((isReal_one.sub ((hc _).sub (hot_real _))).add ⟨e, he⟩) (G_real _ _)
  have z_real : IsReal (z (ix3 b k (rk b k))) := by
    rw [z_value, hot_value, if_pos rfl, hc1, he]
    have : (1 : EReal) - (1 - 1) + (e : EReal) = ((1 - (1 - 1) + e : ℝ) : EReal) := by
      rw [EReal.coe_add, EReal.coe_sub, EReal.coe_sub]; rfl
    rw [this]
    exact score_real (isReal_of_ne (hr _ _) (ha _)) (by linarith) (G_real _ _)
  exact (given_back _ _ _ _ _ (by decide) (by decide) hot z hot_real z_top b k (rk b k) z_real n).trans (hot_value b k n)
end

/-! ## The result -/

/-- The reference's result at an entry, where the precondition's two facts hold of the logits. -/
theorem value (U : Valuation τ sig (Elt Ideal)) (a : FVec Ideal S1x32768 .f32) (ea : rd U (.of main_arg0 : TRef sig A2) = a)
    (hs : ∀ b, Strict (noisy a b) 16) (ha : ∀ n, a (ix2 0 n) ≠ ⊤) (p : Fin 512) (n : Fin 32768) (b : Fin 32) (k : Fin 16) (hp : p.val = b.val * 16 + k.val) :
    rd (after (opsAll (F := Ideal)) U) (.of main_v55 : TRef sig ⟨S512x32768, .f32⟩) (ix2 p n)
      = if n = rank (noisy a b) (k.castLE (by decide)) then (1 : EReal) else 0 := by
  unfold opsAll
  rw [after_append, after_append, after_append, after_append, after_append, after_append, after_append]
  -- the draw
  have u2 : ∀ (b : Fin 32) (n : Fin 32768), rd (after (opsU (F := Ideal)) (after opsA U)) (.of main_v7 : TRef sig A3) (ix3 b 0 n) = unif (word (counter b.val n.val)) :=
    draw_all U
  have a2 : rd (after (opsU (F := Ideal)) (after opsA U)) (.of main_arg0 : TRef sig A2) = a :=
    ((rd_keep _ (opsU_arg0 _)).trans (rd_keep _ (opsA_keep U main_arg0 (by decide)))).trans ea
  generalize after (opsU (F := Ideal)) (after opsA U) = U2 at u2 a2 ⊢
  -- the picked positions
  have g3 : ∀ (b : Fin 32) (n : Fin 32768), rd (after (opsB (F := Ideal)) U2) (.of main_v15 : TRef sig A3) (ix3 b 0 n) = G b.val n.val := fun b n => by
    rw [read_v15]; exact gumbels_value _ u2 b n
  have i3 : ∀ (b : Fin 32) (k : Fin 16), rd (after (opsB (F := Ideal)) U2) (.of main_v19 : TRef sig ⟨S32x16, .i32⟩) (ix2 b k)
      = BitVec.ofNat 32 (rank (noisy a b) (k.castLE (by decide))).val := fun b k => by
    rw [read_v19, a2]; exact picked_value a _ (gumbels_value _ u2) b k
  have a3 := (rd_keep (.of main_arg0 : TRef sig A2) (opsB_keep U2 main_arg0 (by decide))).trans a2
  generalize after (opsB (F := Ideal)) U2 = U3 at g3 i3 a3 ⊢
  -- the marks
  have m4 : ∀ (b : Fin 32) (k : Fin 16) (n : Fin 32768), rd (after (opsH (F := Ideal)) U3) (.of main_v20 : TRef sig R3) (ix3 b k n)
      = if n = rank (noisy a b) (k.castLE (by decide)) then (1 : EReal) else 0 := fun b k n => by
    rw [read_v20]; exact marks_value _ (fun b k => rank (noisy a b) (k.castLE (by decide))) i3 b k n
  have g4 := rd_keep (.of main_v15 : TRef sig A3) (opsH_keep U3 main_v15 (by decide))
  have a4 := (rd_keep (.of main_arg0 : TRef sig A2) (opsH_keep U3 main_arg0 (by decide))).trans a3
  rw [← g4] at g3
  clear g4
  generalize after (opsH (F := Ideal)) U3 = U4 at m4 g3 a4 ⊢
  -- the exponentials and the temperature
  have m5 := rd_keep (.of main_v20 : TRef sig R3) (opsC_keep U4 main_v20 (by decide))
  have g5 := rd_keep (.of main_v15 : TRef sig A3) (opsC_keep U4 main_v15 (by decide))
  have t5 : ∀ i, rd (after (opsC (F := Ideal)) U4) (.of main_v21 : TRef sig ⟨S_, .f32⟩) i = (1 : EReal) := fun i => by
    rw [read_v21]
    refine Eq.trans ?_ max_temperature
    exact congrArg (fun x => max x (Ideal.ofBits .f32 0x3A83126F#32)) Ideal.ofBits_one_f32
  have w5 : ∀ (b : Fin 32) (k : Fin 16) (n : Fin 32768), rd (after (opsC (F := Ideal)) U4) (.of main_v26 : TRef sig R3) (ix3 b k n) = Ideal.exp (a (ix2 0 n)) := fun b k n => by
    rw [read_v26, a4]; exact spread_weights (by decide) (by decide) (by decide) (Host.exp a : FVec Ideal S1x32768 .f32) _ _ _ _ b k n
  rw [← m5] at m4
  rw [← g5] at g3
  clear m5 g5
  generalize after (opsC (F := Ideal)) U4 = U5 at m4 g3 t5 w5 ⊢
  -- the running counts
  have hot_real : ∀ i, IsReal (rd U5 (.of main_v20 : TRef sig R3) i) := fun i => by
    obtain ⟨b', k', n', rfl⟩ : ∃ (b' : Fin 32) (k' : Fin 16) (n' : Fin 32768), i = ix3 b' k' n' := ⟨i 0, i 1, i 2, ValueIdx.eq_ix3 i⟩
    rw [m4]
    split
    · exact isReal_one
    · exact isReal_zero
  have c6 : ∀ i, IsReal (rd (after (opsK (F := Ideal)) U5) (.of main_v27 : TRef sig R3) i) := fun i => by
    rw [read_v27]; exact counts_real _ _ _ _ hot_real i
  have o6 : ∀ (b : Fin 32) (k : Fin 16), rd (after (opsK (F := Ideal)) U5) (.of main_v27 : TRef sig R3) (ix3 b k (rank (noisy a b) (k.castLE (by decide)))) = (1 : EReal) := fun b k => by
    rw [read_v27]
    refine counts_one _ _ _ _ b k _ ((m4 _ _ _).trans (if_pos rfl)) fun j hj => (m4 _ _ _).trans (if_neg fun e => ?_)
    exact absurd (congrArg Fin.val (rank_injective _ e)) (Nat.ne_of_gt hj)
  have m6 := rd_keep (.of main_v20 : TRef sig R3) (opsK_keep U5 main_v20 (by decide))
  have g6 := rd_keep (.of main_v15 : TRef sig A3) (opsK_keep U5 main_v15 (by decide))
  have t6 := rd_keep (.of main_v21 : TRef sig ⟨S_, .f32⟩) (opsK_keep U5 main_v21 (by decide))
  have w6 := rd_keep (.of main_v26 : TRef sig R3) (opsK_keep U5 main_v26 (by decide))
  rw [← m6] at m4
  rw [← g6] at g3
  rw [← t6] at t5
  rw [← w6] at w5
  clear m6 g6 t6 w6 hot_real
  generalize after (opsK (F := Ideal)) U5 = U6 at m4 g3 t5 w5 c6 o6 ⊢
  -- the softened rows
  have m7 := rd_keep (.of main_v20 : TRef sig R3) (opsD_keep U6 main_v20 (by decide))
  have z7 := read_v41 U6
  have y7 := read_v44 U6
  rw [← z7] at y7
  generalize after (opsD (F := Ideal)) U6 = U7 at m7 z7 y7 ⊢
  rw [read_v55, y7, m7]
  refine (flatten _ shapeCasts_S32x16x32768_S512x32768 p b k n hp).trans ?_
  refine result_value a (rd U6 (.of main_v20 : TRef sig R3)) _ _ _ _ t5 (fun b k => rank (noisy a b) (k.castLE (by decide))) m4 w5 g3 ha (fun b k e => ?_) c6 o6 _ z7 b k n
  have hlt := bot_lt_rank (noisy a b) (hs b) (by decide) (k.castLE (by decide)) k.isLt
  refine absurd hlt (not_lt_of_ge (le_of_eq ?_))
  exact (congrArg (fun x : EReal => x + G b.val (rank (noisy a b) (k.castLE (by decide))).val) e).trans (EReal.bot_add _)

end Cert.ReferenceIdeal.Hand
-- ==== Proof.Meet.lean ====
/- The two results, the kernel's and the reference's, are the same array wherever the precondition holds. -/
module

public import proofs.«01_k».proof.Defs
public import proofs.«01_k».proof.Proof.HostKValue
public import proofs.«01_k».proof.Proof.RefValue
public import proofs.«01_k».proof.Proof.Gen.KernelIdeal.Value

@[expose] public section

noncomputable section

namespace Cert.Meet

open Idealize.ShloMosaic hiding ix1 ix2 ix3
open Idealize.ShloMosaic.ValueIdx Idealize.ShloMosaic.TcCoe Idealize.ShloMosaic.StableHlo Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The kernel's noisy logits. -/
theorem noisyRow_value (c : Dev Cert.KernelIdeal.nD) (b : Fin 32) :
    Cert.KernelIdeal.Hand.noisyRow m c b = PreRead.noisy (m ((c.tc : Thread Cert.KernelIdeal.nD Cert.KernelIdeal.τ).loc Cert.KernelIdeal.main_arg0)) b := by
  funext n
  unfold Cert.KernelIdeal.Hand.noisyRow PreRead.noisy
  rw [Cert.KernelIdeal.Hand.noise_value, Cert.KernelIdeal.Hand.logits_value]

theorem results_meet (c : Dev Cert.KernelIdeal.nD) (hpre : Cert.Pre_KernelIdeal (hPre_top_distinct := Cert.Pre_top_distinct.Gen.facts) m)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after (Cert.ReferenceIdeal.Hand.opsAll (F := Ideal)) (launchContents m' c) (Proc.devRef .tc Cert.ReferenceIdeal.main_v55)
      = Cert.KernelIdeal.Value.G2 m c := by
  obtain ⟨hs, ht⟩ := PreRead.read _ _ (hpre c)
  have key : ∀ (p : Fin 512) (n : Fin 32768),
      Mixing.rd (after (Cert.ReferenceIdeal.Hand.opsAll (F := Ideal)) (launchContents m' c)) (.of Cert.ReferenceIdeal.main_v55 : TRef Cert.ReferenceIdeal.sig ⟨Cert.ReferenceIdeal.S512x32768, .f32⟩) (ix2 p n)
        = Cert.KernelIdeal.Value.G2 m c (ix2 p n) := by
    intro p n
    have hk := Cert.KernelIdeal.Hand.result m c (fun b => by rw [noisyRow_value]; exact hs b) p n
    rw [noisyRow_value] at hk
    exact (Cert.ReferenceIdeal.Hand.value (launchContents m' c) _ h0 hs ht p n ⟨p.val / 16, by omega⟩ ⟨p.val % 16, by omega⟩ (Nat.div_add_mod' _ _).symm).trans hk.symm
  funext i
  have e : i = ix2 (i 0) (i 1) := ValueIdx.eq_ix2 i
  rw [e]
  exact key (i 0) (i 1)

end Cert.Meet
-- ==== Proof.lean ====
/- The claims about the three programs: each terminates without fault, leaves its arguments unchanged and every semaphore
   counter at zero; the ideal kernel is the kernel over the extended reals; and where the precondition holds the ideal
   kernel's result is the ideal reference's, entry by entry. -/
module

public import proofs.«01_k».proof.Defs
public import proofs.«01_k».proof.Proof.Gen.KernelIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_top_distinct
public import proofs.«01_k».proof.Proof.RefRun
public import proofs.«01_k».proof.Proof.Meet
public import Idealize.ShloMosaic.Adequacy
public import Idealize.ShloMosaic.Init

@[expose] public section

noncomputable section

namespace Cert.Proof

open Idealize.ShloMosaic Idealize.SL.Sem Cert.Kernel

theorem algebraic :
    Cert.algebraic_KernelIdeal_ReferenceIdeal (hKernelIdeal := Cert.KernelIdeal.Gen.facts) (hReferenceIdeal := Cert.ReferenceIdeal.Gen.facts)
      (hPre_top_distinct := Cert.Pre_top_distinct.Gen.facts) := fun m g m' g' hpre hargs =>
  ⟨fun c => Cert.KernelIdeal.Value.G2 m c, Cert.KernelIdeal.Value.run m g,
    (θ_run Cert.ReferenceIdeal.defs _ _).mono (fun _ h c =>
      ⟨(h c Cert.ReferenceIdeal.main_v55).trans (Cert.Meet.results_meet m m' c hpre (hargs c).1),
        (h c Cert.ReferenceIdeal.main_arg0).trans (Cert.ReferenceIdeal.Hand.arg0_kept _),
        (h c Cert.ReferenceIdeal.main_arg1).trans (Cert.ReferenceIdeal.Hand.arg1_kept _)⟩)
      (Cert.ReferenceIdeal.Hand.run_main m' g')⟩

theorem claim : Cert.Claim := ⟨Cert.Kernel.Gen.facts, Cert.KernelIdeal.Gen.facts, Cert.ReferenceIdeal.Gen.facts, Cert.Pre_top_distinct.Gen.facts,
  fun m ρ _ => Cert.Kernel.Gen.frame m ρ, fun m ρ _ => Cert.Kernel.Gen.frame m ρ,
  fun m ρ _ => Cert.KernelIdeal.Gen.frame m ρ, fun m ρ _ => Cert.ReferenceIdeal.Hand.frame m ρ,
  fun m ρ _ => Cert.ReferenceIdeal.Hand.frame m ρ, trivial, algebraic⟩

end Cert.Proof

end
